-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_finite_sample [hPre_finite_sample : Cert.Pre_finite_sample.Facts] (m : (ℓ : Loc Cert.SampleIdeal.nD Cert.SampleIdeal.τ Cert.SampleIdeal.sig) → Buf (Elt Ideal) ℓ) : Prop :=
  ∀ c : Dev Cert.SampleIdeal.nD,
    (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7))) = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_finite_sample [hPre_finite_sample : Cert.Pre_finite_sample.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7))) = (fun _ => 1#1)

def Pre_SampleIn (m : (ℓ : Loc Cert.SampleIn.nD Cert.SampleIn.τ Cert.SampleIn.sig) → Buf (Elt Bits) ℓ) : Prop :=
  True

def Pre_SampleInIdeal (m : (ℓ : Loc Cert.SampleInIdeal.nD Cert.SampleInIdeal.τ Cert.SampleInIdeal.sig) → Buf (Elt Ideal) ℓ) : Prop :=
  True

def Pre_SampleInRefIdeal (m : (ℓ : Loc Cert.SampleInRefIdeal.nD Cert.SampleInRefIdeal.τ Cert.SampleInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleIdeal_pre_finite_sample [hSampleIdeal : Cert.SampleIdeal.Facts] [hPre_finite_sample : Cert.Pre_finite_sample.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_finite_sample m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7))
      ∧ r.2.sem = fun _ => 0)

def quiescent_SampleRefIdeal_pre_finite_sample [hSampleRefIdeal : Cert.SampleRefIdeal.Facts] [hPre_finite_sample : Cert.Pre_finite_sample.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_finite_sample m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7))
      ∧ r.2.sem = fun _ => 0)

def quiescent_SampleIn [hSampleIn : Cert.SampleIn.Facts] : Prop :=
  ∀ (m : (ℓ : Loc Cert.SampleIn.nD Cert.SampleIn.τ Cert.SampleIn.sig) → Buf (Elt Bits) ℓ) (g : Dev Cert.SampleIn.nD → PrngReg), Pre_SampleIn m →
    θ_run (Cert.SampleIn.defs (F := Bits)) (onTc (τ := Cert.SampleIn.τ) (Cert.SampleIn.main (F := Bits))) ⟨m, fun _ => 0, g⟩ (fun r => (∀ c : Dev Cert.SampleIn.nD,
      r.2.mem ((c.tc : Thread Cert.SampleIn.nD Cert.SampleIn.τ).loc Cert.SampleIn.main_arg0) = m ((c.tc : Thread Cert.SampleIn.nD Cert.SampleIn.τ).loc Cert.SampleIn.main_arg0)
      ∧ r.2.mem ((c.tc : Thread Cert.SampleIn.nD Cert.SampleIn.τ).loc Cert.SampleIn.main_arg1) = m ((c.tc : Thread Cert.SampleIn.nD Cert.SampleIn.τ).loc Cert.SampleIn.main_arg1))
      ∧ r.2.sem = fun _ => 0)

def quiescent_SampleInIdeal [hSampleInIdeal : Cert.SampleInIdeal.Facts] : Prop :=
  ∀ (m : (ℓ : Loc Cert.SampleInIdeal.nD Cert.SampleInIdeal.τ Cert.SampleInIdeal.sig) → Buf (Elt Ideal) ℓ) (g : Dev Cert.SampleInIdeal.nD → PrngReg), Pre_SampleInIdeal m →
    θ_run (Cert.SampleInIdeal.defs (F := Ideal)) (onTc (τ := Cert.SampleInIdeal.τ) (Cert.SampleInIdeal.main (F := Ideal))) ⟨m, fun _ => 0, g⟩ (fun r => (∀ c : Dev Cert.SampleInIdeal.nD,
      r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
      ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1))
      ∧ r.2.sem = fun _ => 0)

def quiescent_SampleInRefIdeal [hSampleInRefIdeal : Cert.SampleInRefIdeal.Facts] : Prop :=
  ∀ (m : (ℓ : Loc Cert.SampleInRefIdeal.nD Cert.SampleInRefIdeal.τ Cert.SampleInRefIdeal.sig) → Buf (Elt Ideal) ℓ) (g : Dev Cert.SampleInRefIdeal.nD → PrngReg), Pre_SampleInRefIdeal m →
    θ_run (Cert.SampleInRefIdeal.defs (F := Ideal)) (onTc (τ := Cert.SampleInRefIdeal.τ) (Cert.SampleInRefIdeal.main (F := Ideal))) ⟨m, fun _ => 0, g⟩ (fun r => (∀ c : Dev Cert.SampleInRefIdeal.nD,
      r.2.mem ((c.tc : Thread Cert.SampleInRefIdeal.nD Cert.SampleInRefIdeal.τ).loc Cert.SampleInRefIdeal.main_arg0) = m ((c.tc : Thread Cert.SampleInRefIdeal.nD Cert.SampleInRefIdeal.τ).loc Cert.SampleInRefIdeal.main_arg0)
      ∧ r.2.mem ((c.tc : Thread Cert.SampleInRefIdeal.nD Cert.SampleInRefIdeal.τ).loc Cert.SampleInRefIdeal.main_arg1) = m ((c.tc : Thread Cert.SampleInRefIdeal.nD Cert.SampleInRefIdeal.τ).loc Cert.SampleInRefIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v23)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v23) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v49)) (v1 : (c : Dev Cert.PrepIdeal.nD) → Buf (Elt Ideal) ((c.tc : Thread Cert.PrepIdeal.nD Cert.PrepIdeal.τ).loc Cert.PrepIdeal.main_v50)) (v2 : (c : Dev Cert.PrepIdeal.nD) → Buf (Elt Ideal) ((c.tc : Thread Cert.PrepIdeal.nD Cert.PrepIdeal.τ).loc Cert.PrepIdeal.main_v51)) (v3 : (c : Dev Cert.PrepIdeal.nD) → Buf (Elt Ideal) ((c.tc : Thread Cert.PrepIdeal.nD Cert.PrepIdeal.τ).loc Cert.PrepIdeal.main_v52)) (v4 : (c : Dev Cert.PrepIdeal.nD) → Buf (Elt Ideal) ((c.tc : Thread Cert.PrepIdeal.nD Cert.PrepIdeal.τ).loc Cert.PrepIdeal.main_v53)) (v5 : (c : Dev Cert.PrepIdeal.nD) → Buf (Elt Ideal) ((c.tc : Thread Cert.PrepIdeal.nD Cert.PrepIdeal.τ).loc Cert.PrepIdeal.main_v54)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v49) = v0 c
          ∧ r.2.mem ((c.tc : Thread Cert.PrepIdeal.nD Cert.PrepIdeal.τ).loc Cert.PrepIdeal.main_v50) = v1 c
          ∧ r.2.mem ((c.tc : Thread Cert.PrepIdeal.nD Cert.PrepIdeal.τ).loc Cert.PrepIdeal.main_v51) = v2 c
          ∧ r.2.mem ((c.tc : Thread Cert.PrepIdeal.nD Cert.PrepIdeal.τ).loc Cert.PrepIdeal.main_v52) = v3 c
          ∧ r.2.mem ((c.tc : Thread Cert.PrepIdeal.nD Cert.PrepIdeal.τ).loc Cert.PrepIdeal.main_v53) = v4 c
          ∧ r.2.mem ((c.tc : Thread Cert.PrepIdeal.nD Cert.PrepIdeal.τ).loc Cert.PrepIdeal.main_v54) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v101) = v0 c
          ∧ r.2.mem ((c.tc : Thread Cert.PrepRefIdeal.nD Cert.PrepRefIdeal.τ).loc Cert.PrepRefIdeal.main_v102) = v1 c
          ∧ r.2.mem ((c.tc : Thread Cert.PrepRefIdeal.nD Cert.PrepRefIdeal.τ).loc Cert.PrepRefIdeal.main_v103) = v2 c
          ∧ r.2.mem ((c.tc : Thread Cert.PrepRefIdeal.nD Cert.PrepRefIdeal.τ).loc Cert.PrepRefIdeal.main_v104) = v3 c
          ∧ r.2.mem ((c.tc : Thread Cert.PrepRefIdeal.nD Cert.PrepRefIdeal.τ).loc Cert.PrepRefIdeal.main_v105) = v4 c
          ∧ r.2.mem ((c.tc : Thread Cert.PrepRefIdeal.nD Cert.PrepRefIdeal.τ).loc Cert.PrepRefIdeal.main_v106) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v8)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v37) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v4_0)) (v1 : (c : Dev Cert.CombineIdeal.nD) → Buf (Elt Ideal) ((c.tc : Thread Cert.CombineIdeal.nD Cert.CombineIdeal.τ).loc Cert.CombineIdeal.main_v4_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v4_0) = v0 c
          ∧ r.2.mem ((c.tc : Thread Cert.CombineIdeal.nD Cert.CombineIdeal.τ).loc Cert.CombineIdeal.main_v4_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v38) = v0 c
          ∧ r.2.mem ((c.tc : Thread Cert.CombineRefIdeal.nD Cert.CombineRefIdeal.τ).loc Cert.CombineRefIdeal.main_v39) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Sample_SampleIdeal : Prop :=
  True

def algebraic_SampleIdeal_SampleRefIdeal_pre_finite_sample [hSampleIdeal : Cert.SampleIdeal.Facts] [hSampleRefIdeal : Cert.SampleRefIdeal.Facts] [hPre_finite_sample : Cert.Pre_finite_sample.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_finite_sample m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)) →
    ∃ (v0 : (c : Dev Cert.SampleIdeal.nD) → Buf (Elt Ideal) ((c.tc : Thread Cert.SampleIdeal.nD Cert.SampleIdeal.τ).loc Cert.SampleIdeal.main_v48)) (v1 : (c : Dev Cert.SampleIdeal.nD) → Buf (Elt Ideal) ((c.tc : Thread Cert.SampleIdeal.nD Cert.SampleIdeal.τ).loc Cert.SampleIdeal.main_v49)) (v2 : (c : Dev Cert.SampleIdeal.nD) → Buf (Elt Ideal) ((c.tc : Thread Cert.SampleIdeal.nD Cert.SampleIdeal.τ).loc Cert.SampleIdeal.main_v50)) (v3 : (c : Dev Cert.SampleIdeal.nD) → Buf (Elt Ideal) ((c.tc : Thread Cert.SampleIdeal.nD Cert.SampleIdeal.τ).loc Cert.SampleIdeal.main_v51)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v48) = v0 c
          ∧ r.2.mem ((c.tc : Thread Cert.SampleIdeal.nD Cert.SampleIdeal.τ).loc Cert.SampleIdeal.main_v49) = v1 c
          ∧ r.2.mem ((c.tc : Thread Cert.SampleIdeal.nD Cert.SampleIdeal.τ).loc Cert.SampleIdeal.main_v50) = v2 c
          ∧ r.2.mem ((c.tc : Thread Cert.SampleIdeal.nD Cert.SampleIdeal.τ).loc Cert.SampleIdeal.main_v51) = v3 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v97) = v0 c
          ∧ r.2.mem ((c.tc : Thread Cert.SampleRefIdeal.nD Cert.SampleRefIdeal.τ).loc Cert.SampleRefIdeal.main_v98) = v1 c
          ∧ r.2.mem ((c.tc : Thread Cert.SampleRefIdeal.nD Cert.SampleRefIdeal.τ).loc Cert.SampleRefIdeal.main_v99) = v2 c
          ∧ r.2.mem ((c.tc : Thread Cert.SampleRefIdeal.nD Cert.SampleRefIdeal.τ).loc Cert.SampleRefIdeal.main_v100) = v3 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7))

def preserves_SampleIn_SampleInIdeal : Prop :=
  True

def algebraic_SampleInIdeal_SampleInRefIdeal [hSampleInIdeal : Cert.SampleInIdeal.Facts] [hSampleInRefIdeal : Cert.SampleInRefIdeal.Facts] : Prop :=
  ∀ (m : (ℓ : Loc Cert.SampleInIdeal.nD Cert.SampleInIdeal.τ Cert.SampleInIdeal.sig) → Buf (Elt Ideal) ℓ) (g : Dev Cert.SampleInIdeal.nD → PrngReg)
    (m' : (ℓ : Loc Cert.SampleInRefIdeal.nD Cert.SampleInRefIdeal.τ Cert.SampleInRefIdeal.sig) → Buf (Elt Ideal) ℓ) (g' : Dev Cert.SampleInRefIdeal.nD → PrngReg), Pre_SampleInIdeal m →
    (∀ c : Dev Cert.SampleInIdeal.nD,
      m' ((c.tc : Thread Cert.SampleInRefIdeal.nD Cert.SampleInRefIdeal.τ).loc Cert.SampleInRefIdeal.main_arg0) = m ((c.tc : Thread Cert.SampleInIdeal.nD Cert.SampleInIdeal.τ).loc Cert.SampleInIdeal.main_arg0)
      ∧ m' ((c.tc : Thread Cert.SampleInRefIdeal.nD Cert.SampleInRefIdeal.τ).loc Cert.SampleInRefIdeal.main_arg1) = m ((c.tc : Thread Cert.SampleInIdeal.nD Cert.SampleInIdeal.τ).loc Cert.SampleInIdeal.main_arg1)) →
    ∃ (v0 : (c : Dev Cert.SampleInIdeal.nD) → Buf (Elt Ideal) ((c.tc : Thread Cert.SampleInIdeal.nD Cert.SampleInIdeal.τ).loc Cert.SampleInIdeal.main_v23)),
      θ_run (Cert.SampleInIdeal.defs (F := Ideal)) (onTc (τ := Cert.SampleInIdeal.τ) (Cert.SampleInIdeal.main (F := Ideal))) ⟨m, fun _ => 0, g⟩ (fun r => ∀ c : Dev Cert.SampleInIdeal.nD,
          r.2.mem ((c.tc : Thread Cert.SampleInIdeal.nD Cert.SampleInIdeal.τ).loc Cert.SampleInIdeal.main_v23) = v0 c
          ∧ r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
          ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1))
      ∧ θ_run (Cert.SampleInRefIdeal.defs (F := Ideal)) (onTc (τ := Cert.SampleInRefIdeal.τ) (Cert.SampleInRefIdeal.main (F := Ideal))) ⟨m', fun _ => 0, g'⟩ (fun r => ∀ c : Dev Cert.SampleInRefIdeal.nD,
          r.2.mem ((c.tc : Thread Cert.SampleInRefIdeal.nD Cert.SampleInRefIdeal.τ).loc Cert.SampleInRefIdeal.main_v1) = v0 c
          ∧ r.2.mem ((c.tc : Thread Cert.SampleInRefIdeal.nD Cert.SampleInRefIdeal.τ).loc Cert.SampleInRefIdeal.main_arg0) = m' ((c.tc : Thread Cert.SampleInRefIdeal.nD Cert.SampleInRefIdeal.τ).loc Cert.SampleInRefIdeal.main_arg0)
          ∧ r.2.mem ((c.tc : Thread Cert.SampleInRefIdeal.nD Cert.SampleInRefIdeal.τ).loc Cert.SampleInRefIdeal.main_arg1) = m' ((c.tc : Thread Cert.SampleInRefIdeal.nD Cert.SampleInRefIdeal.τ).loc Cert.SampleInRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hPrep : Cert.Prep.Facts) (hPrepIdeal : Cert.PrepIdeal.Facts) (hPrepRefIdeal : Cert.PrepRefIdeal.Facts) (hOutProj : Cert.OutProj.Facts) (hOutProjIdeal : Cert.OutProjIdeal.Facts) (hOutProjRefIdeal : Cert.OutProjRefIdeal.Facts) (hCombine : Cert.Combine.Facts) (hCombineIdeal : Cert.CombineIdeal.Facts) (hCombineRefIdeal : Cert.CombineRefIdeal.Facts) (hSample : Cert.Sample.Facts) (hSampleIdeal : Cert.SampleIdeal.Facts) (hSampleRefIdeal : Cert.SampleRefIdeal.Facts) (hSampleIn : Cert.SampleIn.Facts) (hSampleInIdeal : Cert.SampleInIdeal.Facts) (hSampleInRefIdeal : Cert.SampleInRefIdeal.Facts) (hPre_finite : Cert.Pre_finite.Facts) (hPre_finite_prep : Cert.Pre_finite_prep.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Combine (hCombine := hCombine)
    ∧ quiescent_CombineIdeal (hCombineIdeal := hCombineIdeal)
    ∧ quiescent_CombineRefIdeal (hCombineRefIdeal := hCombineRefIdeal)
    ∧ quiescent_Sample (hSample := hSample)
    ∧ quiescent_SampleIdeal (hSampleIdeal := hSampleIdeal)
    ∧ quiescent_SampleIdeal_pre_finite_sample (hSampleIdeal := hSampleIdeal) (hPre_finite_sample := hPre_finite_sample)
    ∧ quiescent_SampleRefIdeal (hSampleRefIdeal := hSampleRefIdeal)
    ∧ quiescent_SampleRefIdeal_pre_finite_sample (hSampleRefIdeal := hSampleRefIdeal) (hPre_finite_sample := hPre_finite_sample)
    ∧ quiescent_SampleIn (hSampleIn := hSampleIn)
    ∧ quiescent_SampleInIdeal (hSampleInIdeal := hSampleInIdeal)
    ∧ quiescent_SampleInRefIdeal (hSampleInRefIdeal := hSampleInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Prep_PrepIdeal
    ∧ algebraic_PrepIdeal_PrepRefIdeal_pre_finite_prep (hPrepIdeal := hPrepIdeal) (hPrepRefIdeal := hPrepRefIdeal) (hPre_finite_prep := hPre_finite_prep)
    ∧ preserves_OutProj_OutProjIdeal
    ∧ algebraic_OutProjIdeal_OutProjRefIdeal (hOutProjIdeal := hOutProjIdeal) (hOutProjRefIdeal := hOutProjRefIdeal)
    ∧ preserves_Combine_CombineIdeal
    ∧ algebraic_CombineIdeal_CombineRefIdeal (hCombineIdeal := hCombineIdeal) (hCombineRefIdeal := hCombineRefIdeal)
    ∧ preserves_Sample_SampleIdeal
    ∧ algebraic_SampleIdeal_SampleRefIdeal_pre_finite_sample (hSampleIdeal := hSampleIdeal) (hSampleRefIdeal := hSampleRefIdeal) (hPre_finite_sample := hPre_finite_sample)
    ∧ preserves_SampleIn_SampleInIdeal
    ∧ algebraic_SampleInIdeal_SampleInRefIdeal (hSampleInIdeal := hSampleInIdeal) (hSampleInRefIdeal := hSampleInRefIdeal)
-- ==== Pre_finite.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v13 : IVec S_ 1) (main_v16 : IVec S4x2048x64 1) : IVec S_ 1 :=
  let main_c_5 : IVec S_ 1 := constantI S_ 1 1#1
  let main_v17 : IVec S_ 1 := (fun x v => Host.reduce IntOp.andi x v reducesTo_S4x2048x64_S_d0_1_2 h_S_) main_v16 main_c_5
  let main_v18 : IVec S_ 1 := andi main_v13 main_v17
  main_v18

def fn {F : FTy → Type} [FloatOps F] (main_arg0 : FVec F S4x2048x16x128 .f32) (main_arg1 : FVec F S4x2048x16x64 .f32) (main_arg2 : FVec F S4x2048x16x128 .f32) (main_arg3 : FVec F S4x2048x64 .f32) (main_arg4 : FVec F S4x2048x16x128 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x64 .f32 := Host.absf main_arg3
  let main_cst_4 : FVec F S_ .f32 := constant S_ .f32 0x7F800000#32
  let main_v15 : FVec F S4x2048x64 .f32 := broadcastInDim S4x2048x64 ![] bcast_S_S4x2048x64 main_cst_4
  let main_v16 : IVec S4x2048x64 1 := cmpf .olt main_v14 main_v15
  fn_part1 (F := F) main_v13 main_v16
-- ==== Pre_finite_prep.lean ====
abbrev S4x2048x1024 : Shape := ⟨3, ![4, 2048, 1024]⟩
abbrev S4x2048x512 : Shape := ⟨3, ![4, 2048, 512]⟩
abbrev S4x2048x64 : Shape := ⟨3, ![4, 2048, 64]⟩
abbrev S1x1024 : Shape := ⟨2, ![1, 1024]⟩
abbrev S1x1024x16x192 : Shape := ⟨4, ![1, 1024, 16, 192]⟩
abbrev S1x512 : Shape := ⟨2, ![1, 512]⟩
abbrev S1x512x16x128 : Shape := ⟨4, ![1, 512, 16, 128]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x16x192 : S_.BroadcastsInDim S1x1024x16x192 (![] : Fin 0 → Fin S1x1024x16x192.rank)
  reducesTo_S1x1024x16x192_S_d0_1_2_3 : S1x1024x16x192.ReducesTo [0, 1, 2, 3] S_

variable [Facts]

def fn {F : FTy → Type} [FloatOps F] (main_arg0 : FVec F S4x2048x1024 .f32) (main_arg1 : FVec F S4x2048x512 .f32) (main_arg2 : FVec F S4x2048x64 .f32) (main_arg3 : FVec F S1x1024 .f32) (main_arg4 : FVec F S1x1024x16x192 .f32) (main_arg5 : FVec F S1x512 .f32) (main_arg6 : FVec F S1x512x16x128 .f32) (main_arg7 : FVec F S1x512x16x128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x16x192 .f32 := Host.absf main_arg4
  let main_cst_2 : FVec F S_ .f32 := constant S_ .f32 0x7F800000#32
  let main_v10 : FVec F S1x1024x16x192 .f32 := broadcastInDim S1x1024x16x192 ![] bcast_S_S1x1024x16x192 main_cst_2
  let main_v11 : IVec S1x1024x16x192 1 := cmpf .olt main_v9 main_v10
  let main_c_3 : IVec S_ 1 := constantI S_ 1 1#1
  let main_v12 : IVec S_ 1 := (fun x v => Host.reduce IntOp.andi x v reducesTo_S1x1024x16x192_S_d0_1_2_3 h_S_) main_v11 main_c_3
  let main_v13 : IVec S_ 1 := andi main_v8 main_v12
  main_v13
-- ==== Pre_finite_sample.lean ====
abbrev S128x1x1024 : Shape := ⟨3, ![128, 1, 1024]⟩
abbrev S128x1x512 : Shape := ⟨3, ![128, 1, 512]⟩
abbrev S128x1x64 : Shape := ⟨3, ![128, 1, 64]⟩
abbrev S1x1024 : Shape := ⟨2, ![1, 1024]⟩
abbrev S1x1024x16x192 : Shape := ⟨4, ![1, 1024, 16, 192]⟩
abbrev S1x512 : Shape := ⟨2, ![1, 512]⟩
abbrev S1x512x16x128 : Shape := ⟨4, ![1, 512, 16, 128]⟩
abbrev S_ : Shape := ⟨0, ![]⟩

class Facts : Prop where
  bcast_S_S128x1x1024 : S_.BroadcastsInDim S128x1x1024 (![] : Fin 0 → Fin S128x1x1024.rank)
  reducesTo_S128x1x1024_S_d0_1_2 : S128x1x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x16x192 : S_.BroadcastsInDim S1x1024x16x192 (![] : Fin 0 → Fin S1x1024x16x192.rank)
  reducesTo_S1x1024x16x192_S_d0_1_2_3 : S1x1024x16x192.ReducesTo [0, 1, 2, 3] S_

variable [Facts]

def fn {F : FTy → Type} [FloatOps F] (main_arg0 : FVec F S128x1x1024 .f32) (main_arg1 : FVec F S128x1x512 .f32) (main_arg2 : FVec F S128x1x64 .f32) (main_arg3 : FVec F S1x1024 .f32) (main_arg4 : FVec F S1x1024x16x192 .f32) (main_arg5 : FVec F S1x512 .f32) (main_arg6 : FVec F S1x512x16x128 .f32) (main_arg7 : FVec F S1x512x16x128 .f32) : IVec S_ 1 :=
  let main_v0 : FVec F S128x1x1024 .f32 := Host.absf main_arg0
  let main_cst : FVec F S_ .f32 := constant S_ .f32 0x7F800000#32
  let main_v1 : FVec F S128x1x1024 .f32 := broadcastInDim S128x1x1024 ![] bcast_S_S128x1x1024 main_cst
  let main_v2 : IVec S128x1x1024 1 := cmpf .olt main_v0 main_v1
  let main_c : IVec S_ 1 := constantI S_ 1 1#1
  let main_v3 : IVec S_ 1 := (fun x v => Host.reduce IntOp.andi x v reducesTo_S128x1x1024_S_d0_1_2 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x16x192 .f32 := Host.absf main_arg4
  let main_cst_2 : FVec F S_ .f32 := constant S_ .f32 0x7F800000#32
  let main_v10 : FVec F S1x1024x16x192 .f32 := broadcastInDim S1x1024x16x192 ![] bcast_S_S1x1024x16x192 main_cst_2
  let main_v11 : IVec S1x1024x16x192 1 := cmpf .olt main_v9 main_v10
  let main_c_3 : IVec S_ 1 := constantI S_ 1 1#1
  let main_v12 : IVec S_ 1 := (fun x v => Host.reduce IntOp.andi x v reducesTo_S1x1024x16x192_S_d0_1_2_3 h_S_) main_v11 main_c_3
  let main_v13 : IVec S_ 1 := andi main_v8 main_v12
  main_v13
-- ==== Kernel.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S_ : Shape := ⟨0, ![]⟩
abbrev S4x2048x1x64 : Shape := ⟨4, ![4, 2048, 1, 64]⟩
abbrev S4x2048x16x256 : Shape := ⟨4, ![4, 2048, 16, 256]⟩
abbrev S8192x4096 : Shape := ⟨2, ![8192, 4096]⟩
abbrev S8192x2048 : Shape := ⟨2, ![8192, 2048]⟩
abbrev S512x512 : Shape := ⟨2, ![512, 512]⟩
abbrev S2048x512 : Shape := ⟨2, ![2048, 512]⟩
abbrev S2048x256 : Shape := ⟨2, ![2048, 256]⟩
abbrev S512x256 : Shape := ⟨2, ![512, 256]⟩
abbrev S512x1 : Shape := ⟨2, ![512, 1]⟩
abbrev S512x128 : Shape := ⟨2, ![512, 128]⟩
abbrev S512 : Shape := ⟨1, ![512]⟩

abbrev nBuf : Space → Nat
  | .hbm => 18
  | .vmem => 8
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S_, .f32⟩
  | .hbm, ⟨6, _⟩ => ⟨S4x2048x16x64, .f32⟩
  | .hbm, ⟨7, _⟩ => ⟨S4x2048x1x64, .f32⟩
  | .hbm, ⟨8, _⟩ => ⟨S4x2048x16x64, .f32⟩
  | .hbm, ⟨9, _⟩ => ⟨S4x2048x16x256, .f32⟩
  | .hbm, ⟨10, _⟩ => ⟨S8192x4096, .f32⟩
  | .hbm, ⟨11, _⟩ => ⟨S8192x4096, .bf16⟩
  | .hbm, ⟨12, _⟩ => ⟨S4x2048x16x256, .f32⟩
  | .hbm, ⟨13, _⟩ => ⟨S8192x4096, .f32⟩
  | .hbm, ⟨14, _⟩ => ⟨S8192x4096, .bf16⟩
  | .hbm, ⟨15, _⟩ => ⟨S8192x2048, .f32⟩
  | .hbm, ⟨16, _⟩ => ⟨S8192x2048, .bf16⟩
  | .hbm, ⟨17, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  ⟨c0_i32, v14, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_28 : BitVec 32 := 512#32
  let v89 : BitVec 32 := Scalar.muli arg7 c512_i32_28
  v89
def k0_off1 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_28 : BitVec 32 := 512#32
  let v89 : BitVec 32 := Scalar.muli arg7 c512_i32_28
  let v90 : BitVec 32 := v89
  let v91 : Index := Scalar.indexCast v90
  let c0_29 : Index := 0#32
  ![v91.toNat, 0]
def k0_off2 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_28 : BitVec 32 := 512#32
  let v89 : BitVec 32 := Scalar.muli arg7 c512_i32_28
  let v90 : BitVec 32 := v89
  let v94 : Index := Scalar.indexCast v90
  let c0_30 : Index := 0#32
  ![v94.toNat, 0]
def k0_off3 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_28 : BitVec 32 := 512#32
  let v89 : BitVec 32 := Scalar.muli arg7 c512_i32_28
  let v90 : BitVec 32 := v89
  let v117 : Index := Scalar.indexCast v90
  let c256_36 : Index := 256#32
  ![v117.toNat, 256]
def k0_off4 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_28 : BitVec 32 := 512#32
  let v89 : BitVec 32 := Scalar.muli arg7 c512_i32_28
  let v90 : BitVec 32 := v89
  let v120 : Index := Scalar.indexCast v90
  let c128_37 : Index := 128#32
  ![v120.toNat, 128]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_8 : BitVec 32 := 1#32
  ⟨v14, v11, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_28 : BitVec 32 := 512#32
  let v89 : BitVec 32 := Scalar.muli arg7 c512_i32_28
  v89
def k0_off5 (i : grid0.Coords) (k0_t2 : Fin (k0_t2_loop i).trips) : Fin 2 → Nat :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_28 : BitVec 32 := 512#32
  let v89 : BitVec 32 := Scalar.muli arg7 c512_i32_28
  let v90 : BitVec 32 := v89
  let v91 : Index := Scalar.indexCast v90
  let c0_29 : Index := 0#32
  ![v91.toNat, 0]
def k0_off6 (i : grid0.Coords) (k0_t2 : Fin (k0_t2_loop i).trips) : Fin 2 → Nat :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_28 : BitVec 32 := 512#32
  let v89 : BitVec 32 := Scalar.muli arg7 c512_i32_28
  let v90 : BitVec 32 := v89
  let v94 : Index := Scalar.indexCast v90
  let c0_30 : Index := 0#32
  ![v94.toNat, 0]
def k0_off7 (i : grid0.Coords) (k0_t2 : Fin (k0_t2_loop i).trips) : Fin 2 → Nat :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_28 : BitVec 32 := 512#32
  let v89 : BitVec 32 := Scalar.muli arg7 c512_i32_28
  let v90 : BitVec 32 := v89
  let v117 : Index := Scalar.indexCast v90
  let c256_36 : Index := 256#32
  ![v117.toNat, 256]
def k0_off8 (i : grid0.Coords) (k0_t2 : Fin (k0_t2_loop i).trips) : Fin 2 → Nat :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_8 : BitVec 32 := 1#32
  let arg7 : BitVec 32 := Scf.iv v14 c1_i32_8 k0_t2
  let c512_i32_28 : BitVec 32 := 512#32
  let v89 : BitVec 32 := Scalar.muli arg7 c512_i32_28
  let v90 : BitVec 32 := v89
  let v120 : Index := Scalar.indexCast v90
  let c128_37 : Index := 128#32
  ![v120.toNat, 128]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off9 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_9 : Index := 0#32
  ![v19.toNat, 0]
def k0_off10 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v22 : Index := Scalar.indexCast v18
  let c0_10 : Index := 0#32
  ![v22.toNat, 0]
def k0_off11 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v50 : Index := Scalar.indexCast v18
  let c256_17 : Index := 256#32
  ![v50.toNat, 256]
def k0_off12 (i : grid0.Coords) : Fin 2 → Nat :=
  let arg2 : BitVec 32 := BitVec.ofNat 32 (i 2).val
  let c512_i32 : BitVec 32 := 512#32
  let v17 : BitVec 32 := Scalar.muli arg2 c512_i32
  let v18 : BitVec 32 := v17
  let v53 : Index := Scalar.indexCast v18
  let c128 : Index := 128#32
  ![v53.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale_log2e" => some (((Real.sqrt 192)⁻¹ * (Real.log 2)⁻¹ : ℝ) : EReal)
  | _ => none
-- ==== ReferenceIdeal.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S2048 : Shape := ⟨1, ![2048]⟩
abbrev S4x16x2048x2048 : Shape := ⟨4, ![4, 16, 2048, 2048]⟩
abbrev S4x2048x2048x16 : Shape := ⟨4, ![4, 2048, 2048, 16]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S2048, .i32⟩
  | .hbm, ⟨6, _⟩ => ⟨S4x16x2048x2048, .f32⟩
  | .hbm, ⟨7, _⟩ => ⟨S4x2048x2048x16, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x16x2048x2048, .i1⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16x2048, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x128x2048, .f32⟩
  | .hbm, ⟨39, _⟩ => ⟨S4x2048x16x128, .f32⟩
  | .hbm, ⟨40, _⟩ => ⟨S8192x2048, .f32⟩
  | .hbm, ⟨41, _⟩ => ⟨S8192x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== InProj.lean ====
abbrev S4x2048x4096 : Shape := ⟨3, ![4, 2048, 4096]⟩
abbrev S1x4096x6752 : Shape := ⟨3, ![1, 4096, 6752]⟩
abbrev S8192x4096 : Shape := ⟨2, ![8192, 4096]⟩
abbrev S4096x6752 : Shape := ⟨2, ![4096, 6752]⟩
abbrev S6752x4096 : Shape := ⟨2, ![6752, 4096]⟩
abbrev S64x4096 : Shape := ⟨2, ![64, 4096]⟩
abbrev S3072x4096 : Shape := ⟨2, ![3072, 4096]⟩
abbrev S1024x4096 : Shape := ⟨2, ![1024, 4096]⟩
abbrev S2048x4096 : Shape := ⟨2, ![2048, 4096]⟩
abbrev S512x4096 : Shape := ⟨2, ![512, 4096]⟩
abbrev S32x4096 : Shape := ⟨2, ![32, 4096]⟩
abbrev S_ : Shape := ⟨0, ![]⟩
abbrev S96x4096 : Shape := ⟨2, ![96, 4096]⟩
abbrev S6912x4096 : Shape := ⟨2, ![6912, 4096]⟩
abbrev S8192x6912 : Shape := ⟨2, ![8192, 6912]⟩
abbrev S768x4096 : Shape := ⟨2, ![768, 4096]⟩
abbrev S512x768 : Shape := ⟨2, ![512, 768]⟩
abbrev S8192x2048 : Shape := ⟨2, ![8192, 2048]⟩
abbrev S8192x3072 : Shape := ⟨2, ![8192, 3072]⟩
abbrev S8192x32 : Shape := ⟨2, ![8192, 32]⟩
abbrev S8192x1024 : Shape := ⟨2, ![8192, 1024]⟩
abbrev S8192x512 : Shape := ⟨2, ![8192, 512]⟩
abbrev S8192x64 : Shape := ⟨2, ![8192, 64]⟩
abbrev S8192x6752 : Shape := ⟨2, ![8192, 6752]⟩
abbrev S4x2048x6752 : Shape := ⟨3, ![4, 2048, 6752]⟩

abbrev nBuf : Space → Nat
  | .hbm => 27
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x4096x6752, .f32⟩
  | .hbm, ⟨2, _⟩ => ⟨S8192x4096, .f32⟩
  | .hbm, ⟨3, _⟩ => ⟨S4096x6752, .f32⟩
  | .hbm, ⟨4, _⟩ => ⟨S6752x4096, .f32⟩
  | .hbm, ⟨5, _⟩ => ⟨S64x4096, .f32⟩
  | .hbm, ⟨6, _⟩ => ⟨S3072x4096, .f32⟩
  | .hbm, ⟨7, _⟩ => ⟨S1024x4096, .f32⟩
  | .hbm, ⟨8, _⟩ => ⟨S2048x4096, .f32⟩
  | .hbm, ⟨9, _⟩ => ⟨S512x4096, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S32x4096, .f32⟩
  | .hbm, ⟨14, _⟩ => ⟨S_, .f32⟩
  | .hbm, ⟨15, _⟩ => ⟨S96x4096, .f32⟩
  | .hbm, ⟨16, _⟩ => ⟨S6912x4096, .f32⟩
  | .hbm, ⟨17, _⟩ => ⟨S6912x4096, .bf16⟩
  | .hbm, ⟨18, _⟩ => ⟨S8192x6912, .f32⟩
  | .hbm, ⟨19, _⟩ => ⟨S8192x2048, .f32⟩
  | .hbm, ⟨20, _⟩ => ⟨S8192x3072, .f32⟩
  | .hbm, ⟨21, _⟩ => ⟨S8192x32, .f32⟩
  | .hbm, ⟨22, _⟩ => ⟨S8192x1024, .f32⟩
  | .hbm, ⟨23, _⟩ => ⟨S8192x512, .f32⟩
  | .hbm, ⟨24, _⟩ => ⟨S8192x64, .f32⟩
  | .hbm, ⟨25, _⟩ => ⟨S8192x6752, .f32⟩
  | .hbm, ⟨26, _⟩ => ⟨S4x2048x6752, .f32⟩
  | .local _ .vmem, ⟨0, _⟩ => ⟨S512x4096, .f32⟩
  | .local _ .vmem, ⟨1, _⟩ => ⟨S512x4096, .f32⟩
  | .local _ .vmem, ⟨2, _⟩ => ⟨S768x4096, .bf16⟩
  | .local _ .vmem, ⟨3, _⟩ => ⟨S768x4096, .bf16⟩
  | .local _ .vmem, ⟨4, _⟩ => ⟨S512x768, .f32⟩
  | .local _ .vmem, ⟨5, _⟩ => ⟨S512x768, .f32⟩
  | .local _ .vmem, ⟨6, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4x2048x4096 : Shape := ⟨3, ![4, 2048, 4096]⟩
abbrev S1x4096x6752 : Shape := ⟨3, ![1, 4096, 6752]⟩
abbrev S4096x6752 : Shape := ⟨2, ![4096, 6752]⟩
abbrev S4x2048x6752 : Shape := ⟨3, ![4, 2048, 6752]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x6752, .f32⟩
  | .hbm, ⟨2, _⟩ => ⟨S4096x6752, .f32⟩
  | .hbm, ⟨3, _⟩ => ⟨S4x2048x6752, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Prep.lean ====
abbrev S4x2048x1024 : Shape := ⟨3, ![4, 2048, 1024]⟩
abbrev S4x2048x512 : Shape := ⟨3, ![4, 2048, 512]⟩
abbrev S4x2048x64 : Shape := ⟨3, ![4, 2048, 64]⟩
abbrev S1x1024 : Shape := ⟨2, ![1, 1024]⟩
abbrev S1x1024x16x192 : Shape := ⟨4, ![1, 1024, 16, 192]⟩
abbrev S1x512 : Shape := ⟨2, ![1, 512]⟩
abbrev S1x512x16x128 : Shape := ⟨4, ![1, 512, 16, 128]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x16x32 : Shape := ⟨3, ![1024, 16, 32]⟩
abbrev S1024x16x256 : Shape := ⟨3, ![1024, 16, 256]⟩
abbrev S1024x4096 : Shape := ⟨2, ![1024, 4096]⟩
abbrev S512x16x128 : Shape := ⟨3, ![512, 16, 128]⟩
abbrev S512x2048 : Shape := ⟨2, ![512, 2048]⟩
abbrev S512x4096 : Shape := ⟨2, ![512, 4096]⟩
abbrev S8192x64 : Shape := ⟨2, ![8192, 64]⟩
abbrev S_ : Shape := ⟨0, ![]⟩
abbrev S8192x3072 : Shape := ⟨2, ![8192, 3072]⟩
abbrev S8192x1024 : Shape := ⟨2, ![8192, 1024]⟩
abbrev S8192x2048 : Shape := ⟨2, ![8192, 2048]⟩
abbrev S8192x512 : Shape := ⟨2, ![8192, 512]⟩
abbrev S8192x32 : Shape := ⟨2, ![8192, 32]⟩
abbrev S8192x128 : Shape := ⟨2, ![8192, 128]⟩
abbrev S8192x6912 : Shape := ⟨2, ![8192, 6912]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024 : Shape := ⟨1, ![1024]⟩
abbrev S512 : Shape := ⟨1, ![512]⟩
abbrev S8192x4096 : Shape := ⟨2, ![8192, 4096]⟩
abbrev S256x1024 : Shape := ⟨2, ![256, 1024]⟩
abbrev S256x512 : Shape := ⟨2, ![256, 512]⟩
abbrev S256x128 : Shape := ⟨2, ![256, 128]⟩
abbrev S256x4096 : Shape := ⟨2, ![256, 4096]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S4x2048x16x256 : Shape := ⟨4, ![4, 2048, 16, 256]⟩
abbrev S4x2048x16x128 : Shape := ⟨4, ![4, 2048, 16, 128]⟩
abbrev S4x2048x16x64 : Shape := ⟨4, ![4, 2048, 16, 64]⟩
abbrev S1x4x2048x512 : Shape := ⟨4, ![1, 4, 2048, 512]⟩
abbrev S1x4x2048x64 : Shape := ⟨4, ![1, 4, 2048, 64]⟩

abbrev nBuf : Space → Nat
  | .hbm => 72
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x64, .f32⟩
  | .hbm, ⟨3, _⟩ => ⟨S1x1024, .f32⟩
  | .hbm, ⟨4, _⟩ => ⟨S1x1024x16x192, .f32⟩
  | .hbm, ⟨5, _⟩ => ⟨S1x512, .f32⟩
  | .hbm, ⟨6, _⟩ => ⟨S1x512x16x128, .f32⟩
  | .hbm, ⟨7, _⟩ => ⟨S1x512x16x128, .f32⟩
  | .hbm, ⟨8, _⟩ => ⟨S1024x16x192, .f32⟩
  | .hbm, ⟨9, _⟩ => ⟨S1024x16x64, .f32⟩
  | .hbm, ⟨10, _⟩ => ⟨S1024x16x128, .f32⟩
  | .hbm, ⟨11, _⟩ => ⟨S1024x16x32, .f32⟩
  | .hbm, ⟨12, _⟩ => ⟨S1024x16x32, .f32⟩
  | .hbm, ⟨13, _⟩ => ⟨S1024x16x32, .f32⟩
  | .hbm, ⟨14, _⟩ => ⟨S1024x16x64, .f32⟩
  | .hbm, ⟨15, _⟩ => ⟨S1024x16x256, .f32⟩
  | .hbm, ⟨16, _⟩ => ⟨S1024x4096, .f32⟩
  | .hbm, ⟨17, _⟩ => ⟨S1024x4096, .bf16⟩
  | .hbm, ⟨18, _⟩ => ⟨S512x16x128, .f32⟩
  | .hbm, ⟨19, _⟩ => ⟨S512x2048, .f32⟩
  | .hbm, ⟨20, _⟩ => ⟨S512x16x128, .f32⟩
  | .hbm, ⟨21, _⟩ => ⟨S512x2048, .f32⟩
  | .hbm, ⟨22, _⟩ => ⟨S512x4096, .f32⟩
  | .hbm, ⟨23, _⟩ => ⟨S512x4096, .bf16⟩
  | .hbm, ⟨24, _⟩ => ⟨S8192x64, .f32⟩
  | .hbm, ⟨25, _⟩ => ⟨S_, .f32⟩
  | .hbm, ⟨26, _⟩ => ⟨S8192x3072, .f32⟩
  | .hbm, ⟨27, _⟩ => ⟨S8192x1024, .f32⟩
  | .hbm, ⟨28, _⟩ => ⟨S_, .f32⟩
  | .hbm, ⟨29, _⟩ => ⟨S8192x2048, .f32⟩
  | .hbm, ⟨30, _⟩ => ⟨S8192x512, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S8192x128, .f32⟩
  | .hbm, ⟨36, _⟩ => ⟨S8192x6912, .f32⟩
  | .hbm, ⟨37, _⟩ => ⟨S2048, .i32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S2048, .f32⟩
  | .hbm, ⟨47, _⟩ => ⟨S2048x1, .f32⟩
  | .hbm, ⟨48, _⟩ => ⟨S1x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x128, .f32⟩
  | .hbm, ⟨55, _⟩ => ⟨S1024, .f32⟩
  | .hbm, ⟨56, _⟩ => ⟨S1x1024, .f32⟩
  | .hbm, ⟨57, _⟩ => ⟨S512, .f32⟩
  | .hbm, ⟨58, _⟩ => ⟨S1x512, .f32⟩
  | .hbm, ⟨59, _⟩ => ⟨S8192x4096, .bf16⟩
  | .hbm, ⟨60, _⟩ => ⟨S8192x512, .f32⟩
  | .hbm, ⟨61, _⟩ => ⟨S8192x64, .f32⟩
  | .hbm, ⟨62, _⟩ => ⟨S8192x4096, .bf16⟩
  | .hbm, ⟨63, _⟩ => ⟨S8192x2048, .bf16⟩
  | .hbm, ⟨64, _⟩ => ⟨S4x2048x16x256, .bf16⟩
  | .hbm, ⟨65, _⟩ => ⟨S4x2048x16x256, .bf16⟩
  | .hbm, ⟨66, _⟩ => ⟨S4x2048x16x128, .bf16⟩
  | .hbm, ⟨67, _⟩ => ⟨S4x2048x16x64, .bf16⟩
  | .hbm, ⟨68, _⟩ => ⟨S1x4x2048x512, .f32⟩
  | .hbm, ⟨69, _⟩ => ⟨S1x4x2048x64, .f32⟩
  | .hbm, ⟨70, _⟩ => ⟨S4x2048x16x128, .bf16⟩
  | .hbm, ⟨71, _⟩ => ⟨S4x2048x16x128, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x512, .f32⟩
  | .local _ .vmem, ⟨10, _⟩ => ⟨S1024x4096, .bf16⟩
  | .local _ .vmem, ⟨11, _⟩ => ⟨S512x4096, .bf16⟩
  | .local _ .vmem, ⟨12, _⟩ => ⟨S256x4096, .bf16⟩
  | .local _ .vmem, ⟨13, _⟩ => ⟨S256x4096, .bf16⟩
  | .local _ .vmem, ⟨14, _⟩ => ⟨S256x512, .f32⟩
  | .local _ .vmem, ⟨15, _⟩ => ⟨S256x512, .f32⟩
  | .local _ .vmem, ⟨16, _⟩ => ⟨S256x64, .f32⟩
  | .local _ .vmem, ⟨17, _⟩ => ⟨S256x64, .f32⟩
  | .local _ .vmem, ⟨18, _⟩ => ⟨S256x4096, .bf16⟩
  | .local _ .vmem, ⟨19, _⟩ => ⟨S256x4096, .bf16⟩
  | .local _ .vmem, ⟨20, _⟩ => ⟨S256x2048, .bf16⟩
  | .local _ .vmem, ⟨21, _⟩ => ⟨S256x2048, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev main_v46_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepRefIdeal.lean ====
abbrev S4x2048x1024 : Shape := ⟨3, ![4, 2048, 1024]⟩
abbrev S4x2048x512 : Shape := ⟨3, ![4, 2048, 512]⟩
abbrev S4x2048x64 : Shape := ⟨3, ![4, 2048, 64]⟩
abbrev S1x1024 : Shape := ⟨2, ![1, 1024]⟩
abbrev S1x1024x16x192 : Shape := ⟨4, ![1, 1024, 16, 192]⟩
abbrev S1x512 : Shape := ⟨2, ![1, 512]⟩
abbrev S1x512x16x128 : Shape := ⟨4, ![1, 512, 16, 128]⟩
abbrev S2048 : Shape := ⟨1, ![2048]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x16x192 : Shape := ⟨3, ![1024, 16, 192]⟩
abbrev S4x2048x16x192 : Shape := ⟨4, ![4, 2048, 16, 192]⟩
abbrev S4x2048x16x128 : Shape := ⟨4, ![4, 2048, 16, 128]⟩
abbrev S4x2048x16x64 : Shape := ⟨4, ![4, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S512 : Shape := ⟨1, ![512]⟩
abbrev S1x1x512 : Shape := ⟨3, ![1, 1, 512]⟩
abbrev S4x2048x32 : Shape := ⟨3, ![4, 2048, 32]⟩
abbrev S1x2048x32 : Shape := ⟨3, ![1, 2048, 32]⟩
abbrev S512x16x128 : Shape := ⟨3, ![512, 16, 128]⟩
abbrev S1x4x2048x512 : Shape := ⟨4, ![1, 4, 2048, 512]⟩
abbrev S1x4x2048x64 : Shape := ⟨4, ![1, 4, 2048, 64]⟩

abbrev nBuf : Space → Nat
  | .hbm => 125
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x64, .f32⟩
  | .hbm, ⟨3, _⟩ => ⟨S1x1024, .f32⟩
  | .hbm, ⟨4, _⟩ => ⟨S1x1024x16x192, .f32⟩
  | .hbm, ⟨5, _⟩ => ⟨S1x512, .f32⟩
  | .hbm, ⟨6, _⟩ => ⟨S1x512x16x128, .f32⟩
  | .hbm, ⟨7, _⟩ => ⟨S1x512x16x128, .f32⟩
  | .hbm, ⟨8, _⟩ => ⟨S2048, .i32⟩
  | .hbm, ⟨9, _⟩ => ⟨S1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S1024x16x192, .f32⟩
  | .hbm, ⟨27, _⟩ => ⟨S4x2048x16x192, .f32⟩
  | .hbm, ⟨28, _⟩ => ⟨S4x2048x16x128, .f32⟩
  | .hbm, ⟨29, _⟩ => ⟨S4x2048x16x64, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x1x32, .f32⟩
  | .hbm, ⟨46, _⟩ => ⟨S2048x32, .f32⟩
  | .hbm, ⟨47, _⟩ => ⟨S2048x1x32, .f32⟩
  | .hbm, ⟨48, _⟩ => ⟨S4x2048x16x32, .f32⟩
  | .hbm, ⟨49, _⟩ => ⟨S4x2048x16x32, .f32⟩
  | .hbm, ⟨50, _⟩ => ⟨S1x2048x1x32, .f32⟩
  | .hbm, ⟨51, _⟩ => ⟨S4x2048x16x32, .f32⟩
  | .hbm, ⟨52, _⟩ => ⟨S4x2048x16x32, .f32⟩
  | .hbm, ⟨53, _⟩ => ⟨S1x2048x1x32, .f32⟩
  | .hbm, ⟨54, _⟩ => ⟨S4x2048x16x32, .f32⟩
  | .hbm, ⟨55, _⟩ => ⟨S4x2048x16x32, .f32⟩
  | .hbm, ⟨56, _⟩ => ⟨S4x2048x16x32, .f32⟩
  | .hbm, ⟨57, _⟩ => ⟨S1x2048x1x32, .f32⟩
  | .hbm, ⟨58, _⟩ => ⟨S4x2048x16x32, .f32⟩
  | .hbm, ⟨59, _⟩ => ⟨S4x2048x16x32, .f32⟩
  | .hbm, ⟨60, _⟩ => ⟨S1x2048x1x32, .f32⟩
  | .hbm, ⟨61, _⟩ => ⟨S4x2048x16x32, .f32⟩
  | .hbm, ⟨62, _⟩ => ⟨S4x2048x16x32, .f32⟩
  | .hbm, ⟨63, _⟩ => ⟨S4x2048x16x32, .f32⟩
  | .hbm, ⟨64, _⟩ => ⟨S4x2048x16x64, .f32⟩
  | .hbm, ⟨65, _⟩ => ⟨S512, .f32⟩
  | .hbm, ⟨66, _⟩ => ⟨S4x2048x512, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x512, .f32⟩
  | .hbm, ⟨78, _⟩ => ⟨S4x2048x512, .f32⟩
  | .hbm, ⟨79, _⟩ => ⟨S1x1x512, .f32⟩
  | .hbm, ⟨80, _⟩ => ⟨S4x2048x512, .f32⟩
  | .hbm, ⟨81, _⟩ => ⟨S4x2048x512, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S2048, .f32⟩
  | .hbm, ⟨91, _⟩ => ⟨S2048x1, .f32⟩
  | .hbm, ⟨92, _⟩ => ⟨S1x32, .f32⟩
  | .hbm, ⟨93, _⟩ => ⟨S2048x32, .f32⟩
  | .hbm, ⟨94, _⟩ => ⟨S2048x32, .f32⟩
  | .hbm, ⟨95, _⟩ => ⟨S2048x32, .f32⟩
  | .hbm, ⟨96, _⟩ => ⟨S2048x32, .f32⟩
  | .hbm, ⟨97, _⟩ => ⟨S2048x32, .f32⟩
  | .hbm, ⟨98, _⟩ => ⟨S4x2048x32, .f32⟩
  | .hbm, ⟨99, _⟩ => ⟨S4x2048x32, .f32⟩
  | .hbm, ⟨100, _⟩ => ⟨S1x2048x32, .f32⟩
  | .hbm, ⟨101, _⟩ => ⟨S4x2048x32, .f32⟩
  | .hbm, ⟨102, _⟩ => ⟨S4x2048x32, .f32⟩
  | .hbm, ⟨103, _⟩ => ⟨S1x2048x32, .f32⟩
  | .hbm, ⟨104, _⟩ => ⟨S4x2048x32, .f32⟩
  | .hbm, ⟨105, _⟩ => ⟨S4x2048x32, .f32⟩
  | .hbm, ⟨106, _⟩ => ⟨S4x2048x32, .f32⟩
  | .hbm, ⟨107, _⟩ => ⟨S1x2048x32, .f32⟩
  | .hbm, ⟨108, _⟩ => ⟨S4x2048x32, .f32⟩
  | .hbm, ⟨109, _⟩ => ⟨S4x2048x32, .f32⟩
  | .hbm, ⟨110, _⟩ => ⟨S1x2048x32, .f32⟩
  | .hbm, ⟨111, _⟩ => ⟨S4x2048x32, .f32⟩
  | .hbm, ⟨112, _⟩ => ⟨S4x2048x32, .f32⟩
  | .hbm, ⟨113, _⟩ => ⟨S4x2048x32, .f32⟩
  | .hbm, ⟨114, _⟩ => ⟨S4x2048x64, .f32⟩
  | .hbm, ⟨115, _⟩ => ⟨S512x16x128, .f32⟩
  | .hbm, ⟨116, _⟩ => ⟨S4x2048x16x128, .f32⟩
  | .hbm, ⟨117, _⟩ => ⟨S512x16x128, .f32⟩
  | .hbm, ⟨118, _⟩ => ⟨S4x2048x16x128, .f32⟩
  | .hbm, ⟨119, _⟩ => ⟨S4x2048x16x128, .bf16⟩
  | .hbm, ⟨120, _⟩ => ⟨S4x2048x16x64, .bf16⟩
  | .hbm, ⟨121, _⟩ => ⟨S1x4x2048x512, .f32⟩
  | .hbm, ⟨122, _⟩ => ⟨S1x4x2048x64, .f32⟩
  | .hbm, ⟨123, _⟩ => ⟨S4x2048x16x128, .bf16⟩
  | .hbm, ⟨124, _⟩ => ⟨S4x2048x16x128, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩

abbrev nD : Nat := 1
abbrev τ : Topo := Topo.v7x

variable {F : FTy → Type} [FloatOps F]
-- ==== OutProj.lean ====
abbrev S8192x2048 : Shape := ⟨2, ![8192, 2048]⟩
abbrev S1x4096x4096 : Shape := ⟨3, ![1, 4096, 4096]⟩
abbrev S4x2048x4096 : Shape := ⟨3, ![4, 2048, 4096]⟩
abbrev S1x4096 : Shape := ⟨2, ![1, 4096]⟩
abbrev S4096x4096 : Shape := ⟨2, ![4096, 4096]⟩
abbrev S8192x4096 : Shape := ⟨2, ![8192, 4096]⟩
abbrev S4096 : Shape := ⟨1, ![4096]⟩
abbrev S_ : Shape := ⟨0, ![]⟩
abbrev S8320x4096 : Shape := ⟨2, ![8320, 4096]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S4x2048x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .bf16⟩
  | .hbm, ⟨8, _⟩ => ⟨S8192x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S_, .f32⟩
  | .hbm, ⟨14, _⟩ => ⟨S8320x4096, .f32⟩
  | .hbm, ⟨15, _⟩ => ⟨S8320x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S1x4096, .f32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_11 : BitVec 32 := 0#32
  let v16 : BitVec 1 := Scalar.cmpi .ne v15 c0_i32_11
  v16

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def k0_cond3 (i : grid0.Coords) : BitVec 1 :=
  let arg1 : BitVec 32 := BitVec.ofNat 32 (i 1).val
  let c2_i32 : BitVec 32 := 2#32
  let v20 : BitVec 1 := Scalar.cmpi .eq arg1 c2_i32
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_14 : BitVec 32 := 0#32
  let v25 : BitVec 1 := Scalar.cmpi .ne v24 c0_i32_14
  v25

def k0_cond5 (i : grid0.Coords) : BitVec 1 :=
  let arg1 : BitVec 32 := BitVec.ofNat 32 (i 1).val
  let c4_i32 : BitVec 32 := 4#32
  let v26 : BitVec 1 := Scalar.cmpi .eq arg1 c4_i32
  let v27 : BitVec 32 := Scalar.extui v26
  let c0_i32_15 : BitVec 32 := 0#32
  let v28 : BitVec 1 := Scalar.cmpi .ne v27 c0_i32_15
  v28

def k0_cond6 (i : grid0.Coords) : BitVec 1 :=
  let arg1 : BitVec 32 := BitVec.ofNat 32 (i 1).val
  let c5_i32 : BitVec 32 := 5#32
  let v29 : BitVec 1 := Scalar.cmpi .eq arg1 c5_i32
  let v30 : BitVec 32 := Scalar.extui v29
  let c0_i32_16 : BitVec 32 := 0#32
  let v31 : BitVec 1 := Scalar.cmpi .ne v30 c0_i32_16
  v31

def k0_cond7 (i : grid0.Coords) : BitVec 1 :=
  let arg1 : BitVec 32 := BitVec.ofNat 32 (i 1).val
  let c6_i32 : BitVec 32 := 6#32
  let v32 : BitVec 1 := Scalar.cmpi .eq arg1 c6_i32
  let v33 : BitVec 32 := Scalar.extui v32
  let c0_i32_17 : BitVec 32 := 0#32
  let v34 : BitVec 1 := Scalar.cmpi .ne v33 c0_i32_17
  v34

def k0_cond8 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_18 : BitVec 32 := 0#32
  let v37 : BitVec 1 := Scalar.cmpi .ne v36 c0_i32_18
  v37

def k0_cond9 (i : grid0.Coords) : BitVec 1 :=
  let arg1 : BitVec 32 := BitVec.ofNat 32 (i 1).val
  let c7_i32_19 : BitVec 32 := 7#32
  let v38 : BitVec 1 := Scalar.cmpi .eq arg1 c7_i32_19
  let v39 : BitVec 32 := Scalar.extui v38
  let c0_i32_20 : BitVec 32 := 0#32
  let v40 : BitVec 1 := Scalar.cmpi .ne v39 c0_i32_20
  v40

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OutProjRefIdeal.lean ====
abbrev S8192x2048 : Shape := ⟨2, ![8192, 2048]⟩
abbrev S1x4096x4096 : Shape := ⟨3, ![1, 4096, 4096]⟩
abbrev S4x2048x4096 : Shape := ⟨3, ![4, 2048, 4096]⟩
abbrev S1x4096 : Shape := ⟨2, ![1, 4096]⟩
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4x2048 : Shape := ⟨2, ![4, 2048]⟩
abbrev S4x2048x1 : Shape := ⟨3, ![4, 2048, 1]⟩
abbrev S1x1x4096 : Shape := ⟨3, ![1, 1, 4096]⟩
abbrev S128x4096 : Shape := ⟨2, ![128, 4096]⟩
abbrev S8320x4096 : Shape := ⟨2, ![8320, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S4x2048x4096, .f32⟩
  | .hbm, ⟨4, _⟩ => ⟨S1x4096, .f32⟩
  | .hbm, ⟨5, _⟩ => ⟨S1x4096, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S4x2048x4096, .f32⟩
  | .hbm, ⟨10, _⟩ => ⟨S4096x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x4096, .f32⟩
  | .hbm, ⟨40, _⟩ => ⟨S4x2048x4096, .f32⟩
  | .hbm, ⟨41, _⟩ => ⟨S1x1x4096, .f32⟩
  | .hbm, ⟨42, _⟩ => ⟨S4x2048x4096, .f32⟩
  | .hbm, ⟨43, _⟩ => ⟨S4x2048x4096, .f32⟩
  | .hbm, ⟨44, _⟩ => ⟨S1x1x4096, .f32⟩
  | .hbm, ⟨45, _⟩ => ⟨S4x2048x4096, .f32⟩
  | .hbm, ⟨46, _⟩ => ⟨S4x2048x4096, .f32⟩
  | .hbm, ⟨47, _⟩ => ⟨S8192x4096, .f32⟩
  | .hbm, ⟨48, _⟩ => ⟨S_, .f32⟩
  | .hbm, ⟨49, _⟩ => ⟨S128x4096, .f32⟩
  | .hbm, ⟨50, _⟩ => ⟨S8320x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Combine.lean ====
abbrev S8320x4096 : Shape := ⟨2, ![8320, 4096]⟩
abbrev S16640x4096 : Shape := ⟨2, ![16640, 4096]⟩
abbrev S8320x128 : Shape := ⟨2, ![8320, 128]⟩
abbrev S1x4096 : Shape := ⟨2, ![1, 4096]⟩
abbrev S4096 : Shape := ⟨1, ![4096]⟩
abbrev S8192x4096 : Shape := ⟨2, ![8192, 4096]⟩
abbrev S128x4096 : Shape := ⟨2, ![128, 4096]⟩
abbrev S128x128 : Shape := ⟨2, ![128, 128]⟩
abbrev S128x1 : Shape := ⟨2, ![128, 1]⟩
abbrev S128 : Shape := ⟨1, ![128]⟩

abbrev nBuf : Space → Nat
  | .hbm => 11
  | .vmem => 14
  | .smem => 0
  | _ => 0

abbrev bufTy : (tb : Table) → Fin (tcTables nBuf tb) → BufTy
  | .hbm, ⟨0, _⟩ => ⟨S8320x4096, .f32⟩
  | .hbm, ⟨1, _⟩ => ⟨S16640x4096, .f32⟩
  | .hbm, ⟨2, _⟩ => ⟨S8320x128, .f32⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S128x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x128, .f32⟩
  | .local _ .vmem, ⟨7, _⟩ => ⟨S128x128, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v38 : BitVec 1 := Scalar.cmpi .slt arg0 c64_i32
  let v39 : BitVec 32 := Scalar.extui v38
  let c0_i32 : BitVec 32 := 0#32
  let v40 : BitVec 1 := Scalar.cmpi .ne v39 c0_i32
  v40

def k0_cond2 (i : grid0.Coords) : BitVec 1 :=
  let arg0 : BitVec 32 := BitVec.ofNat 32 (i 0).val
  let c64_i32_16 : BitVec 32 := 64#32
  let v41 : BitVec 1 := Scalar.cmpi .sge arg0 c64_i32_16
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c65_i32 : BitVec 32 := 65#32
  let v0 : BitVec 32 := Scalar.addi arg0 c65_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRefIdeal.lean ====
abbrev S8320x4096 : Shape := ⟨2, ![8320, 4096]⟩
abbrev S16640x4096 : Shape := ⟨2, ![16640, 4096]⟩
abbrev S8320x128 : Shape := ⟨2, ![8320, 128]⟩
abbrev S1x4096 : Shape := ⟨2, ![1, 4096]⟩
abbrev S8320x1 : Shape := ⟨2, ![8320, 1]⟩
abbrev S_ : Shape := ⟨0, ![]⟩
abbrev S4096 : Shape := ⟨1, ![4096]⟩
abbrev S8320 : Shape := ⟨1, ![8320]⟩
abbrev S8192x4096 : Shape := ⟨2, ![8192, 4096]⟩
abbrev S128x4096 : Shape := ⟨2, ![128, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S16640x4096, .f32⟩
  | .hbm, ⟨2, _⟩ => ⟨S8320x128, .f32⟩
  | .hbm, ⟨3, _⟩ => ⟨S1x4096, .f32⟩
  | .hbm, ⟨4, _⟩ => ⟨S1x4096, .f32⟩
  | .hbm, ⟨5, _⟩ => ⟨S8320x4096, .f32⟩
  | .hbm, ⟨6, _⟩ => ⟨S8320x1, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S8320x1, .f32⟩
  | .hbm, ⟨11, _⟩ => ⟨S8320x4096, .f32⟩
  | .hbm, ⟨12, _⟩ => ⟨S8320x4096, .f32⟩
  | .hbm, ⟨13, _⟩ => ⟨S8320x4096, .f32⟩
  | .hbm, ⟨14, _⟩ => ⟨S_, .f32⟩
  | .hbm, ⟨15, _⟩ => ⟨S8320x4096, .f32⟩
  | .hbm, ⟨16, _⟩ => ⟨S8320x4096, .f32⟩
  | .hbm, ⟨17, _⟩ => ⟨S8320x4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S8320, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S8320x4096, .f32⟩
  | .hbm, ⟨27, _⟩ => ⟨S8320x4096, .f32⟩
  | .hbm, ⟨28, _⟩ => ⟨S8320x4096, .f32⟩
  | .hbm, ⟨29, _⟩ => ⟨S_, .f32⟩
  | .hbm, ⟨30, _⟩ => ⟨S8320, .f32⟩
  | .hbm, ⟨31, _⟩ => ⟨S8320x1, .f32⟩
  | .hbm, ⟨32, _⟩ => ⟨S_, .f32⟩
  | .hbm, ⟨33, _⟩ => ⟨S8320x1, .f32⟩
  | .hbm, ⟨34, _⟩ => ⟨S8320x1, .f32⟩
  | .hbm, ⟨35, _⟩ => ⟨S8320x4096, .f32⟩
  | .hbm, ⟨36, _⟩ => ⟨S8320x4096, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S8320x1, .f32⟩
  | .hbm, ⟨41, _⟩ => ⟨S8320x4096, .f32⟩
  | .hbm, ⟨42, _⟩ => ⟨S8320x4096, .f32⟩
  | .hbm, ⟨43, _⟩ => ⟨S1x4096, .f32⟩
  | .hbm, ⟨44, _⟩ => ⟨S8320x4096, .f32⟩
  | .hbm, ⟨45, _⟩ => ⟨S8320x4096, .f32⟩
  | .hbm, ⟨46, _⟩ => ⟨S1x4096, .f32⟩
  | .hbm, ⟨47, _⟩ => ⟨S8320x4096, .f32⟩
  | .hbm, ⟨48, _⟩ => ⟨S8320x4096, .f32⟩
  | .hbm, ⟨49, _⟩ => ⟨S8192x4096, .f32⟩
  | .hbm, ⟨50, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Sample.lean ====
abbrev S128x1x1024 : Shape := ⟨3, ![128, 1, 1024]⟩
abbrev S128x1x512 : Shape := ⟨3, ![128, 1, 512]⟩
abbrev S128x1x64 : Shape := ⟨3, ![128, 1, 64]⟩
abbrev S1x1024 : Shape := ⟨2, ![1, 1024]⟩
abbrev S1x1024x16x192 : Shape := ⟨4, ![1, 1024, 16, 192]⟩
abbrev S1x512 : Shape := ⟨2, ![1, 512]⟩
abbrev S1x512x16x128 : Shape := ⟨4, ![1, 512, 16, 128]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x16x32 : Shape := ⟨3, ![1024, 16, 32]⟩
abbrev S1024x16x256 : Shape := ⟨3, ![1024, 16, 256]⟩
abbrev S1024x4096 : Shape := ⟨2, ![1024, 4096]⟩
abbrev S512x16x128 : Shape := ⟨3, ![512, 16, 128]⟩
abbrev S512x2048 : Shape := ⟨2, ![512, 2048]⟩
abbrev S512x4096 : Shape := ⟨2, ![512, 4096]⟩
abbrev S128x64 : Shape := ⟨2, ![128, 64]⟩
abbrev S_ : Shape := ⟨0, ![]⟩
abbrev S128x3072 : Shape := ⟨2, ![128, 3072]⟩
abbrev S128x1024 : Shape := ⟨2, ![128, 1024]⟩
abbrev S128x2048 : Shape := ⟨2, ![128, 2048]⟩
abbrev S128x512 : Shape := ⟨2, ![128, 512]⟩
abbrev S128x32 : Shape := ⟨2, ![128, 32]⟩
abbrev S128x128 : Shape := ⟨2, ![128, 128]⟩
abbrev S128x6912 : Shape := ⟨2, ![128, 6912]⟩
abbrev S128 : Shape := ⟨1, ![128]⟩
abbrev S32 : Shape := ⟨1, ![32]⟩
abbrev S128x1 : Shape := ⟨2, ![128, 1]⟩
abbrev S1x32 : Shape := ⟨2, ![1, 32]⟩
abbrev S1024 : Shape := ⟨1, ![1024]⟩
abbrev S512 : Shape := ⟨1, ![512]⟩
abbrev S128x4096 : Shape := ⟨2, ![128, 4096]⟩
abbrev S128x1x16x256 : Shape := ⟨4, ![128, 1, 16, 256]⟩
abbrev S128x1x16x128 : Shape := ⟨4, ![128, 1, 16, 128]⟩
abbrev S128x1x16x64 : Shape := ⟨4, ![128, 1, 16, 64]⟩
abbrev S1x128x1x512 : Shape := ⟨4, ![1, 128, 1, 512]⟩
abbrev S1x128x1x64 : Shape := ⟨4, ![1, 128, 1, 64]⟩

abbrev nBuf : Space → Nat
  | .hbm => 68
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x64, .f32⟩
  | .hbm, ⟨3, _⟩ => ⟨S1x1024, .f32⟩
  | .hbm, ⟨4, _⟩ => ⟨S1x1024x16x192, .f32⟩
  | .hbm, ⟨5, _⟩ => ⟨S1x512, .f32⟩
  | .hbm, ⟨6, _⟩ => ⟨S1x512x16x128, .f32⟩
  | .hbm, ⟨7, _⟩ => ⟨S1x512x16x128, .f32⟩
  | .hbm, ⟨8, _⟩ => ⟨S1024x16x192, .f32⟩
  | .hbm, ⟨9, _⟩ => ⟨S1024x16x64, .f32⟩
  | .hbm, ⟨10, _⟩ => ⟨S1024x16x128, .f32⟩
  | .hbm, ⟨11, _⟩ => ⟨S1024x16x32, .f32⟩
  | .hbm, ⟨12, _⟩ => ⟨S1024x16x32, .f32⟩
  | .hbm, ⟨13, _⟩ => ⟨S1024x16x32, .f32⟩
  | .hbm, ⟨14, _⟩ => ⟨S1024x16x64, .f32⟩
  | .hbm, ⟨15, _⟩ => ⟨S1024x16x256, .f32⟩
  | .hbm, ⟨16, _⟩ => ⟨S1024x4096, .f32⟩
  | .hbm, ⟨17, _⟩ => ⟨S1024x4096, .bf16⟩
  | .hbm, ⟨18, _⟩ => ⟨S512x16x128, .f32⟩
  | .hbm, ⟨19, _⟩ => ⟨S512x2048, .f32⟩
  | .hbm, ⟨20, _⟩ => ⟨S512x16x128, .f32⟩
  | .hbm, ⟨21, _⟩ => ⟨S512x2048, .f32⟩
  | .hbm, ⟨22, _⟩ => ⟨S512x4096, .f32⟩
  | .hbm, ⟨23, _⟩ => ⟨S512x4096, .bf16⟩
  | .hbm, ⟨24, _⟩ => ⟨S128x64, .f32⟩
  | .hbm, ⟨25, _⟩ => ⟨S_, .f32⟩
  | .hbm, ⟨26, _⟩ => ⟨S128x3072, .f32⟩
  | .hbm, ⟨27, _⟩ => ⟨S128x1024, .f32⟩
  | .hbm, ⟨28, _⟩ => ⟨S_, .f32⟩
  | .hbm, ⟨29, _⟩ => ⟨S128x2048, .f32⟩
  | .hbm, ⟨30, _⟩ => ⟨S128x512, .f32⟩
  | .hbm, ⟨31, _⟩ => ⟨S128x32, .f32⟩
  | .hbm, ⟨32, _⟩ => ⟨S128x32, .f32⟩
  | .hbm, ⟨33, _⟩ => ⟨S128x32, .f32⟩
  | .hbm, ⟨34, _⟩ => ⟨S_, .f32⟩
  | .hbm, ⟨35, _⟩ => ⟨S128x128, .f32⟩
  | .hbm, ⟨36, _⟩ => ⟨S128x6912, .f32⟩
  | .hbm, ⟨37, _⟩ => ⟨S_, .i32⟩
  | .hbm, ⟨38, _⟩ => ⟨S128, .i32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S128, .f32⟩
  | .hbm, ⟨48, _⟩ => ⟨S128x1, .f32⟩
  | .hbm, ⟨49, _⟩ => ⟨S1x32, .f32⟩
  | .hbm, ⟨50, _⟩ => ⟨S128x32, .f32⟩
  | .hbm, ⟨51, _⟩ => ⟨S128x32, .f32⟩
  | .hbm, ⟨52, _⟩ => ⟨S128x32, .f32⟩
  | .hbm, ⟨53, _⟩ => ⟨S128x32, .f32⟩
  | .hbm, ⟨54, _⟩ => ⟨S128x32, .f32⟩
  | .hbm, ⟨55, _⟩ => ⟨S128x128, .f32⟩
  | .hbm, ⟨56, _⟩ => ⟨S1024, .f32⟩
  | .hbm, ⟨57, _⟩ => ⟨S1x1024, .f32⟩
  | .hbm, ⟨58, _⟩ => ⟨S512, .f32⟩
  | .hbm, ⟨59, _⟩ => ⟨S1x512, .f32⟩
  | .hbm, ⟨60, _⟩ => ⟨S128x4096, .bf16⟩
  | .hbm, ⟨61, _⟩ => ⟨S128x512, .f32⟩
  | .hbm, ⟨62, _⟩ => ⟨S128x64, .f32⟩
  | .hbm, ⟨63, _⟩ => ⟨S128x1x16x256, .bf16⟩
  | .hbm, ⟨64, _⟩ => ⟨S128x1x16x128, .bf16⟩
  | .hbm, ⟨65, _⟩ => ⟨S128x1x16x64, .bf16⟩
  | .hbm, ⟨66, _⟩ => ⟨S1x128x1x512, .f32⟩
  | .hbm, ⟨67, _⟩ => ⟨S1x128x1x64, .f32⟩
  | .local _ .vmem, ⟨0, _⟩ => ⟨S128x1024, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S1x1024, .f32⟩
  | .local _ .vmem, ⟨5, _⟩ => ⟨S1x512, .f32⟩
  | .local _ .vmem, ⟨6, _⟩ => ⟨S1024x4096, .bf16⟩
  | .local _ .vmem, ⟨7, _⟩ => ⟨S512x4096, .bf16⟩
  | .local _ .vmem, ⟨8, _⟩ => ⟨S128x4096, .bf16⟩
  | .local _ .vmem, ⟨9, _⟩ => ⟨S128x512, .f32⟩
  | .local _ .vmem, ⟨10, _⟩ => ⟨S128x64, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== SampleRefIdeal.lean ====
abbrev S128x1x1024 : Shape := ⟨3, ![128, 1, 1024]⟩
abbrev S128x1x512 : Shape := ⟨3, ![128, 1, 512]⟩
abbrev S128x1x64 : Shape := ⟨3, ![128, 1, 64]⟩
abbrev S1x1024 : Shape := ⟨2, ![1, 1024]⟩
abbrev S1x1024x16x192 : Shape := ⟨4, ![1, 1024, 16, 192]⟩
abbrev S1x512 : Shape := ⟨2, ![1, 512]⟩
abbrev S1x512x16x128 : Shape := ⟨4, ![1, 512, 16, 128]⟩
abbrev S1 : Shape := ⟨1, ![1]⟩
abbrev S_ : Shape := ⟨0, ![]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S1024x16x192 : Shape := ⟨3, ![1024, 16, 192]⟩
abbrev S128x1x16x192 : Shape := ⟨4, ![128, 1, 16, 192]⟩
abbrev S128x1x16x128 : Shape := ⟨4, ![128, 1, 16, 128]⟩
abbrev S128x1x16x64 : Shape := ⟨4, ![128, 1, 16, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x16x32 : Shape := ⟨4, ![128, 1, 16, 32]⟩
abbrev S1x1x1x32 : Shape := ⟨4, ![1, 1, 1, 32]⟩
abbrev S512 : Shape := ⟨1, ![512]⟩
abbrev S1x1x512 : Shape := ⟨3, ![1, 1, 512]⟩
abbrev S128x1x32 : Shape := ⟨3, ![128, 1, 32]⟩
abbrev S1x128x1x512 : Shape := ⟨4, ![1, 128, 1, 512]⟩
abbrev S1x128x1x64 : Shape := ⟨4, ![1, 128, 1, 64]⟩

abbrev nBuf : Space → Nat
  | .hbm => 120
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x64, .f32⟩
  | .hbm, ⟨3, _⟩ => ⟨S1x1024, .f32⟩
  | .hbm, ⟨4, _⟩ => ⟨S1x1024x16x192, .f32⟩
  | .hbm, ⟨5, _⟩ => ⟨S1x512, .f32⟩
  | .hbm, ⟨6, _⟩ => ⟨S1x512x16x128, .f32⟩
  | .hbm, ⟨7, _⟩ => ⟨S1x512x16x128, .f32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S1024, .f32⟩
  | .hbm, ⟨13, _⟩ => ⟨S128x1x1024, .f32⟩
  | .hbm, ⟨14, _⟩ => ⟨S_, .f32⟩
  | .hbm, ⟨15, _⟩ => ⟨S128x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S128x1x1, .f32⟩
  | .hbm, ⟨24, _⟩ => ⟨S128x1x1024, .f32⟩
  | .hbm, ⟨25, _⟩ => ⟨S128x1x1024, .f32⟩
  | .hbm, ⟨26, _⟩ => ⟨S1x1x1024, .f32⟩
  | .hbm, ⟨27, _⟩ => ⟨S128x1x1024, .f32⟩
  | .hbm, ⟨28, _⟩ => ⟨S128x1x1024, .f32⟩
  | .hbm, ⟨29, _⟩ => ⟨S1024x16x192, .f32⟩
  | .hbm, ⟨30, _⟩ => ⟨S128x1x16x192, .f32⟩
  | .hbm, ⟨31, _⟩ => ⟨S128x1x16x128, .f32⟩
  | .hbm, ⟨32, _⟩ => ⟨S128x1x16x64, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S1, .f32⟩
  | .hbm, ⟨42, _⟩ => ⟨S1x1, .f32⟩
  | .hbm, ⟨43, _⟩ => ⟨S1x32, .f32⟩
  | .hbm, ⟨44, _⟩ => ⟨S1x32, .f32⟩
  | .hbm, ⟨45, _⟩ => ⟨S1x32, .f32⟩
  | .hbm, ⟨46, _⟩ => ⟨S1x32, .f32⟩
  | .hbm, ⟨47, _⟩ => ⟨S1x1x32, .f32⟩
  | .hbm, ⟨48, _⟩ => ⟨S1x32, .f32⟩
  | .hbm, ⟨49, _⟩ => ⟨S1x1x32, .f32⟩
  | .hbm, ⟨50, _⟩ => ⟨S128x1x16x32, .f32⟩
  | .hbm, ⟨51, _⟩ => ⟨S128x1x16x32, .f32⟩
  | .hbm, ⟨52, _⟩ => ⟨S1x1x1x32, .f32⟩
  | .hbm, ⟨53, _⟩ => ⟨S128x1x16x32, .f32⟩
  | .hbm, ⟨54, _⟩ => ⟨S128x1x16x32, .f32⟩
  | .hbm, ⟨55, _⟩ => ⟨S1x1x1x32, .f32⟩
  | .hbm, ⟨56, _⟩ => ⟨S128x1x16x32, .f32⟩
  | .hbm, ⟨57, _⟩ => ⟨S128x1x16x32, .f32⟩
  | .hbm, ⟨58, _⟩ => ⟨S128x1x16x32, .f32⟩
  | .hbm, ⟨59, _⟩ => ⟨S1x1x1x32, .f32⟩
  | .hbm, ⟨60, _⟩ => ⟨S128x1x16x32, .f32⟩
  | .hbm, ⟨61, _⟩ => ⟨S128x1x16x32, .f32⟩
  | .hbm, ⟨62, _⟩ => ⟨S1x1x1x32, .f32⟩
  | .hbm, ⟨63, _⟩ => ⟨S128x1x16x32, .f32⟩
  | .hbm, ⟨64, _⟩ => ⟨S128x1x16x32, .f32⟩
  | .hbm, ⟨65, _⟩ => ⟨S128x1x16x32, .f32⟩
  | .hbm, ⟨66, _⟩ => ⟨S128x1x16x64, .f32⟩
  | .hbm, ⟨67, _⟩ => ⟨S512, .f32⟩
  | .hbm, ⟨68, _⟩ => ⟨S128x1x512, .f32⟩
  | .hbm, ⟨69, _⟩ => ⟨S_, .f32⟩
  | .hbm, ⟨70, _⟩ => ⟨S128x1, .f32⟩
  | .hbm, ⟨71, _⟩ => ⟨S128x1x1, .f32⟩
  | .hbm, ⟨72, _⟩ => ⟨S_, .f32⟩
  | .hbm, ⟨73, _⟩ => ⟨S128x1x1, .f32⟩
  | .hbm, ⟨74, _⟩ => ⟨S128x1x1, .f32⟩
  | .hbm, ⟨75, _⟩ => ⟨S_, .f32⟩
  | .hbm, ⟨76, _⟩ => ⟨S128x1x1, .f32⟩
  | .hbm, ⟨77, _⟩ => ⟨S128x1x1, .f32⟩
  | .hbm, ⟨78, _⟩ => ⟨S128x1x1, .f32⟩
  | .hbm, ⟨79, _⟩ => ⟨S128x1x512, .f32⟩
  | .hbm, ⟨80, _⟩ => ⟨S128x1x512, .f32⟩
  | .hbm, ⟨81, _⟩ => ⟨S1x1x512, .f32⟩
  | .hbm, ⟨82, _⟩ => ⟨S128x1x512, .f32⟩
  | .hbm, ⟨83, _⟩ => ⟨S128x1x512, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S32, .f32⟩
  | .hbm, ⟨91, _⟩ => ⟨S32, .f32⟩
  | .hbm, ⟨92, _⟩ => ⟨S1, .f32⟩
  | .hbm, ⟨93, _⟩ => ⟨S1x1, .f32⟩
  | .hbm, ⟨94, _⟩ => ⟨S1x32, .f32⟩
  | .hbm, ⟨95, _⟩ => ⟨S1x32, .f32⟩
  | .hbm, ⟨96, _⟩ => ⟨S1x32, .f32⟩
  | .hbm, ⟨97, _⟩ => ⟨S1x32, .f32⟩
  | .hbm, ⟨98, _⟩ => ⟨S1x32, .f32⟩
  | .hbm, ⟨99, _⟩ => ⟨S128x1x32, .f32⟩
  | .hbm, ⟨100, _⟩ => ⟨S128x1x32, .f32⟩
  | .hbm, ⟨101, _⟩ => ⟨S1x1x32, .f32⟩
  | .hbm, ⟨102, _⟩ => ⟨S128x1x32, .f32⟩
  | .hbm, ⟨103, _⟩ => ⟨S128x1x32, .f32⟩
  | .hbm, ⟨104, _⟩ => ⟨S1x1x32, .f32⟩
  | .hbm, ⟨105, _⟩ => ⟨S128x1x32, .f32⟩
  | .hbm, ⟨106, _⟩ => ⟨S128x1x32, .f32⟩
  | .hbm, ⟨107, _⟩ => ⟨S128x1x32, .f32⟩
  | .hbm, ⟨108, _⟩ => ⟨S1x1x32, .f32⟩
  | .hbm, ⟨109, _⟩ => ⟨S128x1x32, .f32⟩
  | .hbm, ⟨110, _⟩ => ⟨S128x1x32, .f32⟩
  | .hbm, ⟨111, _⟩ => ⟨S1x1x32, .f32⟩
  | .hbm, ⟨112, _⟩ => ⟨S128x1x32, .f32⟩
  | .hbm, ⟨113, _⟩ => ⟨S128x1x32, .f32⟩
  | .hbm, ⟨114, _⟩ => ⟨S128x1x32, .f32⟩
  | .hbm, ⟨115, _⟩ => ⟨S128x1x64, .f32⟩
  | .hbm, ⟨116, _⟩ => ⟨S128x1x16x128, .bf16⟩
  | .hbm, ⟨117, _⟩ => ⟨S128x1x16x64, .bf16⟩
  | .hbm, ⟨118, _⟩ => ⟨S1x128x1x512, .f32⟩
  | .hbm, ⟨119, _⟩ => ⟨S1x128x1x64, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩

abbrev nD : Nat := 1
abbrev τ : Topo := Topo.v7x

variable {F : FTy → Type} [FloatOps F]
-- ==== SampleIn.lean ====
abbrev S128x1x4096 : Shape := ⟨3, ![128, 1, 4096]⟩
abbrev S1x4096x6752 : Shape := ⟨3, ![1, 4096, 6752]⟩
abbrev S128x4096 : Shape := ⟨2, ![128, 4096]⟩
abbrev S4096x6752 : Shape := ⟨2, ![4096, 6752]⟩
abbrev S6752x4096 : Shape := ⟨2, ![6752, 4096]⟩
abbrev S64x4096 : Shape := ⟨2, ![64, 4096]⟩
abbrev S3072x4096 : Shape := ⟨2, ![3072, 4096]⟩
abbrev S1024x4096 : Shape := ⟨2, ![1024, 4096]⟩
abbrev S2048x4096 : Shape := ⟨2, ![2048, 4096]⟩
abbrev S512x4096 : Shape := ⟨2, ![512, 4096]⟩
abbrev S32x4096 : Shape := ⟨2, ![32, 4096]⟩
abbrev S_ : Shape := ⟨0, ![]⟩
abbrev S96x4096 : Shape := ⟨2, ![96, 4096]⟩
abbrev S6912x4096 : Shape := ⟨2, ![6912, 4096]⟩
abbrev S128x6912 : Shape := ⟨2, ![128, 6912]⟩
abbrev S768x4096 : Shape := ⟨2, ![768, 4096]⟩
abbrev S128x768 : Shape := ⟨2, ![128, 768]⟩
abbrev S128x2048 : Shape := ⟨2, ![128, 2048]⟩
abbrev S128x3072 : Shape := ⟨2, ![128, 3072]⟩
abbrev S128x32 : Shape := ⟨2, ![128, 32]⟩
abbrev S128x1024 : Shape := ⟨2, ![128, 1024]⟩
abbrev S128x512 : Shape := ⟨2, ![128, 512]⟩
abbrev S128x64 : Shape := ⟨2, ![128, 64]⟩
abbrev S128x6752 : Shape := ⟨2, ![128, 6752]⟩
abbrev S128x1x6752 : Shape := ⟨3, ![128, 1, 6752]⟩

abbrev nBuf : Space → Nat
  | .hbm => 27
  | .vmem => 6
  | .smem => 0
  | _ => 0

abbrev bufTy : (tb : Table) → Fin (tcTables nBuf tb) → BufTy
  | .hbm, ⟨0, _⟩ => ⟨S128x1x4096, .f32⟩
  | .hbm, ⟨1, _⟩ => ⟨S1x4096x6752, .f32⟩
  | .hbm, ⟨2, _⟩ => ⟨S128x4096, .f32⟩
  | .hbm, ⟨3, _⟩ => ⟨S4096x6752, .f32⟩
  | .hbm, ⟨4, _⟩ => ⟨S6752x4096, .f32⟩
  | .hbm, ⟨5, _⟩ => ⟨S64x4096, .f32⟩
  | .hbm, ⟨6, _⟩ => ⟨S3072x4096, .f32⟩
  | .hbm, ⟨7, _⟩ => ⟨S1024x4096, .f32⟩
  | .hbm, ⟨8, _⟩ => ⟨S2048x4096, .f32⟩
  | .hbm, ⟨9, _⟩ => ⟨S512x4096, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S32x4096, .f32⟩
  | .hbm, ⟨14, _⟩ => ⟨S_, .f32⟩
  | .hbm, ⟨15, _⟩ => ⟨S96x4096, .f32⟩
  | .hbm, ⟨16, _⟩ => ⟨S6912x4096, .f32⟩
  | .hbm, ⟨17, _⟩ => ⟨S6912x4096, .bf16⟩
  | .hbm, ⟨18, _⟩ => ⟨S128x6912, .f32⟩
  | .hbm, ⟨19, _⟩ => ⟨S128x2048, .f32⟩
  | .hbm, ⟨20, _⟩ => ⟨S128x3072, .f32⟩
  | .hbm, ⟨21, _⟩ => ⟨S128x32, .f32⟩
  | .hbm, ⟨22, _⟩ => ⟨S128x1024, .f32⟩
  | .hbm, ⟨23, _⟩ => ⟨S128x512, .f32⟩
  | .hbm, ⟨24, _⟩ => ⟨S128x64, .f32⟩
  | .hbm, ⟨25, _⟩ => ⟨S128x6752, .f32⟩
  | .hbm, ⟨26, _⟩ => ⟨S128x1x6752, .f32⟩
  | .local _ .vmem, ⟨0, _⟩ => ⟨S128x4096, .f32⟩
  | .local _ .vmem, ⟨1, _⟩ => ⟨S768x4096, .bf16⟩
  | .local _ .vmem, ⟨2, _⟩ => ⟨S768x4096, .bf16⟩
  | .local _ .vmem, ⟨3, _⟩ => ⟨S128x768, .f32⟩
  | .local _ .vmem, ⟨4, _⟩ => ⟨S128x768, .f32⟩
  | .local _ .vmem, ⟨5, _⟩ => ⟨S128x4096, .bf16⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SampleInRefIdeal.lean ====
abbrev S128x1x4096 : Shape := ⟨3, ![128, 1, 4096]⟩
abbrev S1x4096x6752 : Shape := ⟨3, ![1, 4096, 6752]⟩
abbrev S4096x6752 : Shape := ⟨2, ![4096, 6752]⟩
abbrev S128x1x6752 : Shape := ⟨3, ![128, 1, 6752]⟩

abbrev nBuf : Space → Nat
  | .hbm => 4
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S1x4096x6752, .f32⟩
  | .hbm, ⟨2, _⟩ => ⟨S4096x6752, .f32⟩
  | .hbm, ⟨3, _⟩ => ⟨S128x1x6752, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.InProj.lean ====
/-
  The input projection kernel, read at an index: what its grid leaves in its array, and the packed weights' rows.
-/
module

public import proofs.«01_k».proof.Defs
public import proofs.«01_k».proof.Proof.Gen.InProjIdeal
public import proofs.«01_k».proof.Proof.Gen.InProjRefIdeal
public import proofs.«01_k».proof.Proof.Gen.InProjIdeal.Frame
public import proofs.«01_k».proof.Proof.Gen.InProjRefIdeal.Run
public import proofs.«01_k».proof.Proof.Gen.InProjRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.InProj

open Cert.InProjIdeal Cert.InProjIdeal.Gen
open Idealize.ShloMosaic Idealize.ShloMosaic.TcCoe Idealize.SL.Sem
open Idealize.ShloMosaic.Tactic Idealize.ShloMosaic.Pointwise

/-- The store of a grid point: the products of its rows with its packed columns. -/
theorem point_first (c : Dev nD) (i : grid0.Coords) (arg2 : Memref sig .tc .vmem S512x4096 .f32) (harg2 : arg2.IsWhole) (arg3 : Memref sig .tc .vmem S768x4096 .bf16) (harg3 : arg3.IsWhole) (arg4 : Memref sig .tc .vmem S512x768 .f32) (harg4 : arg4.IsWhole) (arg5 : Memref sig .tc .vmem S512x4096 .bf16) (harg5 : arg5.IsWhole) (hc0 : cond0_0 i)
    (x0 : Vec Ideal S512x4096 .f32) (x1 : Vec Ideal S768x4096 .bf16) (r : Fin 512) (e : Fin 768) :
    (out0_A_2 c i arg2 harg2 arg3 harg3 arg4 harg4 arg5 harg5 hc0 x0 x1 (ix2 r e) : EReal)
      = ∑ k : Fin 4096, (x0 (ix2 r k) : EReal) * (x1 (ix2 e k) : EReal) := by
  frame_out
  unfold_payloads
  pointwise

theorem point_next (c : Dev nD) (i : grid0.Coords) (arg2 : Memref sig .tc .vmem S512x4096 .f32) (harg2 : arg2.IsWhole) (arg3 : Memref sig .tc .vmem S768x4096 .bf16) (harg3 : arg3.IsWhole) (arg4 : Memref sig .tc .vmem S512x768 .f32) (harg4 : arg4.IsWhole) (arg5 : Memref sig .tc .vmem S512x4096 .bf16) (harg5 : arg5.IsWhole) (hc0 : ¬cond0_0 i)
    (x0 : Vec Ideal S512x4096 .f32) (x1 : Vec Ideal S768x4096 .bf16) (xs : Vec Ideal S512x4096 .bf16) (r : Fin 512) (e : Fin 768) :
    (out0_B_2 c i arg2 harg2 arg3 harg3 arg4 harg4 arg5 harg5 hc0 x0 x1 xs (ix2 r e) : EReal)
      = ∑ k : Fin 4096, (xs (ix2 r k) : EReal) * (x1 (ix2 e k) : EReal) := by
  frame_out
  unfold_payloads
  pointwise

/-- The copy of its rows that the first point of a run keeps. -/
theorem kept_first (c : Dev nD) (i : grid0.Coords) (arg2 : Memref sig .tc .vmem S512x4096 .f32) (harg2 : arg2.IsWhole) (arg3 : Memref sig .tc .vmem S768x4096 .bf16) (harg3 : arg3.IsWhole) (arg4 : Memref sig .tc .vmem S512x768 .f32) (harg4 : arg4.IsWhole) (arg5 : Memref sig .tc .vmem S512x4096 .bf16) (harg5 : arg5.IsWhole) (hc0 : cond0_0 i)
    (x0 : Vec Ideal S512x4096 .f32) (x1 : Vec Ideal S768x4096 .bf16) (j : S512x4096.Idx) :
    (sout0_A_0 c i arg2 harg2 arg3 harg3 arg4 harg4 arg5 harg5 hc0 x0 x1 j : EReal) = (x0 j : EReal) := by
  frame_out
  unfold_payloads
  pointwise

theorem kept_next (c : Dev nD) (i : grid0.Coords) (arg2 : Memref sig .tc .vmem S512x4096 .f32) (harg2 : arg2.IsWhole) (arg3 : Memref sig .tc .vmem S768x4096 .bf16) (harg3 : arg3.IsWhole) (arg4 : Memref sig .tc .vmem S512x768 .f32) (harg4 : arg4.IsWhole) (arg5 : Memref sig .tc .vmem S512x4096 .bf16) (harg5 : arg5.IsWhole) (hc0 : ¬cond0_0 i)
    (x0 : Vec Ideal S512x4096 .f32) (x1 : Vec Ideal S768x4096 .bf16) (xs : Vec Ideal S512x4096 .bf16) (j : S512x4096.Idx) :
    (sout0_B_0 c i arg2 harg2 arg3 harg3 arg4 harg4 arg5 harg5 hc0 x0 x1 xs j : EReal) = (xs j : EReal) := rfl

variable (m : (ℓ : Loc nD τ sig) → Buf (Elt Ideal) ℓ) (c : Dev nD)

theorem idx0 : ∀ t : Fin grid0.N, win0_0.index t = ![t.val / 9, 0] := by decide +kernel
theorem idx1 : ∀ t : Fin grid0.N, win0_1.index t = ![t.val % 9, 0] := by decide +kernel
theorem idx2 : ∀ t : Fin grid0.N, win0_2.index t = ![t.val / 9, t.val % 9] := by decide +kernel

theorem lt_grid (t : Fin cfg0.N) : t.val < 144 := t.isLt

theorem block0 (t : Fin cfg0.N) (r : Fin 512) (k : Fin 4096) :
    (iblk m c 0 t : Vec Ideal S512x4096 .f32) (ix2 r k) = V m c main_v0 (ix2 ⟨512 * (t.val / 9) + r.val, by have := lt_grid t; omega⟩ k) := by
  blk_ext [iblk, idx0 t]

theorem block1 (t : Fin cfg0.N) (e : Fin 768) (k : Fin 4096) :
    (iblk m c 1 t : Vec Ideal S768x4096 .bf16) (ix2 e k) = V m c main_v14 (ix2 ⟨768 * (t.val % 9) + e.val, by have := lt_grid t; omega⟩ k) := by
  blk_ext [iblk, idx1 t]

/-- At every point of a run the kept rows are the run's rows. -/
theorem kept (t : Fin cfg0.N) (j : S512x4096.Idx) :
    ((outsAt0 m c t.val t.isLt).2 j : EReal)
      = (iblk m c 0 ⟨9 * (t.val / 9), Pipeline.run_start_lt t⟩ : Vec Ideal S512x4096 .f32) j := by
  refine Pipeline.eq_of_write_hold_apply (fun n hn j => ((outsAt0 m c n hn).2 j : EReal)) 9
    (fun t j => ((iblk m c 0 t : Vec Ideal S512x4096 .f32) j : EReal)) ?_ ?_ t j
  · intro t h j
    refine (congrArg (fun p : Vec Ideal S512x768 .f32 × Vec Ideal S512x4096 .bf16 => (p.2 j : EReal)) (outsAt0_A m c t h)).trans ?_
    dsimp only
    exact kept_first ..
  · intro t h j
    refine (congrArg (fun p : Vec Ideal S512x768 .f32 × Vec Ideal S512x4096 .bf16 => (p.2 j : EReal)) (outsAt0_B m c t h)).trans ?_
    dsimp only
    exact kept_next ..

/-- The rows and the packed columns the call is given. -/
abbrev rows : FVec Ideal S8192x4096 .f32 := V m c main_v0
abbrev packed : FVec Ideal S6912x4096 .bf16 := V m c main_v14

/-- The product the call makes of a row and a packed column. -/
def product : FVec Ideal S8192x6912 .f32 := fun i =>
  ∑ k : Fin 4096, (rows m c (ix2 (i 0) k) : EReal) * (packed m c (ix2 (i 1) k) : EReal)

theorem product_at (R : Fin 8192) (C : Fin 6912) : (product m c (ix2 R C) : EReal)
    = ∑ k : Fin 4096, (rows m c (ix2 R k) : EReal) * (packed m c (ix2 C k) : EReal) := rfl

theorem block_at (t : Fin cfg0.N) (r : Fin 512) (e : Fin 768) :
    ((outsAt0 m c t.val t.isLt).1 (ix2 r e) : EReal)
      = product m c (ix2 ⟨512 * (t.val / 9) + r.val, by have := lt_grid t; omega⟩ ⟨768 * (t.val % 9) + e.val, by omega⟩) := by
  rw [product_at]
  have ht := lt_grid t
  by_cases h : t.val % 9 = 0
  · refine (congrArg (fun p : Vec Ideal S512x768 .f32 × Vec Ideal S512x4096 .bf16 => (p.1 (ix2 r e) : EReal)) (outsAt0_A m c t h)).trans ?_
    dsimp only
    refine (point_first ..).trans (Finset.sum_congr rfl fun k _ => ?_)
    rw [block0, block1]
  · refine (congrArg (fun p : Vec Ideal S512x768 .f32 × Vec Ideal S512x4096 .bf16 => (p.1 (ix2 r e) : EReal)) (outsAt0_B m c t h)).trans ?_
    dsimp only
    refine (point_next ..).trans (Finset.sum_congr rfl fun k _ => ?_)
    rw [block1]
    refine congrArg₂ (· * ·) ?_ rfl
    refine (kept m c ⟨t.val - 1, by omega⟩ (ix2 r k)).trans ?_
    rw [block0]
    congr 2
    refine Fin.ext ?_
    show 512 * (9 * ((t.val - 1) / 9) / 9) + r.val = 512 * (t.val / 9) + r.val
    omega

theorem array : (dats m 0 c).arrAt 2 cfg0.N = product m c := by
  refine (dats m 0 c).arrAt_eq_of_covers 2 _ (by decide +kernel) fun t hf y => ?_
  blk_simp
  rw [after0_2]
  have hb := block_at m c t (y 0) (y 1)
  refine Eq.trans ?_ (hb.trans ?_)
  · refine congrArg (fun z : S512x768.Idx => ((outsAt0 m c t.val t.isLt).1 z : EReal)) ?_
    funext a
    fin_cases a <;> rfl
  · blk_ext [idx2 t]

abbrev a0 : FVec Ideal S4x2048x4096 .f32 := m (c, Proc.tc.devRef main_arg0)
abbrev a1 : FVec Ideal S1x4096x6752 .f32 := m (c, Proc.tc.devRef main_arg1)

theorem rows_at (b : Fin 4) (t : Fin 2048) (k : Fin 4096) :
    (rows m c (ix2 ⟨b.val * 2048 + t.val, by omega⟩ k) : EReal) = a0 m c (ix3 b t k) := by
  unfold rows V
  after_reads_at

set_option maxHeartbeats 2000000 in
theorem packed_at (C : Fin 6912) (e : Fin 6752) (k : Fin 4096)
    (h : (C.val < 3072 ∧ e.val = C.val + 2048) ∨ (3072 ≤ C.val ∧ C.val < 4096 ∧ e.val = C.val + 2080)
      ∨ (4096 ≤ C.val ∧ C.val < 6144 ∧ e.val + 4096 = C.val) ∨ (6144 ≤ C.val ∧ C.val < 6656 ∧ e.val = C.val + 32)
      ∨ (6656 ≤ C.val ∧ C.val < 6720 ∧ e.val = C.val + 32) ∨ (6784 ≤ C.val ∧ C.val < 6816 ∧ e.val + 1664 = C.val)) :
    (packed m c (ix2 C k) : EReal) = a1 m c (ix3 0 k e) := by
  unfold packed V
  after_reads_at
  after_reads_simp
  set_option maxRecDepth 200000 in pointwise
  split_ifs <;> first
    | (exfalso; omega)
    | exact congrArg (fun z : Fin 6752 => (a1 m c (ix3 0 k z) : EReal)) (Fin.ext (by dsimp only; omega))

/-- Where the packed product holds a column of the layer's own order. -/
def col (e : Fin 6752) : Fin 6912 :=
  ⟨if e.val < 2048 then e.val + 4096 else if e.val < 5120 then e.val - 2048 else if e.val < 5152 then e.val + 1664
    else if e.val < 6176 then e.val - 2080 else e.val - 32, by split_ifs <;> omega⟩

theorem col_spec (e : Fin 6752) :
    ((col e).val < 3072 ∧ e.val = (col e).val + 2048) ∨ (3072 ≤ (col e).val ∧ (col e).val < 4096 ∧ e.val = (col e).val + 2080)
      ∨ (4096 ≤ (col e).val ∧ (col e).val < 6144 ∧ e.val + 4096 = (col e).val) ∨ (6144 ≤ (col e).val ∧ (col e).val < 6656 ∧ e.val = (col e).val + 32)
      ∨ (6656 ≤ (col e).val ∧ (col e).val < 6720 ∧ e.val = (col e).val + 32) ∨ (6784 ≤ (col e).val ∧ (col e).val < 6816 ∧ e.val + 1664 = (col e).val) := by
  have := e.isLt
  dsimp only [col]
  split_ifs <;> omega

/-- The result is the packed product's columns, put back in the layer's own order. -/
theorem ordered (W : Valuation τ sig (Elt Ideal)) (b : Fin 4) (t : Fin 2048) (e : Fin 6752) :
    (StableHlo.after (List.flatten [hostOps1]) W (Proc.tc.devRef main_v23) : FVec Ideal S4x2048x6752 .f32) (ix3 b t e)
      = (W (Proc.tc.devRef main_v15) : FVec Ideal S8192x6912 .f32) (ix2 ⟨b.val * 2048 + t.val, by omega⟩ (col e)) := by
  after_reads_at
  after_reads_simp
  set_option maxRecDepth 200000 in pointwise
  split_ifs <;>
    exact congrArg (fun z : Fin 6912 => (W (Proc.tc.devRef main_v15) : FVec Ideal S8192x6912 .f32) (ix2 ⟨b.val * 2048 + t.val, by omega⟩ z))
      (Fin.ext (by dsimp only [col]; split_ifs <;> omega))

/-- What the grid leaves of the call's array. -/
theorem left : (Pipeline.withArrays (cfgs 0).spec c (V0 m c) (fun w => (dats m 0 c).arrAt w (cfgs 0).N) (Proc.tc.devRef main_v15) : FVec Ideal S8192x6912 .f32)
    = product m c := by
  refine (Pipeline.withArrays_arr (cfgs 0).spec (by decide) c (V0 m c) (fun w => (dats m 0 c).arrAt w (cfgs 0).N) 2).trans ?_
  exact array m c

theorem reference_at (x : FVec Ideal S4x2048x4096 .f32) (w : FVec Ideal S1x4096x6752 .f32) (i : S4x2048x6752.Idx) :
    (Ideal.matmul Cert.InProjRefIdeal.dot_S4x2048x4096_S4096x6752_S4x2048x6752_2_0_01_1_n_n x
      (shapeCast Cert.InProjRefIdeal.S4096x6752 w Cert.InProjRefIdeal.Gen.shapeCasts_S1x4096x6752_S4096x6752)
      (fun _ => 0) i : EReal) = ∑ k : Fin 4096, (x (ix3 (i 0) (i 1) k) : EReal) * (w (ix3 0 k (i 2)) : EReal) := by
  pointwise

theorem projection : Cert.algebraic_InProjIdeal_InProjRefIdeal := by
  pair_intro
  · run_from Cert.InProjIdeal.Gen.run_main m g
    · exact W_main_arg0 m (dats m) c
    · exact W_main_arg1 m (dats m) c
  · run_from Cert.InProjRefIdeal.Value.run m' g'
    refine Eq.symm ?_
    funext i
    refine (ordered _ (i 0) (i 1) (i 2)).trans ?_
    refine (congrFun (left m c) _).trans ?_
    refine (product_at m c _ _).trans ?_
    refine Eq.trans ?_ (reference_at (m (c.tc.loc main_arg0)) (m (c.tc.loc main_arg1)) i).symm
    refine Finset.sum_congr rfl fun k _ => ?_
    exact congrArg₂ (fun u v : EReal => u * v) (rows_at m c (i 0) (i 1) k)
      (packed_at m c (col (i 2)) (i 2) k (col_spec (i 2)))

end Cert.Proof.InProj

end
-- ==== Proof.Prep.lean ====
/-
  The latent projections of the prompt, read at an index: queries, keys and values with their norms and rotations.
-/
module

public import proofs.«01_k».proof.Defs
public import proofs.«01_k».proof.Proof.Gen.PrepIdeal
public import proofs.«01_k».proof.Proof.Gen.PrepRefIdeal
public import proofs.«01_k».proof.Proof.Gen.PrepIdeal.Frame
public import proofs.«01_k».proof.Proof.Gen.PrepRefIdeal.Run
public import proofs.«01_k».proof.Proof.Gen.PrepRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Prep

open Cert.PrepIdeal Cert.PrepIdeal.Gen
open Idealize.ShloMosaic Idealize.ShloMosaic.TcCoe Idealize.SL.Sem
open Idealize.ShloMosaic.Tactic Idealize.ShloMosaic.Pointwise

/-- A row's root mean square weight at a column. -/
def normed (n : Nat) (x : Fin n → EReal) (count : EReal) (k : Fin n) (w : EReal) : EReal :=
  x k * Ideal.rsqrt (Ideal.div (∑ k : Fin n, x k * x k) count + (Ideal.ofBits .f32 0x3727C5AC#32 : EReal)) * w

/-- The rows' products with the packed query columns. -/
def raised (x0 : Vec Ideal S256x1024 .f32) (x4 : Vec Ideal S1x1024 .f32) (x6 : Vec Ideal S1024x4096 .bf16) (r : Fin 256) (C : Fin 4096) : EReal :=
  ∑ k : Fin 1024, normed 1024 (fun k => (x0 (ix2 r k) : EReal)) (Ideal.ofBits .f32 0x44800000#32) k (x4 (ix2 0 k)) * (x6 (ix2 k C) : EReal)

theorem raised_at (x0 : Vec Ideal S256x1024 .f32) (x4 : Vec Ideal S1x1024 .f32) (x6 : Vec Ideal S1024x4096 .bf16) (r : Fin 256) (C : Fin 4096) :
    (k0_pay4 x0 x4 x6 (ix2 r C) : EReal) = raised x0 x4 x6 r C := by
  unfold raised normed
  unfold_payloads
  pointwise

/-- The lower lanes keep the sum of a rotation. -/
theorem lane (l : Fin 128) (a b : EReal) (h : l.val < 64) : Scalar.select (IntOp.cmpi .slt (BitVec.ofNat 32 l.val) 64#32) a b = a := by
  have key : ∀ l : Fin 128, l.val < 64 → IntOp.cmpi .slt (BitVec.ofNat 32 l.val) 64#32 = 1#1 := by decide
  rw [key l h]
  rfl

section

variable (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1024x4096 .bf16) (harg7 : arg7.IsWhole) (arg8 : Memref sig .tc .vmem S512x4096 .bf16) (harg8 : arg8.IsWhole) (arg9 : Memref sig .tc .vmem S256x4096 .bf16) (harg9 : arg9.IsWhole) (arg10 : Memref sig .tc .vmem S256x512 .f32) (harg10 : arg10.IsWhole) (arg11 : Memref sig .tc .vmem S256x64 .f32) (harg11 : arg11.IsWhole) (arg12 : Memref sig .tc .vmem S256x4096 .bf16) (harg12 : arg12.IsWhole) (arg13 : Memref sig .tc .vmem S256x2048 .bf16) (harg13 : arg13.IsWhole)
    (x0 : Vec Ideal S256x1024 .f32) (x1 : Vec Ideal S256x512 .f32) (x2 : Vec Ideal S256x128 .f32) (x3 : Vec Ideal S256x128 .f32) (x4 : Vec Ideal S1x1024 .f32) (x5 : Vec Ideal S1x512 .f32) (x6 : Vec Ideal S1024x4096 .bf16) (x7 : Vec Ideal S512x4096 .bf16)

/-- The columns of a head without position: the products as they are. -/
theorem point_qn (r : Fin 256) (C : Fin 4096) (hC : C.val % 256 < 128) :
    (out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r C) : EReal) = (k0_pay4 x0 x4 x6 (ix2 r C) : EReal) := by
  frame_out
  canon_tiles y h
  all_goals
    have e : (C : ℕ) = ↑((ix2 r C : S256x4096.Idx) 1) := rfl
    have e0 : (r : ℕ) = ↑((ix2 r C : S256x4096.Idx) 0) := rfl
    first
      | (exfalso; omega)
      | skip
  all_goals
    idx_vars y
    open_payloads
    pointwise
    cases Fin.ext h0
    exact congrArg (fun z : Fin 4096 => (k0_pay4 x0 x4 x6 (ix2 r z) : EReal)) (Fin.ext (by dsimp only; omega))

/-- The columns of a head with position: the two halves of the rotation added. -/
theorem point_qr (r : Fin 256) (C : Fin 4096) (l : Fin 64) (hC : C.val % 256 = 128 + l.val) :
    (out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r C) : EReal)
      = (k0_pay4 x0 x4 x6 (ix2 r C) : EReal) * (x3 (ix2 r ⟨l.val, by omega⟩) : EReal)
        + (k0_pay4 x0 x4 x6 (ix2 r ⟨C.val + 64, by omega⟩) : EReal) * (x3 (ix2 r ⟨l.val + 64, by omega⟩) : EReal) := by
  frame_out
  canon_tiles y h
  all_goals
    have e : (C : ℕ) = ↑((ix2 r C : S256x4096.Idx) 1) := rfl
    have e0 : (r : ℕ) = ↑((ix2 r C : S256x4096.Idx) 0) := rfl
    first
      | (exfalso; omega)
      | skip
  all_goals
    idx_vars y
    open_payloads
    pointwise
    cases Fin.ext h0
    rw [lane y1 _ _ (by omega)]
    refine congrArg₂ (fun u v : EReal => u + v) (congrArg₂ (fun u v : EReal => u * v) ?_ ?_) (congrArg₂ (fun u v : EReal => u * v) ?_ ?_)
    · exact congrArg (fun z : Fin 4096 => (k0_pay4 x0 x4 x6 (ix2 r z) : EReal)) (Fin.ext (by dsimp only; omega))
    · exact congrArg (fun z : Fin 128 => (x3 (ix2 r z) : EReal)) (Fin.ext (by dsimp only; omega))
    · exact congrArg (fun z : Fin 4096 => (k0_pay4 x0 x4 x6 (ix2 r z) : EReal)) (Fin.ext (by dsimp only; omega))
    · exact congrArg (fun z : Fin 128 => (x3 (ix2 r z) : EReal)) (Fin.ext (by dsimp only; omega))

theorem point_c (r : Fin 256) (k : Fin 512) :
    (out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r k) : EReal) = normed 512 (fun k => (x1 (ix2 r k) : EReal)) (Ideal.ofBits .f32 0x44000000#32) k (x5 (ix2 0 k)) := by
  unfold normed
  frame_out
  unfold_payloads
  pointwise

theorem point_r (r : Fin 256) (l : Fin 64) :
    (out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l) : EReal)
      = (x2 (ix2 r ⟨l.val, by omega⟩) : EReal) * (x3 (ix2 r ⟨l.val, by omega⟩) : EReal) + (x2 (ix2 r ⟨l.val + 64, by omega⟩) : EReal) * (x3 (ix2 r ⟨l.val + 64, by omega⟩) : EReal) := by
  frame_out
  unfold_payloads
  pointwise
  refine (lane ⟨l.val, by omega⟩ _ _ l.isLt).trans ?_
  refine congrArg₂ (fun u v : EReal => u + v) rfl (congrArg₂ (fun u v : EReal => u * v) ?_ ?_)
  · exact congrArg (fun z : Fin 128 => (x2 (ix2 r z) : EReal)) (Fin.ext (by dsimp only; omega))
  · exact congrArg (fun z : Fin 128 => (x3 (ix2 r z) : EReal)) (Fin.ext (by dsimp only; omega))

theorem point_k (r : Fin 256) (C : Fin 4096) (hC : C.val % 256 < 128) :
    (out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r C) : EReal)
      = ∑ k : Fin 512, normed 512 (fun k => (x1 (ix2 r k) : EReal)) (Ideal.ofBits .f32 0x44000000#32) k (x5 (ix2 0 k))
          * (x7 (ix2 k ⟨C.val / 256 * 128 + C.val % 256, by omega⟩) : EReal) := by
  frame_out
  canon_tiles y h
  all_goals
    have e : (C : ℕ) = ↑((ix2 r C : S256x4096.Idx) 1) := rfl
    have e0 : (r : ℕ) = ↑((ix2 r C : S256x4096.Idx) 0) := rfl
    first
      | (exfalso; omega)
      | skip
  all_goals
    idx_vars y
    unfold normed
    open_payloads
    pointwise
    cases Fin.ext h0
    refine Finset.sum_congr rfl fun k _ => ?_
    refine congrArg₂ (fun u v : EReal => u * v) rfl ?_
    exact congrArg (fun z : Fin 4096 => (x7 (ix2 k z) : EReal)) (Fin.ext (by dsimp only; omega))

theorem point_v (r : Fin 256) (C : Fin 2048) :
    (out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r C) : EReal)
      = ∑ k : Fin 512, normed 512 (fun k => (x1 (ix2 r k) : EReal)) (Ideal.ofBits .f32 0x44000000#32) k (x5 (ix2 0 k))
          * (x7 (ix2 k ⟨2048 + C.val, by omega⟩) : EReal) := by
  unfold normed
  frame_out
  unfold_payloads
  pointwise

end

variable (m : (ℓ : Loc nD τ sig) → Buf (Elt Ideal) ℓ) (c : Dev nD)

theorem idx0 : ∀ t : Fin grid0.N, win0_0.index t = ![t.val, 3] := by decide +kernel
theorem idx1 : ∀ t : Fin grid0.N, win0_1.index t = ![t.val, 12] := by decide +kernel
theorem idx2 : ∀ t : Fin grid0.N, win0_2.index t = ![t.val, 52] := by decide +kernel
theorem idx3 : ∀ t : Fin grid0.N, win0_3.index t = ![t.val % 8, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel

theorem lt_grid (t : Fin cfg0.N) : t.val < 32 := t.isLt

/-- The operands the call is given. -/
abbrev rows : FVec Ideal S8192x6912 .f32 := V m c main_v25
abbrev table : FVec Ideal S2048x128 .f32 := V m c main_v41
abbrev qw : FVec Ideal S1x1024 .f32 := V m c main_v43
abbrev cw : FVec Ideal S1x512 .f32 := V m c main_v45
abbrev wq : FVec Ideal S1024x4096 .bf16 := V m c main_v9
abbrev wkv : FVec Ideal S512x4096 .bf16 := V m c main_v15

/-- The row of the whole array that a point's block has at a place, and the row of the rotation table. -/
def row (t : Fin cfg0.N) (r : Fin 256) : Fin 8192 := ⟨256 * t.val + r.val, by have := lt_grid t; omega⟩
def turn (R : Fin 8192) : Fin 2048 := ⟨R.val % 2048, by omega⟩

theorem block0 (t : Fin cfg0.N) (r : Fin 256) (k : Fin 1024) :
    (X0_0 m c t (ix2 r k) : EReal) = rows m c (ix2 (row t r) ⟨3072 + k.val, by omega⟩) := by
  unfold X0_0 Pipeline.Window.fill
  rw [dif_pos (moved0_0 t _)]
  blk_ext [iblk, idx0 t, row]

theorem block1 (t : Fin cfg0.N) (r : Fin 256) (k : Fin 512) :
    (X0_1 m c t (ix2 r k) : EReal) = rows m c (ix2 (row t r) ⟨6144 + k.val, by omega⟩) := by
  unfold X0_1 Pipeline.Window.fill
  rw [dif_pos (moved0_1 t _)]
  blk_ext [iblk, idx1 t, row]

theorem block2 (t : Fin cfg0.N) (r : Fin 256) (l : Fin 128) :
    ((iblk m c 2 t : Vec Ideal S256x128 .f32) (ix2 r l) : EReal) = rows m c (ix2 (row t r) ⟨6656 + l.val, by omega⟩) := by
  blk_ext [iblk, idx2 t, row]

theorem block3 (t : Fin cfg0.N) (r : Fin 256) (l : Fin 128) :
    ((iblk m c 3 t : Vec Ideal S256x128 .f32) (ix2 r l) : EReal) = table m c (ix2 (turn (row t r)) l) := by
  have := lt_grid t
  blk_ext [iblk, idx3 t, row, turn]

theorem block4 (t : Fin cfg0.N) (k : Fin 1024) :
    ((iblk m c 4 t : Vec Ideal S1x1024 .f32) (ix2 0 k) : EReal) = qw m c (ix2 0 k) := by
  blk_ext [iblk, idx4 t]

theorem block5 (t : Fin cfg0.N) (k : Fin 512) :
    ((iblk m c 5 t : Vec Ideal S1x512 .f32) (ix2 0 k) : EReal) = cw m c (ix2 0 k) := by
  blk_ext [iblk, idx5 t]

theorem block6 (t : Fin cfg0.N) (k : Fin 1024) (C : Fin 4096) :
    ((iblk m c 6 t : Vec Ideal S1024x4096 .bf16) (ix2 k C) : EReal) = wq m c (ix2 k C) := by
  blk_ext [iblk, idx6 t]

theorem block7 (t : Fin cfg0.N) (k : Fin 512) (C : Fin 4096) :
    ((iblk m c 7 t : Vec Ideal S512x4096 .bf16) (ix2 k C) : EReal) = wkv m c (ix2 k C) := by
  blk_ext [iblk, idx7 t]

/-- A row's normed query latent, and its products with the packed query columns. -/
def qlat (R : Fin 8192) (k : Fin 1024) : EReal :=
  normed 1024 (fun k => (rows m c (ix2 R ⟨3072 + k.val, by omega⟩) : EReal)) (Ideal.ofBits .f32 0x44800000#32) k (qw m c (ix2 0 k))
def lat (R : Fin 8192) (k : Fin 512) : EReal :=
  normed 512 (fun k => (rows m c (ix2 R ⟨6144 + k.val, by omega⟩) : EReal)) (Ideal.ofBits .f32 0x44000000#32) k (cw m c (ix2 0 k))
def up (R : Fin 8192) (C : Fin 4096) : EReal := ∑ k : Fin 1024, qlat m c R k * (wq m c (ix2 k C) : EReal)
def kv (R : Fin 8192) (C : Fin 4096) : EReal := ∑ k : Fin 512, lat m c R k * (wkv m c (ix2 k C) : EReal)

theorem up_at (t : Fin cfg0.N) (r : Fin 256) (C : Fin 4096) :
    (k0_pay4 (X0_0 m c t) (iblk m c 4 t) (iblk m c 6 t) (ix2 r C) : EReal) = up m c (row t r) C := by
  rw [raised_at]
  unfold raised up qlat
  refine Finset.sum_congr rfl fun k _ => ?_
  rw [block4, block6]
  refine congrArg₂ (fun u v : EReal => u * v) ?_ rfl
  exact congrArg (fun f : Fin 1024 → EReal => normed 1024 f (Ideal.ofBits .f32 0x44800000#32) k (qw m c (ix2 0 k))) (funext fun k => block0 m c t r k)

theorem lat_at (t : Fin cfg0.N) (r : Fin 256) (k : Fin 512) :
    normed 512 (fun k => (X0_1 m c t (ix2 r k) : EReal)) (Ideal.ofBits .f32 0x44000000#32) k ((iblk m c 5 t : Vec Ideal S1x512 .f32) (ix2 0 k))
      = lat m c (row t r) k := by
  unfold lat
  rw [block5]
  exact congrArg (fun f : Fin 512 → EReal => normed 512 f (Ideal.ofBits .f32 0x44000000#32) k (cw m c (ix2 0 k))) (funext fun k => block1 m c t r k)

/-- What the columns of the arrays hold that the results are cut from. -/
def Asked (i : S8192x4096.Idx) (v : EReal) : Prop :=
  ((i 1).val % 256 < 128 → v = up m c (i 0) (i 1)) ∧
  (∀ l : Fin 64, (i 1).val % 256 = 128 + l.val → ∀ C' : Fin 4096, C'.val = (i 1).val + 64 →
    v = up m c (i 0) (i 1) * (table m c (ix2 (turn (i 0)) ⟨l.val, by omega⟩) : EReal)
      + up m c (i 0) C' * (table m c (ix2 (turn (i 0)) ⟨l.val + 64, by omega⟩) : EReal))

theorem asked_at (t : Fin cfg0.N) (r : Fin 256) (C : Fin 4096) : Asked m c (ix2 (row t r) C) ((outsAt0 m c t).1 (ix2 r C)) := by
  unfold outsAt0
  dsimp only
  refine ⟨fun h => ?_, fun l h C' hC' => ?_⟩
  · exact (point_qn (C := C) (hC := h) ..).trans (up_at m c t r C)
  · have h' : C.val % 256 = 128 + l.val := h
    have hx : C.val + 64 < 4096 := by clear hC'; omega
    obtain rfl : C' = ⟨C.val + 64, hx⟩ := Fin.ext hC'
    refine (point_qr (C := C) (l := l) (hC := h') ..).trans ?_
    rw [up_at, up_at, block3, block3]
    rfl

theorem asked (i : S8192x4096.Idx) : Asked m c i ((dats m 0 c).arrAt 8 cfg0.N i) := by
  refine (dats m 0 c).arrAt_forall_of_covers 8 (fun i v => Asked m c i v) (by decide +kernel) (fun t hf y => ?_) i
  blk_simp
  rw [after0_8]
  have hb := asked_at m c t (y 0) (y 1)
  have e : (win0_8.blk t).view.emb y = ix2 (row t (y 0)) (y 1) := by
    blk_ext [idx8 t, row]
  have e' : y = ix2 (y 0) (y 1) := by
    funext a
    fin_cases a <;> rfl
  rw [e]
  exact Eq.mpr (congrArg (fun z : S256x4096.Idx => Asked m c (ix2 (row t (y 0)) (y 1)) ((outsAt0 m c t).1 z)) e') hb

theorem latents (R : Fin 8192) (k : Fin 512) : ((dats m 0 c).arrAt 9 cfg0.N (ix2 R k : S8192x512.Idx) : EReal) = lat m c R k := by
  refine (dats m 0 c).arrAt_forall_of_covers 9 (fun (i : S8192x512.Idx) (v : EReal) => v = lat m c (i 0) (i 1)) (by decide +kernel) (fun t hf y => ?_) (ix2 R k)
  blk_simp
  rw [after0_9]
  have hb : ((outsAt0 m c t).2.1 (ix2 (y 0) (y 1)) : EReal) = lat m c (row t (y 0)) (y 1) := by
    unfold outsAt0
    dsimp only
    exact (point_c ..).trans (lat_at m c t (y 0) (y 1))
  have e : (win0_9.blk t).view.emb y = ix2 (row t (y 0)) (y 1) := by
    blk_ext [idx9 t, row]
  have e' : y = ix2 (y 0) (y 1) := by
    funext a
    fin_cases a <;> rfl
  rw [e]
  exact (congrArg (fun z : S256x512.Idx => ((outsAt0 m c t).2.1 z : EReal)) e').trans hb

/-- The rotated shared key of a row. -/
def rotated (R : Fin 8192) (l : Fin 64) : EReal :=
  (rows m c (ix2 R ⟨6656 + l.val, by omega⟩) : EReal) * (table m c (ix2 (turn R) ⟨l.val, by omega⟩) : EReal)
    + (rows m c (ix2 R ⟨6656 + (l.val + 64), by omega⟩) : EReal) * (table m c (ix2 (turn R) ⟨l.val + 64, by omega⟩) : EReal)

theorem rotations (R : Fin 8192) (l : Fin 64) : ((dats m 0 c).arrAt 10 cfg0.N (ix2 R l : S8192x64.Idx) : EReal) = rotated m c R l := by
  refine (dats m 0 c).arrAt_forall_of_covers 10 (fun (i : S8192x64.Idx) (v : EReal) => v = rotated m c (i 0) (i 1)) (by decide +kernel) (fun t hf y => ?_) (ix2 R l)
  blk_simp
  rw [after0_10]
  have hb : ∀ (r : Fin 256) (l : Fin 64), ((outsAt0 m c t).2.2.1 (ix2 r l) : EReal) = rotated m c (row t r) l := by
    intro r l
    unfold outsAt0 rotated
    dsimp only
    refine (point_r ..).trans ?_
    rw [block2, block2, block3, block3]
  have e : (win0_10.blk t).view.emb y = ix2 (row t (y 0)) (y 1) := by
    blk_ext [idx10 t, row]
  have e' : y = ix2 (y 0) (y 1) := by
    funext a
    fin_cases a <;> rfl
  rw [e]
  exact (congrArg (fun z : S256x64.Idx => ((outsAt0 m c t).2.2.1 z : EReal)) e').trans (hb (y 0) (y 1))

theorem keys (R : Fin 8192) (C C' : Fin 4096) (hC : C.val % 256 < 128) (hC' : C'.val = C.val / 256 * 128 + C.val % 256) :
    ((dats m 0 c).arrAt 11 cfg0.N (ix2 R C : S8192x4096.Idx) : EReal) = kv m c R C' := by
  refine ((dats m 0 c).arrAt_forall_of_covers 11 (fun (i : S8192x4096.Idx) (v : EReal) => (i 1).val % 256 < 128 →
    ∀ C' : Fin 4096, C'.val = (i 1).val / 256 * 128 + (i 1).val % 256 → v = kv m c (i 0) C') (by decide +kernel) (fun t hf y => ?_) (ix2 R C)) hC C' hC'
  blk_simp
  rw [after0_11]
  have hb : ∀ (r : Fin 256) (C C' : Fin 4096) (hC : C.val % 256 < 128) (hC' : C'.val = C.val / 256 * 128 + C.val % 256),
      ((outsAt0 m c t).2.2.2.1 (ix2 r C) : EReal) = kv m c (row t r) C' := by
    intro r C C' hC hC'
    have hx : C.val / 256 * 128 + C.val % 256 < 4096 := by omega
    obtain rfl : C' = ⟨C.val / 256 * 128 + C.val % 256, hx⟩ := Fin.ext hC'
    unfold outsAt0 kv
    dsimp only
    refine (point_k (hC := hC) ..).trans (Finset.sum_congr rfl fun k _ => ?_)
    rw [lat_at, block7]
  have e : (win0_11.blk t).view.emb y = ix2 (row t (y 0)) (y 1) := by
    blk_ext [idx11 t, row]
  have e' : y = ix2 (y 0) (y 1) := by
    funext a
    fin_cases a <;> rfl
  rw [e]
  have h0 : win0_11.index t 1 = 0 := congrFun (idx11 t) 1
  intro h C' h'
  simp only [h0, Nat.zero_mul, Nat.zero_add] at h h'
  exact (congrArg (fun z : S256x4096.Idx => ((outsAt0 m c t).2.2.2.1 z : EReal)) e').trans (hb (y 0) (y 1) C' h h')

theorem values (R : Fin 8192) (C : Fin 2048) : ((dats m 0 c).arrAt 12 cfg0.N (ix2 R C : S8192x2048.Idx) : EReal) = kv m c R ⟨2048 + C.val, by omega⟩ := by
  refine ((dats m 0 c).arrAt_forall_of_covers 12 (fun (i : S8192x2048.Idx) (v : EReal) => ∀ C' : Fin 4096, C'.val = 2048 + (i 1).val → v = kv m c (i 0) C')
    (by decide +kernel) (fun t hf y => ?_) (ix2 R C)) ⟨2048 + C.val, by omega⟩ rfl
  blk_simp
  rw [after0_12]
  have hb : ∀ (r : Fin 256) (C : Fin 2048), ((outsAt0 m c t).2.2.2.2 (ix2 r C) : EReal) = kv m c (row t r) ⟨2048 + C.val, by omega⟩ := by
    intro r C
    unfold outsAt0 kv
    dsimp only
    refine (point_v ..).trans (Finset.sum_congr rfl fun k _ => ?_)
    rw [lat_at, block7]
  have e : (win0_12.blk t).view.emb y = ix2 (row t (y 0)) (y 1) := by
    blk_ext [idx12 t, row]
  have e' : y = ix2 (y 0) (y 1) := by
    funext a
    fin_cases a <;> rfl
  rw [e]
  have h0 : win0_12.index t 1 = 0 := congrFun (idx12 t) 1
  intro C' h
  simp only [h0, Nat.zero_mul, Nat.zero_add] at h
  have hx : 2048 + (y 1).val < 4096 := by rw [← h]; exact C'.isLt
  obtain rfl : C' = ⟨2048 + (y 1).val, hx⟩ := Fin.ext h
  exact (congrArg (fun z : S256x2048.Idx => ((outsAt0 m c t).2.2.2.2 z : EReal)) e').trans (hb (y 0) (y 1))

end Cert.Proof.Prep

end
-- ==== Proof.PrepHost.lean ====
/-
  The latent projections of the prompt, around the call: what the host prepares and what it cuts out.
-/
module

public import proofs.«01_k».proof.Defs
public import proofs.«01_k».proof.Proof.Gen.PrepIdeal
public import proofs.«01_k».proof.Proof.Gen.PrepRefIdeal
public import proofs.«01_k».proof.Proof.Gen.PrepIdeal.Frame
public import proofs.«01_k».proof.Proof.Prep
public import proofs.«01_k».proof.Proof.Gen.PrepRefIdeal.Run
public import proofs.«01_k».proof.Proof.Gen.PrepRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Prep

open Cert.PrepIdeal Cert.PrepIdeal.Gen
open Idealize.ShloMosaic Idealize.ShloMosaic.TcCoe Idealize.SL.Sem
open Idealize.ShloMosaic.Tactic Idealize.ShloMosaic.Pointwise

variable (m : (ℓ : Loc nD τ sig) → Buf (Elt Ideal) ℓ) (c : Dev nD)

abbrev a0 : FVec Ideal S4x2048x1024 .f32 := m (c, Proc.tc.devRef main_arg0)
abbrev a1 : FVec Ideal S4x2048x512 .f32 := m (c, Proc.tc.devRef main_arg1)
abbrev a2 : FVec Ideal S4x2048x64 .f32 := m (c, Proc.tc.devRef main_arg2)
abbrev a3 : FVec Ideal S1x1024 .f32 := m (c, Proc.tc.devRef main_arg3)
abbrev a4 : FVec Ideal S1x1024x16x192 .f32 := m (c, Proc.tc.devRef main_arg4)
abbrev a5 : FVec Ideal S1x512 .f32 := m (c, Proc.tc.devRef main_arg5)
abbrev a6 : FVec Ideal S1x512x16x128 .f32 := m (c, Proc.tc.devRef main_arg6)
abbrev a7 : FVec Ideal S1x512x16x128 .f32 := m (c, Proc.tc.devRef main_arg7)

theorem same3 {α : Type} {p q s : Nat} (f : Fin p → Fin q → Fin s → α) {a a' : Fin p} {b b' : Fin q} {d d' : Fin s}
    (ha : a.val = a'.val) (hb : b.val = b'.val) (hd : d.val = d'.val) : f a b d = f a' b' d' := by
  cases Fin.ext ha
  cases Fin.ext hb
  cases Fin.ext hd
  rfl

theorem same2 {α : Type} {p q : Nat} (f : Fin p → Fin q → α) {a a' : Fin p} {b b' : Fin q}
    (ha : a.val = a'.val) (hb : b.val = b'.val) : f a b = f a' b' := by
  cases Fin.ext ha
  cases Fin.ext hb
  rfl

/-- The row of the flat arrays that holds a token. -/
abbrev flat (b : Fin 4) (t : Fin 2048) : Fin 8192 := ⟨b.val * 2048 + t.val, by omega⟩

theorem turn_flat (b : Fin 4) (t : Fin 2048) : turn (flat b t) = t := Fin.ext (by show (b.val * 2048 + t.val) % 2048 = t.val; omega)

set_option maxHeartbeats 2000000 in
theorem rows_q (b : Fin 4) (t : Fin 2048) (k : Fin 1024) :
    (rows m c (ix2 (flat b t) ⟨3072 + k.val, by omega⟩) : EReal) = a0 m c (ix3 b t k) := by
  unfold rows V
  after_reads_at
  after_reads_simp
  set_option maxRecDepth 200000 in pointwise

set_option maxHeartbeats 2000000 in
theorem rows_c (b : Fin 4) (t : Fin 2048) (k : Fin 512) :
    (rows m c (ix2 (flat b t) ⟨6144 + k.val, by omega⟩) : EReal) = a1 m c (ix3 b t k) := by
  unfold rows V
  after_reads_at
  after_reads_simp
  set_option maxRecDepth 200000 in pointwise
  split_ifs <;> first
    | (exfalso; omega)
    | exact same3 (fun b t k => (a1 m c (ix3 b t k) : EReal)) (by first | (dsimp only; omega) | dsimp only | omega) (by first | (dsimp only; omega) | dsimp only | omega) (by first | (dsimp only; omega) | dsimp only | omega)

set_option maxHeartbeats 2000000 in
theorem rows_r (b : Fin 4) (t : Fin 2048) (l : Fin 64) :
    (rows m c (ix2 (flat b t) ⟨6656 + l.val, by omega⟩) : EReal) = a2 m c (ix3 b t l) := by
  unfold rows V
  after_reads_at
  after_reads_simp
  set_option maxRecDepth 200000 in pointwise
  split_ifs <;> first
    | (exfalso; omega)
    | exact same3 (fun b t k => (a2 m c (ix3 b t k) : EReal)) (by first | (dsimp only; omega) | dsimp only | omega) (by first | (dsimp only; omega) | dsimp only | omega) (by first | (dsimp only; omega) | dsimp only | omega)

set_option maxHeartbeats 2000000 in
theorem rows_n (b : Fin 4) (t : Fin 2048) (l : Fin 32) :
    (rows m c (ix2 (flat b t) ⟨6656 + (l.val + 64), by omega⟩) : EReal) = -(a2 m c (ix3 b t ⟨32 + l.val, by omega⟩) : EReal) := by
  unfold rows V
  after_reads_at
  after_reads_simp
  set_option maxRecDepth 200000 in pointwise
  split_ifs <;> first
    | (exfalso; omega)
    | exact same3 (fun b t k => -(a2 m c (ix3 b t k) : EReal)) (by first | (dsimp only; omega) | dsimp only | omega) (by first | (dsimp only; omega) | dsimp only | omega) (by first | (dsimp only; omega) | dsimp only | omega)

set_option maxHeartbeats 2000000 in
theorem rows_p (b : Fin 4) (t : Fin 2048) (l : Fin 32) :
    (rows m c (ix2 (flat b t) ⟨6656 + (32 + l.val + 64), by omega⟩) : EReal) = (a2 m c (ix3 b t ⟨l.val, by omega⟩) : EReal) := by
  unfold rows V
  after_reads_at
  after_reads_simp
  set_option maxRecDepth 200000 in pointwise
  split_ifs <;> first
    | (exfalso; omega)
    | exact same3 (fun b t k => (a2 m c (ix3 b t k) : EReal)) (by first | (dsimp only; omega) | dsimp only | omega) (by first | (dsimp only; omega) | dsimp only | omega) (by first | (dsimp only; omega) | dsimp only | omega)

theorem qw_at (k : Fin 1024) : (qw m c (ix2 0 k) : EReal) = a3 m c (ix2 0 k) := by
  unfold qw V
  after_reads_at

theorem cw_at (k : Fin 512) : (cw m c (ix2 0 k) : EReal) = a5 m c (ix2 0 k) := by
  unfold cw V
  after_reads_at

theorem wq_p (k : Fin 1024) (h : Fin 16) (d : Fin 192) :
    (wq m c (ix2 k ⟨h.val * 256 + d.val, by omega⟩) : EReal) = a4 m c (ix4 0 k h d) := by
  unfold wq V
  after_reads_at
  after_reads_simp
  set_option maxRecDepth 200000 in pointwise
  split_ifs <;> first
    | (exfalso; omega)
    | exact same2 (fun h d => (a4 m c (ix4 0 k h d) : EReal)) (by first | (dsimp only; omega) | dsimp only | omega) (by first | (dsimp only; omega) | dsimp only | omega)

theorem wq_n (k : Fin 1024) (h : Fin 16) (d : Fin 32) :
    (wq m c (ix2 k ⟨h.val * 256 + (192 + d.val), by omega⟩) : EReal) = -(a4 m c (ix4 0 k h ⟨160 + d.val, by omega⟩) : EReal) := by
  unfold wq V
  after_reads_at
  after_reads_simp
  set_option maxRecDepth 200000 in pointwise
  split_ifs <;> first
    | (exfalso; omega)
    | exact same2 (fun h d => -(a4 m c (ix4 0 k h d) : EReal)) (by first | (dsimp only; omega) | dsimp only | omega) (by first | (dsimp only; omega) | dsimp only | omega)

theorem wq_r (k : Fin 1024) (h : Fin 16) (d : Fin 32) :
    (wq m c (ix2 k ⟨h.val * 256 + (224 + d.val), by omega⟩) : EReal) = a4 m c (ix4 0 k h ⟨128 + d.val, by omega⟩) := by
  unfold wq V
  after_reads_at
  after_reads_simp
  set_option maxRecDepth 200000 in pointwise
  split_ifs <;> first
    | (exfalso; omega)
    | exact same2 (fun h d => (a4 m c (ix4 0 k h d) : EReal)) (by first | (dsimp only; omega) | dsimp only | omega) (by first | (dsimp only; omega) | dsimp only | omega)

theorem wkv_k (k : Fin 512) (h : Fin 16) (d : Fin 128) :
    (wkv m c (ix2 k ⟨h.val * 128 + d.val, by omega⟩) : EReal) = a6 m c (ix4 0 k h d) := by
  unfold wkv V
  after_reads_at
  after_reads_simp
  set_option maxRecDepth 200000 in pointwise
  split_ifs <;> first
    | (exfalso; omega)
    | exact same2 (fun h d => (a6 m c (ix4 0 k h d) : EReal)) (by first | (dsimp only; omega) | dsimp only | omega) (by first | (dsimp only; omega) | dsimp only | omega)

theorem wkv_v (k : Fin 512) (h : Fin 16) (d : Fin 128) :
    (wkv m c (ix2 k ⟨2048 + (h.val * 128 + d.val), by omega⟩) : EReal) = a7 m c (ix4 0 k h d) := by
  unfold wkv V
  after_reads_at
  after_reads_simp
  set_option maxRecDepth 200000 in pointwise

/-- The angle a pair of lanes is turned by at a position. -/
def angle (p n : Nat) : EReal :=
  (FloatOps.sitofp (F := Ideal) .f32 (BitVec.ofNat 32 p) : EReal) * Ideal.pow (Ideal.ofBits .f32 0x461C4000#32)
    (Ideal.div (-(FloatOps.sitofp (F := Ideal) .f32 (BitVec.ofNat 32 n) : EReal)) (Ideal.ofBits .f32 0x42000000#32))

open Cert.PrepRefIdeal.Read in
/-- The cosines and sines of the rotation table are the reference's. -/
theorem table_cos (p : Fin 2048) (l : Fin 32) : (table m c (ix2 p ⟨l.val, by omega⟩) : EReal) = val_main_v31 (F := Ideal) (ix2 p l) := by
  unfold table V
  after_reads_at
  after_reads_simp
  unfold val_main_v31 val_main_v30 val_main_v29 val_main_v28 val_main_v27 val_main_v26 val_main_v25 val_main_v24 val_main_v23 val_main_v22 val_main_v21 val_main_v20 val_main_v19 val_main_cst_2 val_main_cst_3 val_main_v0
  set_option maxRecDepth 200000 in pointwise
  all_goals
    split_ifs <;> first
      | (exfalso; omega)
      | exact congrArg (fun n : Nat => Ideal.cos (angle p.val n)) (by omega)

open Cert.PrepRefIdeal.Read in
theorem table_cos' (p : Fin 2048) (l : Fin 32) : (table m c (ix2 p ⟨32 + l.val, by omega⟩) : EReal) = val_main_v31 (F := Ideal) (ix2 p l) := by
  unfold table V
  after_reads_at
  after_reads_simp
  unfold val_main_v31 val_main_v30 val_main_v29 val_main_v28 val_main_v27 val_main_v26 val_main_v25 val_main_v24 val_main_v23 val_main_v22 val_main_v21 val_main_v20 val_main_v19 val_main_cst_2 val_main_cst_3 val_main_v0
  set_option maxRecDepth 200000 in pointwise
  all_goals
    split_ifs <;> first
      | (exfalso; omega)
      | exact congrArg (fun n : Nat => Ideal.cos (angle p.val n)) (by omega)

open Cert.PrepRefIdeal.Read in
theorem table_sin (p : Fin 2048) (l : Fin 32) : (table m c (ix2 p ⟨l.val + 64, by omega⟩) : EReal) = val_main_v33 (F := Ideal) (ix2 p l) := by
  unfold table V
  after_reads_at
  after_reads_simp
  unfold val_main_v33 val_main_v30 val_main_v29 val_main_v28 val_main_v27 val_main_v26 val_main_v25 val_main_v24 val_main_v23 val_main_v22 val_main_v21 val_main_v20 val_main_v19 val_main_cst_2 val_main_cst_3 val_main_v0
  set_option maxRecDepth 200000 in pointwise
  all_goals
    split_ifs <;> first
      | (exfalso; omega)
      | exact congrArg (fun n : Nat => Ideal.sin (angle p.val n)) (by omega)

open Cert.PrepRefIdeal.Read in
theorem table_sin' (p : Fin 2048) (l : Fin 32) : (table m c (ix2 p ⟨32 + l.val + 64, by omega⟩) : EReal) = val_main_v33 (F := Ideal) (ix2 p l) := by
  unfold table V
  after_reads_at
  after_reads_simp
  unfold val_main_v33 val_main_v30 val_main_v29 val_main_v28 val_main_v27 val_main_v26 val_main_v25 val_main_v24 val_main_v23 val_main_v22 val_main_v21 val_main_v20 val_main_v19 val_main_cst_2 val_main_cst_3 val_main_v0
  set_option maxRecDepth 200000 in pointwise
  all_goals
    split_ifs <;> first
      | (exfalso; omega)
      | exact congrArg (fun n : Nat => Ideal.sin (angle p.val n)) (by omega)

/-- The results cut out of what the call leaves. -/
theorem out_qn (W : Valuation τ sig (Elt Ideal)) (b : Fin 4) (t : Fin 2048) (h : Fin 16) (d : Fin 128) :
    ((StableHlo.after (List.flatten [hostOps1]) W (Proc.tc.devRef main_v49) : FVec Ideal S4x2048x16x128 .bf16) (ix4 b t h d) : EReal)
      = (W (Proc.tc.devRef main_v46_0) : FVec Ideal S8192x4096 .bf16) (ix2 (flat b t) ⟨h.val * 256 + d.val, by omega⟩) := by
  after_reads_at

theorem out_qr (W : Valuation τ sig (Elt Ideal)) (b : Fin 4) (t : Fin 2048) (h : Fin 16) (d : Fin 64) :
    ((StableHlo.after (List.flatten [hostOps1]) W (Proc.tc.devRef main_v50) : FVec Ideal S4x2048x16x64 .bf16) (ix4 b t h d) : EReal)
      = (W (Proc.tc.devRef main_v46_0) : FVec Ideal S8192x4096 .bf16) (ix2 (flat b t) ⟨h.val * 256 + (128 + d.val), by omega⟩) := by
  after_reads_at

theorem out_c (W : Valuation τ sig (Elt Ideal)) (b : Fin 4) (t : Fin 2048) (k : Fin 512) :
    ((StableHlo.after (List.flatten [hostOps1]) W (Proc.tc.devRef main_v51) : FVec Ideal S1x4x2048x512 .f32) (ix4 0 b t k) : EReal)
      = (W (Proc.tc.devRef main_v46_1) : FVec Ideal S8192x512 .f32) (ix2 (flat b t) k) := by
  after_reads_at

theorem out_r (W : Valuation τ sig (Elt Ideal)) (b : Fin 4) (t : Fin 2048) (l : Fin 64) :
    ((StableHlo.after (List.flatten [hostOps1]) W (Proc.tc.devRef main_v52) : FVec Ideal S1x4x2048x64 .f32) (ix4 0 b t l) : EReal)
      = (W (Proc.tc.devRef main_v46_2) : FVec Ideal S8192x64 .f32) (ix2 (flat b t) l) := by
  after_reads_at

theorem out_k (W : Valuation τ sig (Elt Ideal)) (b : Fin 4) (t : Fin 2048) (h : Fin 16) (d : Fin 128) :
    ((StableHlo.after (List.flatten [hostOps1]) W (Proc.tc.devRef main_v53) : FVec Ideal S4x2048x16x128 .bf16) (ix4 b t h d) : EReal)
      = (W (Proc.tc.devRef main_v46_3) : FVec Ideal S8192x4096 .bf16) (ix2 (flat b t) ⟨h.val * 256 + d.val, by omega⟩) := by
  after_reads_at

theorem out_v (W : Valuation τ sig (Elt Ideal)) (b : Fin 4) (t : Fin 2048) (h : Fin 16) (d : Fin 128) :
    ((StableHlo.after (List.flatten [hostOps1]) W (Proc.tc.devRef main_v54) : FVec Ideal S4x2048x16x128 .bf16) (ix4 b t h d) : EReal)
      = (W (Proc.tc.devRef main_v46_4) : FVec Ideal S8192x2048 .bf16) (ix2 (flat b t) ⟨h.val * 128 + d.val, by omega⟩) := by
  after_reads_at

end Cert.Proof.Prep

end
-- ==== Proof.PrepRef.lean ====
/-
  The latent projections of the prompt, as the layer states them: what each of the reference's lines holds at a place.
-/
module

public import proofs.«01_k».proof.Defs
public import proofs.«01_k».proof.Proof.Gen.PrepIdeal
public import proofs.«01_k».proof.Proof.Gen.PrepRefIdeal
public import proofs.«01_k».proof.Proof.Gen.PrepIdeal.Frame
public import proofs.«01_k».proof.Proof.Prep
public import proofs.«01_k».proof.Proof.Gen.PrepRefIdeal.Run
public import proofs.«01_k».proof.Proof.Gen.PrepRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Prep

open Cert.PrepRefIdeal Cert.PrepRefIdeal.Read
open Idealize.ShloMosaic Idealize.ShloMosaic.TcCoe Idealize.SL.Sem
open Idealize.ShloMosaic.Tactic Idealize.ShloMosaic.Pointwise

variable (x0 : FVec Ideal S4x2048x1024 .f32) (x1 : FVec Ideal S4x2048x512 .f32) (x2 : FVec Ideal S4x2048x64 .f32) (x3 : FVec Ideal S1x1024 .f32)
  (x4 : FVec Ideal S1x1024x16x192 .f32) (x5 : FVec Ideal S1x512 .f32) (x6 x7 : FVec Ideal S1x512x16x128 .f32)

theorem ref_qlat (b : Fin 4) (t : Fin 2048) (k : Fin 1024) : (val_main_v14 (F := Ideal) x0 x3 (ix3 b t k) : EReal)
    = normed 1024 (fun k => (x0 (ix3 b t k) : EReal)) (Ideal.ofBits .f32 0x44800000#32) k (x3 (ix2 0 k)) := by
  unfold val_main_v14 val_main_v13 val_main_v12 val_main_v11 val_main_v10 val_main_v9 val_main_v8 val_main_v7 val_main_v6 val_main_v5 val_main_v4 val_main_v3 val_main_v2 val_main_v1 val_main_cst val_main_cst_0 val_main_cst_1 normed
  pointwise

theorem ref_lat (b : Fin 4) (t : Fin 2048) (k : Fin 512) : (val_main_v65 (F := Ideal) x1 x5 (ix3 b t k) : EReal)
    = normed 512 (fun k => (x1 (ix3 b t k) : EReal)) (Ideal.ofBits .f32 0x44000000#32) k (x5 (ix2 0 k)) := by
  unfold val_main_v65 val_main_v64 val_main_v63 val_main_v62 val_main_v61 val_main_v60 val_main_v59 val_main_v58 val_main_v57 val_main_v56 val_main_v55 val_main_v54 val_main_v53 val_main_v52 val_main_cst_4 val_main_cst_5 val_main_cst_6 normed
  pointwise

theorem ref_q (b : Fin 4) (t : Fin 2048) (h : Fin 16) (d : Fin 192) : (val_main_v16 (F := Ideal) x0 x3 x4 (ix4 b t h d) : EReal)
    = ∑ k : Fin 1024, (val_main_v14 (F := Ideal) x0 x3 (ix3 b t k) : EReal) * (x4 (ix4 0 k h d) : EReal) := by
  unfold val_main_v16 val_main_v15
  pointwise

theorem ref_k (b : Fin 4) (t : Fin 2048) (h : Fin 16) (d : Fin 128) : (val_main_v98 (F := Ideal) x1 x5 x6 (ix4 b t h d) : EReal)
    = ∑ k : Fin 512, (val_main_v65 (F := Ideal) x1 x5 (ix3 b t k) : EReal) * (x6 (ix4 0 k h d) : EReal) := by
  unfold val_main_v98 val_main_v97
  pointwise

theorem ref_v (b : Fin 4) (t : Fin 2048) (h : Fin 16) (d : Fin 128) : (val_main_v100 (F := Ideal) x1 x5 x7 (ix4 b t h d) : EReal)
    = ∑ k : Fin 512, (val_main_v65 (F := Ideal) x1 x5 (ix3 b t k) : EReal) * (x7 (ix4 0 k h d) : EReal) := by
  unfold val_main_v100 val_main_v99
  pointwise

theorem ref_qn (b : Fin 4) (t : Fin 2048) (h : Fin 16) (d : Fin 128) : (val_main_v101 (F := Ideal) x0 x3 x4 (ix4 b t h d) : EReal)
    = val_main_v16 (F := Ideal) x0 x3 x4 (ix4 b t h ⟨d.val, by omega⟩) := by
  unfold val_main_v101 val_main_v17
  pointwise

theorem ref_qr_fst (b : Fin 4) (t : Fin 2048) (h : Fin 16) (l : Fin 32) : (val_main_v102 (F := Ideal) x0 x3 x4 (ix4 b t h ⟨l.val, by omega⟩) : EReal)
    = (val_main_v16 (F := Ideal) x0 x3 x4 (ix4 b t h ⟨128 + l.val, by omega⟩) : EReal) * (val_main_v31 (F := Ideal) (ix2 t l) : EReal)
      - (val_main_v16 (F := Ideal) x0 x3 x4 (ix4 b t h ⟨128 + (32 + l.val), by omega⟩) : EReal) * (val_main_v33 (F := Ideal) (ix2 t l) : EReal) := by
  unfold val_main_v102 val_main_v51 val_main_v43 val_main_v42 val_main_v41 val_main_v40 val_main_v39 val_main_v38 val_main_v37 val_main_v36 val_main_v35 val_main_v34 val_main_v32 val_main_v18
  pointwise

theorem ref_qr_snd (b : Fin 4) (t : Fin 2048) (h : Fin 16) (l : Fin 32) : (val_main_v102 (F := Ideal) x0 x3 x4 (ix4 b t h ⟨32 + l.val, by omega⟩) : EReal)
    = (val_main_v16 (F := Ideal) x0 x3 x4 (ix4 b t h ⟨128 + (32 + l.val), by omega⟩) : EReal) * (val_main_v31 (F := Ideal) (ix2 t l) : EReal)
      + (val_main_v16 (F := Ideal) x0 x3 x4 (ix4 b t h ⟨128 + l.val, by omega⟩) : EReal) * (val_main_v33 (F := Ideal) (ix2 t l) : EReal) := by
  unfold val_main_v102 val_main_v51 val_main_v50 val_main_v49 val_main_v48 val_main_v47 val_main_v46 val_main_v45 val_main_v44 val_main_v36 val_main_v35 val_main_v34 val_main_v32 val_main_v18
  pointwise

theorem cos_again : val_main_v78 (F := Ideal) = val_main_v31 (F := Ideal) := rfl
theorem sin_again : val_main_v79 (F := Ideal) = val_main_v33 (F := Ideal) := rfl

theorem ref_c (b : Fin 4) (t : Fin 2048) (k : Fin 512) : (val_main_v103 (F := Ideal) x1 x5 (ix4 0 b t k) : EReal)
    = val_main_v65 (F := Ideal) x1 x5 (ix3 b t k) := by
  unfold val_main_v103
  pointwise

theorem ref_r_fst (b : Fin 4) (t : Fin 2048) (l : Fin 32) : (val_main_v104 (F := Ideal) x2 (ix4 0 b t ⟨l.val, by omega⟩) : EReal)
    = (x2 (ix3 b t ⟨l.val, by omega⟩) : EReal) * (val_main_v31 (F := Ideal) (ix2 t l) : EReal)
      - (x2 (ix3 b t ⟨32 + l.val, by omega⟩) : EReal) * (val_main_v33 (F := Ideal) (ix2 t l) : EReal) := by
  unfold val_main_v104 val_main_v96 val_main_v88 val_main_v87 val_main_v86 val_main_v85 val_main_v84 val_main_v83 val_main_v82 val_main_v81 val_main_v80
  rw [cos_again, sin_again]
  pointwise

theorem ref_r_snd (b : Fin 4) (t : Fin 2048) (l : Fin 32) : (val_main_v104 (F := Ideal) x2 (ix4 0 b t ⟨32 + l.val, by omega⟩) : EReal)
    = (x2 (ix3 b t ⟨32 + l.val, by omega⟩) : EReal) * (val_main_v31 (F := Ideal) (ix2 t l) : EReal)
      + (x2 (ix3 b t ⟨l.val, by omega⟩) : EReal) * (val_main_v33 (F := Ideal) (ix2 t l) : EReal) := by
  unfold val_main_v104 val_main_v96 val_main_v95 val_main_v94 val_main_v93 val_main_v92 val_main_v91 val_main_v90 val_main_v89 val_main_v81 val_main_v80
  rw [cos_again, sin_again]
  pointwise

theorem ref_kn (b : Fin 4) (t : Fin 2048) (h : Fin 16) (d : Fin 128) : (val_main_v105 (F := Ideal) x1 x5 x6 (ix4 b t h d) : EReal)
    = val_main_v98 (F := Ideal) x1 x5 x6 (ix4 b t h d) := by
  unfold val_main_v105
  pointwise

theorem ref_vn (b : Fin 4) (t : Fin 2048) (h : Fin 16) (d : Fin 128) : (val_main_v106 (F := Ideal) x1 x5 x7 (ix4 b t h d) : EReal)
    = val_main_v100 (F := Ideal) x1 x5 x7 (ix4 b t h d) := by
  unfold val_main_v106
  pointwise

end Cert.Proof.Prep

end
-- ==== Proof.Finite.lean ====
/-
  What the precondition says: every entry of the queries and the keys is a real number.
-/
module

public import proofs.«01_k».proof.Defs
public import proofs.«01_k».proof.Proof.Gen.Pre_finite
public import Idealize.ShloMosaic.Lib.Pointwise
public import Idealize.ShloMosaic.Lib.ReduceAll
public import Idealize.ShloMosaic.PureOps.Ideal.Laws

@[expose] public section

set_option maxRecDepth 16384

noncomputable section

namespace Cert.Proof.Finite

open Cert.Pre_finite Idealize.ShloMosaic Idealize.ShloMosaic.TcCoe Idealize.ShloMosaic.Pointwise

variable [Cert.Pre_finite.Facts]

theorem real_of_abs_lt {s : Shape} (x : FVec Ideal s .f32) (h : S_.BroadcastsInDim s (![] : Fin 0 → Fin s.rank)) (i : s.Idx)
    (e : cmpf .olt (Host.absf x) (broadcastInDim s ![] h (constant S_ .f32 0x7F800000#32 : FVec Ideal S_ .f32)) i = 1#1) :
    ∃ r : ℝ, (x i : EReal) = (r : EReal) := by
  pointwise at e
  have hlt : FloatOps.absf (F := Ideal) (x i) < Ideal.ofBits .f32 0x7F800000#32 := by
    by_contra hn
    rw [decide_eq_false hn] at e
    exact absurd e (by decide)
  rw [show Ideal.ofBits .f32 0x7F800000#32 = (⊤ : EReal) by simp [Ideal.ofBits, Ideal.ieee]] at hlt
  have real : ∀ a : EReal, max a (-a) < ⊤ → ∃ r : ℝ, a = (r : EReal) := by
    intro a ha
    induction a with
    | bot => simp at ha
    | top => simp at ha
    | coe r => exact ⟨r, rfl⟩
  exact real _ hlt

theorem args_real (x0 : FVec Ideal S4x2048x16x128 .f32) (x1 : FVec Ideal S4x2048x16x64 .f32) (x2 : FVec Ideal S4x2048x16x128 .f32)
    (x3 : FVec Ideal S4x2048x64 .f32) (x4 : FVec Ideal S4x2048x16x128 .f32)
    (h : fn (F := Ideal) x0 x1 x2 x3 x4 ix0 = 1#1) :
    (∀ i, ∃ r : ℝ, (x0 i : EReal) = (r : EReal)) ∧ (∀ i, ∃ r : ℝ, (x1 i : EReal) = (r : EReal))
    ∧ (∀ i, ∃ r : ℝ, (x2 i : EReal) = (r : EReal)) ∧ (∀ i, ∃ r : ℝ, (x3 i : EReal) = (r : EReal)) := by
  have : Subsingleton S_.Idx := ⟨fun a b => funext fun k => k.elim0⟩
  have two : ∀ a b : BitVec 1, IntOp.andi a b = 1#1 → a = 1#1 ∧ b = 1#1 := by decide
  unfold fn fn_part1 at h
  obtain ⟨h, h3⟩ := two _ _ h
  obtain ⟨h, h2⟩ := two _ _ h
  obtain ⟨h0, h1⟩ := two _ _ h
  exact ⟨fun i => real_of_abs_lt x0 _ i (Host.reduce_andi_all _ _ _ _ _ h0 i),
    fun i => real_of_abs_lt x1 _ i (Host.reduce_andi_all _ _ _ _ _ h1 i),
    fun i => real_of_abs_lt x2 _ i (Host.reduce_andi_all _ _ _ _ _ h2 i),
    fun i => real_of_abs_lt x3 _ i (Host.reduce_andi_all _ _ _ _ _ h3 i)⟩

end Cert.Proof.Finite

end
-- ==== Proof.PrepClaim.lean ====
/-
  The latent projections of the prompt, claimed: the call with its host code and the layer's own lines give the same six arrays.
-/
module

public import proofs.«01_k».proof.Defs
public import proofs.«01_k».proof.Proof.Gen.PrepIdeal
public import proofs.«01_k».proof.Proof.Gen.PrepRefIdeal
public import proofs.«01_k».proof.Proof.Gen.PrepIdeal.Frame
public import proofs.«01_k».proof.Proof.Prep
public import proofs.«01_k».proof.Proof.PrepHost
public import proofs.«01_k».proof.Proof.PrepRef
public import proofs.«01_k».proof.Proof.Gen.Pre_finite_prep
public import proofs.«01_k».proof.Proof.Finite
public import Idealize.ShloMosaic.Lib.ReduceAll
public import proofs.«01_k».proof.Proof.Gen.PrepRefIdeal.Run
public import proofs.«01_k».proof.Proof.Gen.PrepRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Prep

open Cert.PrepIdeal Cert.PrepIdeal.Gen
open Idealize.ShloMosaic Idealize.ShloMosaic.TcCoe Idealize.SL.Sem
open Idealize.ShloMosaic.Tactic Idealize.ShloMosaic.Pointwise

/-- An array of real numbers. -/
def Real {s : Shape} {ft : FTy} (x : FVec Ideal s ft) : Prop := ∀ i, ∃ r : ℝ, (x i : EReal) = (r : EReal)

/-- The precondition, read at the arguments. -/
theorem args_real [Cert.Pre_finite_prep.Facts] (x0 : FVec Ideal S4x2048x1024 .f32) (x1 : FVec Ideal S4x2048x512 .f32) (x2 : FVec Ideal S4x2048x64 .f32)
    (x3 : FVec Ideal S1x1024 .f32) (x4 : FVec Ideal S1x1024x16x192 .f32) (x5 : FVec Ideal S1x512 .f32) (x6 x7 : FVec Ideal S1x512x16x128 .f32)
    (h : Cert.Pre_finite_prep.fn (F := Ideal) x0 x1 x2 x3 x4 x5 x6 x7 ix0 = 1#1) : Real x0 ∧ Real x3 ∧ Real x4 := by
  have : Subsingleton Cert.Pre_finite_prep.S_.Idx := ⟨fun a b => funext fun k => k.elim0⟩
  have two : ∀ a b : BitVec 1, IntOp.andi a b = 1#1 → a = 1#1 ∧ b = 1#1 := by decide
  unfold Cert.Pre_finite_prep.fn at h
  obtain ⟨h, h2⟩ := two _ _ h
  obtain ⟨h0, h1⟩ := two _ _ h
  exact ⟨fun i => Cert.Proof.Finite.real_of_abs_lt x0 _ i (Host.reduce_andi_all _ _ _ _ _ h0 i),
    fun i => Cert.Proof.Finite.real_of_abs_lt x3 _ i (Host.reduce_andi_all _ _ _ _ _ h1 i),
    fun i => Cert.Proof.Finite.real_of_abs_lt x4 _ i (Host.reduce_andi_all _ _ _ _ _ h2 i)⟩

/-- A sum of squares of real numbers is a real number, not negative. -/
theorem squares {n : Nat} (x : Fin n → EReal) (hx : ∀ k, ∃ r : ℝ, x k = (r : EReal)) : ∃ S : ℝ, 0 ≤ S ∧ (∑ k, x k * x k) = (S : EReal) := by
  choose f hf using hx
  refine ⟨∑ k, f k * f k, Finset.sum_nonneg fun k _ => mul_self_nonneg _, ?_⟩
  have : ∀ s : Finset (Fin n), (∑ k ∈ s, x k * x k) = ((∑ k ∈ s, f k * f k : ℝ) : EReal) := by
    intro s
    induction s using Finset.cons_induction with
    | empty => simp
    | cons a s ha ih => rw [Finset.sum_cons, Finset.sum_cons, ih, hf a, EReal.coe_add, EReal.coe_mul]
  exact this _

/-- Real rows and a real weight make a real normed latent. -/
theorem normed_real (x : Fin 1024 → EReal) (hx : ∀ k, ∃ r : ℝ, x k = (r : EReal)) (w : EReal) (hw : ∃ r : ℝ, w = (r : EReal)) (k : Fin 1024) :
    ∃ r : ℝ, normed 1024 x (Ideal.ofBits .f32 0x44800000#32) k w = (r : EReal) := by
  obtain ⟨S, hS, e⟩ := squares x hx
  obtain ⟨a, ha⟩ := hx k
  obtain ⟨b, hb⟩ := hw
  have e1 : Ideal.ofBits .f32 0x44800000#32 = ((1024 : ℝ) : EReal) := by
    simp [Ideal.ofBits, Ideal.ieee]
    rw [← EReal.coe_mul]
    norm_num
  have e2 : ∃ z : ℝ, 0 < z ∧ Ideal.ofBits .f32 0x3727C5AC#32 = (z : EReal) := by
    refine ⟨_, ?_, by simp [Ideal.ofBits, Ideal.ieee]; rfl⟩
    positivity
  obtain ⟨z, hz, e2⟩ := e2
  unfold normed
  rw [e, e1, e2, Ideal.div_coe (by norm_num), ← EReal.coe_mul, ← EReal.coe_add, Ideal.rsqrt_coe, ha, hb]
  have pos : 0 < S * (1 / 1024) + z := by positivity
  rw [if_neg (not_lt.mpr pos.le), if_neg pos.ne', ← EReal.coe_mul, ← EReal.coe_mul]
  exact ⟨_, rfl⟩

/-- Negated weights negate a real sum of products. -/
theorem sum_neg {n : Nat} (f g : Fin n → EReal) (hf : ∀ k, ∃ r : ℝ, f k = (r : EReal)) (hg : ∀ k, ∃ r : ℝ, g k = (r : EReal)) :
    (∑ k, f k * -(g k)) = -(∑ k, f k * g k) := by
  choose p hp using hf
  choose q hq using hg
  have : ∀ s : Finset (Fin n), (∑ k ∈ s, f k * -(g k)) = ((-∑ k ∈ s, p k * q k : ℝ) : EReal) ∧ (∑ k ∈ s, f k * g k) = ((∑ k ∈ s, p k * q k : ℝ) : EReal) := by
    intro s
    induction s using Finset.cons_induction with
    | empty => simp
    | cons a s ha ih =>
      rw [Finset.sum_cons, Finset.sum_cons, Finset.sum_cons, ih.1, ih.2, hp a, hq a, ← EReal.coe_neg, ← EReal.coe_mul, ← EReal.coe_mul, ← EReal.coe_add, ← EReal.coe_add]
      exact ⟨congrArg _ (by ring), rfl⟩
  rw [(this _).1, (this _).2, EReal.coe_neg]

variable (m : (ℓ : Loc nD τ sig) → Buf (Elt Ideal) ℓ) (c : Dev nD)

open Cert.PrepRefIdeal.Read

theorem qlat_at (b : Fin 4) (t : Fin 2048) (k : Fin 1024) : qlat m c (flat b t) k = val_main_v14 (F := Ideal) (a0 m c) (a3 m c) (ix3 b t k) := by
  refine Eq.trans ?_ (ref_qlat (a0 m c) (a3 m c) b t k).symm
  unfold qlat
  exact congrArg₂ (fun (f : Fin 1024 → EReal) w => normed 1024 f (Ideal.ofBits .f32 0x44800000#32) k w) (funext fun k => rows_q m c b t k) (qw_at m c k)

theorem lat_flat (b : Fin 4) (t : Fin 2048) (k : Fin 512) : lat m c (flat b t) k = val_main_v65 (F := Ideal) (a1 m c) (a5 m c) (ix3 b t k) := by
  refine Eq.trans ?_ (ref_lat (a1 m c) (a5 m c) b t k).symm
  unfold lat
  exact congrArg₂ (fun (f : Fin 512 → EReal) w => normed 512 f (Ideal.ofBits .f32 0x44000000#32) k w) (funext fun k => rows_c m c b t k) (cw_at m c k)

/-- The reference's query product of the kernel's arguments. -/
abbrev query (b : Fin 4) (t : Fin 2048) (h : Fin 16) (d : Fin 192) : EReal := val_main_v16 (F := Ideal) (a0 m c) (a3 m c) (a4 m c) (ix4 b t h d)

theorem up_p (b : Fin 4) (t : Fin 2048) (h : Fin 16) (d : Fin 192) : up m c (flat b t) ⟨h.val * 256 + d.val, by omega⟩ = query m c b t h d := by
  refine Eq.trans ?_ (ref_q (a0 m c) (a3 m c) (a4 m c) b t h d).symm
  unfold up
  exact Finset.sum_congr rfl fun k _ => congrArg₂ (fun u v : EReal => u * v) (qlat_at m c b t k) (wq_p m c k h d)

theorem up_r (b : Fin 4) (t : Fin 2048) (h : Fin 16) (d : Fin 32) : up m c (flat b t) ⟨h.val * 256 + (224 + d.val), by omega⟩ = query m c b t h ⟨128 + d.val, by omega⟩ := by
  refine Eq.trans ?_ (ref_q (a0 m c) (a3 m c) (a4 m c) b t h ⟨128 + d.val, by omega⟩).symm
  unfold up
  exact Finset.sum_congr rfl fun k _ => congrArg₂ (fun u v : EReal => u * v) (qlat_at m c b t k) (wq_r m c k h d)

theorem up_n (hq : Real (a0 m c)) (hw : Real (a3 m c)) (hu : Real (a4 m c)) (b : Fin 4) (t : Fin 2048) (h : Fin 16) (d : Fin 32) :
    up m c (flat b t) ⟨h.val * 256 + (192 + d.val), by omega⟩ = -query m c b t h ⟨128 + (32 + d.val), by omega⟩ := by
  refine Eq.trans ?_ (congrArg (fun u : EReal => -u) (ref_q (a0 m c) (a3 m c) (a4 m c) b t h ⟨128 + (32 + d.val), by omega⟩)).symm
  refine Eq.trans ?_ (sum_neg (fun k => (val_main_v14 (F := Ideal) (a0 m c) (a3 m c) (ix3 b t k) : EReal)) (fun k => (a4 m c (ix4 0 k h ⟨128 + (32 + d.val), by omega⟩) : EReal))
    (fun k => ?_) (fun k => hu _))
  · unfold up
    exact Finset.sum_congr rfl fun k _ => congrArg₂ (fun u v : EReal => u * v) (qlat_at m c b t k)
      ((wq_n m c k h d).trans (congrArg (fun z : Fin 192 => -(a4 m c (ix4 0 k h z) : EReal)) (Fin.ext (by dsimp only; omega))))
  · obtain ⟨r, hr⟩ := normed_real (fun k => (a0 m c (ix3 b t k) : EReal)) (fun k => hq _) (a3 m c (ix2 0 k)) (hw _) k
    exact ⟨r, (ref_qlat (a0 m c) (a3 m c) b t k).trans hr⟩

theorem kv_k (b : Fin 4) (t : Fin 2048) (h : Fin 16) (d : Fin 128) :
    kv m c (flat b t) ⟨h.val * 128 + d.val, by omega⟩ = val_main_v98 (F := Ideal) (a1 m c) (a5 m c) (a6 m c) (ix4 b t h d) := by
  refine Eq.trans ?_ (ref_k (a1 m c) (a5 m c) (a6 m c) b t h d).symm
  unfold kv
  exact Finset.sum_congr rfl fun k _ => congrArg₂ (fun u v : EReal => u * v) (lat_flat m c b t k) (wkv_k m c k h d)

theorem kv_v (b : Fin 4) (t : Fin 2048) (h : Fin 16) (d : Fin 128) :
    kv m c (flat b t) ⟨2048 + (h.val * 128 + d.val), by omega⟩ = val_main_v100 (F := Ideal) (a1 m c) (a5 m c) (a7 m c) (ix4 b t h d) := by
  refine Eq.trans ?_ (ref_v (a1 m c) (a5 m c) (a7 m c) b t h d).symm
  unfold kv
  exact Finset.sum_congr rfl fun k _ => congrArg₂ (fun u v : EReal => u * v) (lat_flat m c b t k) (wkv_v m c k h d)

/-- The rotation, with the second half's weights already negated. -/
theorem turned (x y u v : EReal) : x * u + -y * v = x * u - y * v := by
  rw [EReal.neg_mul, sub_eq_add_neg]

/-- A lane of a rotated vector is in its first or its second half. -/
theorem halves {P : Fin 64 → Prop} (h₁ : ∀ l : Fin 32, P ⟨l.val, by omega⟩) (h₂ : ∀ l : Fin 32, P ⟨32 + l.val, by omega⟩) (l : Fin 64) : P l := by
  by_cases h : l.val < 32
  · exact h₁ ⟨l.val, h⟩
  · have e : l = ⟨32 + (⟨l.val - 32, by omega⟩ : Fin 32).val, by dsimp only; omega⟩ := Fin.ext (by dsimp only; omega)
    rw [e]
    exact h₂ _

/-- The packed row holds, for a rotated lane, the lane, the lane it is paired with, and their turns. -/
theorem roped (hq : Real (a0 m c)) (hw : Real (a3 m c)) (hu : Real (a4 m c)) (b : Fin 4) (t : Fin 2048) (h : Fin 16) (l : Fin 64) :
    up m c (flat b t) ⟨h.val * 256 + (128 + l.val), by omega⟩ * (table m c (ix2 t ⟨l.val, by omega⟩) : EReal)
      + up m c (flat b t) ⟨h.val * 256 + (192 + l.val), by omega⟩ * (table m c (ix2 t ⟨l.val + 64, by omega⟩) : EReal)
      = val_main_v102 (F := Ideal) (a0 m c) (a3 m c) (a4 m c) (ix4 b t h l) := by
  refine halves (P := fun l => up m c (flat b t) ⟨h.val * 256 + (128 + l.val), by omega⟩ * (table m c (ix2 t ⟨l.val, by omega⟩) : EReal)
      + up m c (flat b t) ⟨h.val * 256 + (192 + l.val), by omega⟩ * (table m c (ix2 t ⟨l.val + 64, by omega⟩) : EReal)
      = val_main_v102 (F := Ideal) (a0 m c) (a3 m c) (a4 m c) (ix4 b t h l)) (fun l => ?_) (fun l => ?_) l
  · refine Eq.trans ?_ (ref_qr_fst (a0 m c) (a3 m c) (a4 m c) b t h l).symm
    refine Eq.trans ?_ (turned _ _ _ _)
    refine congrArg₂ (fun u v : EReal => u + v) (congrArg₂ (fun u v : EReal => u * v) ?_ (table_cos m c t l)) (congrArg₂ (fun u v : EReal => u * v) ?_ (table_sin m c t l))
    · exact up_p m c b t h ⟨128 + l.val, by omega⟩
    · exact up_n m c hq hw hu b t h l
  · refine Eq.trans ?_ (ref_qr_snd (a0 m c) (a3 m c) (a4 m c) b t h l).symm
    refine congrArg₂ (fun u v : EReal => u + v) (congrArg₂ (fun u v : EReal => u * v) ?_ (table_cos' m c t l)) (congrArg₂ (fun u v : EReal => u * v) ?_ (table_sin' m c t l))
    · exact up_p m c b t h ⟨128 + (32 + l.val), by omega⟩
    · exact (congrArg (up m c (flat b t)) (Fin.ext (by dsimp only; omega))).trans (up_r m c b t h l)

theorem rotated_at (b : Fin 4) (t : Fin 2048) (l : Fin 64) : rotated m c (flat b t) l = val_main_v104 (F := Ideal) (a2 m c) (ix4 0 b t l) := by
  unfold rotated
  rw [turn_flat]
  refine halves (P := fun l => (rows m c (ix2 (flat b t) ⟨6656 + l.val, by omega⟩) : EReal) * (table m c (ix2 t ⟨l.val, by omega⟩) : EReal)
    + (rows m c (ix2 (flat b t) ⟨6656 + (l.val + 64), by omega⟩) : EReal) * (table m c (ix2 t ⟨l.val + 64, by omega⟩) : EReal)
      = val_main_v104 (F := Ideal) (a2 m c) (ix4 0 b t l)) (fun l => ?_) (fun l => ?_) l
  · refine Eq.trans ?_ (ref_r_fst (a2 m c) b t l).symm
    refine Eq.trans ?_ (turned _ _ _ _)
    refine congrArg₂ (fun u v : EReal => u + v) (congrArg₂ (fun u v : EReal => u * v) ?_ (table_cos m c t l)) (congrArg₂ (fun u v : EReal => u * v) ?_ (table_sin m c t l))
    · exact rows_r m c b t ⟨l.val, by omega⟩
    · exact rows_n m c b t l
  · refine Eq.trans ?_ (ref_r_snd (a2 m c) b t l).symm
    refine congrArg₂ (fun u v : EReal => u + v) (congrArg₂ (fun u v : EReal => u * v) ?_ (table_cos' m c t l)) (congrArg₂ (fun u v : EReal => u * v) ?_ (table_sin' m c t l))
    · exact rows_r m c b t ⟨32 + l.val, by omega⟩
    · exact rows_p m c b t l

/-- The memory the grid leaves. -/
abbrev after : Valuation τ sig (Elt Ideal) := Pipeline.withArrays (cfgs 0).spec c (V0 m c) (fun w => (dats m 0 c).arrAt w (cfgs 0).N)

theorem left_q : (after m c (Proc.tc.devRef main_v46_0) : FVec Ideal S8192x4096 .bf16) = (dats m 0 c).arrAt 8 cfg0.N :=
  (dats m 0 c).withArrays_arrAt sharedIn0 (V0 m c) (fun _ => rfl) 8
theorem left_c : (after m c (Proc.tc.devRef main_v46_1) : FVec Ideal S8192x512 .f32) = (dats m 0 c).arrAt 9 cfg0.N :=
  (dats m 0 c).withArrays_arrAt sharedIn0 (V0 m c) (fun _ => rfl) 9
theorem left_r : (after m c (Proc.tc.devRef main_v46_2) : FVec Ideal S8192x64 .f32) = (dats m 0 c).arrAt 10 cfg0.N :=
  (dats m 0 c).withArrays_arrAt sharedIn0 (V0 m c) (fun _ => rfl) 10
theorem left_k : (after m c (Proc.tc.devRef main_v46_3) : FVec Ideal S8192x4096 .bf16) = (dats m 0 c).arrAt 11 cfg0.N :=
  (dats m 0 c).withArrays_arrAt sharedIn0 (V0 m c) (fun _ => rfl) 11
theorem left_v : (after m c (Proc.tc.devRef main_v46_4) : FVec Ideal S8192x2048 .bf16) = (dats m 0 c).arrAt 12 cfg0.N :=
  (dats m 0 c).withArrays_arrAt sharedIn0 (V0 m c) (fun _ => rfl) 12

theorem got_qn (b : Fin 4) (t : Fin 2048) (h : Fin 16) (d : Fin 128) :
    (after m c (Proc.tc.devRef main_v46_0) : FVec Ideal S8192x4096 .bf16) (ix2 (flat b t) ⟨h.val * 256 + d.val, by omega⟩)
      = val_main_v101 (F := Ideal) (a0 m c) (a3 m c) (a4 m c) (ix4 b t h d) := by
  rw [left_q]
  have e : (h.val * 256 + d.val) % 256 < 128 := by omega
  refine ((asked m c (ix2 (flat b t) ⟨h.val * 256 + d.val, by omega⟩)).1 e).trans ?_
  exact (up_p m c b t h ⟨d.val, by omega⟩).trans (ref_qn (a0 m c) (a3 m c) (a4 m c) b t h d).symm

theorem got_qr (hq : Real (a0 m c)) (hw : Real (a3 m c)) (hu : Real (a4 m c)) (b : Fin 4) (t : Fin 2048) (h : Fin 16) (l : Fin 64) :
    (after m c (Proc.tc.devRef main_v46_0) : FVec Ideal S8192x4096 .bf16) (ix2 (flat b t) ⟨h.val * 256 + (128 + l.val), by omega⟩)
      = val_main_v102 (F := Ideal) (a0 m c) (a3 m c) (a4 m c) (ix4 b t h l) := by
  rw [left_q]
  have e₁ : (h.val * 256 + (128 + l.val)) % 256 = 128 + l.val := by omega
  have e₂ : h.val * 256 + (192 + l.val) = h.val * 256 + (128 + l.val) + 64 := by omega
  refine ((asked m c (ix2 (flat b t) ⟨h.val * 256 + (128 + l.val), by omega⟩)).2 l e₁
    ⟨h.val * 256 + (192 + l.val), by omega⟩ e₂).trans ?_
  have e : turn (flat b t) = t := turn_flat b t
  refine Eq.trans ?_ (roped m c hq hw hu b t h l)
  exact congrArg (fun p : Fin 2048 => up m c (flat b t) ⟨h.val * 256 + (128 + l.val), by omega⟩ * (table m c (ix2 p ⟨l.val, by omega⟩) : EReal)
      + up m c (flat b t) ⟨h.val * 256 + (192 + l.val), by omega⟩ * (table m c (ix2 p ⟨l.val + 64, by omega⟩) : EReal)) e

theorem got_k (b : Fin 4) (t : Fin 2048) (h : Fin 16) (d : Fin 128) :
    (after m c (Proc.tc.devRef main_v46_3) : FVec Ideal S8192x4096 .bf16) (ix2 (flat b t) ⟨h.val * 256 + d.val, by omega⟩)
      = val_main_v105 (F := Ideal) (a1 m c) (a5 m c) (a6 m c) (ix4 b t h d) := by
  rw [left_k]
  refine (keys m c (flat b t) _ ⟨h.val * 128 + d.val, by omega⟩ (by dsimp only; omega) (by dsimp only; omega)).trans ?_
  exact (kv_k m c b t h d).trans (ref_kn (a1 m c) (a5 m c) (a6 m c) b t h d).symm

theorem got_v (b : Fin 4) (t : Fin 2048) (h : Fin 16) (d : Fin 128) :
    (after m c (Proc.tc.devRef main_v46_4) : FVec Ideal S8192x2048 .bf16) (ix2 (flat b t) ⟨h.val * 128 + d.val, by omega⟩)
      = val_main_v106 (F := Ideal) (a1 m c) (a5 m c) (a7 m c) (ix4 b t h d) := by
  rw [left_v]
  refine (values m c (flat b t) _).trans ?_
  exact (kv_v m c b t h d).trans (ref_vn (a1 m c) (a5 m c) (a7 m c) b t h d).symm

/-- A place of an array of rank four, by its coordinates. -/
theorem place {p q r s : Nat} (i : (⟨4, ![p, q, r, s]⟩ : Shape).Idx) : i = ix4 (i 0) (i 1) (i 2) (i 3) := by
  funext a
  fin_cases a <;> rfl

/-- The same with a leading axis of one. -/
theorem place_one {q r s : Nat} (i : (⟨4, ![1, q, r, s]⟩ : Shape).Idx) : i = ix4 0 (i 1) (i 2) (i 3) := by
  funext a
  fin_cases a
  · exact Subsingleton.elim (α := Fin 1) _ _
  all_goals rfl

theorem result_qn : val_main_v101 (F := Ideal) (a0 m c) (a3 m c) (a4 m c) = StableHlo.after (List.flatten [hostOps1]) (after m c) (Proc.tc.devRef main_v49) := by
  funext i
  rw [place i]
  exact ((out_qn (after m c) (i 0) (i 1) (i 2) (i 3)).trans (got_qn m c (i 0) (i 1) (i 2) (i 3))).symm

theorem result_qr (hq : Real (a0 m c)) (hw : Real (a3 m c)) (hu : Real (a4 m c)) :
    val_main_v102 (F := Ideal) (a0 m c) (a3 m c) (a4 m c) = StableHlo.after (List.flatten [hostOps1]) (after m c) (Proc.tc.devRef main_v50) := by
  funext i
  rw [place i]
  exact ((out_qr (after m c) (i 0) (i 1) (i 2) (i 3)).trans (got_qr m c hq hw hu (i 0) (i 1) (i 2) (i 3))).symm

theorem result_c : val_main_v103 (F := Ideal) (a1 m c) (a5 m c) = StableHlo.after (List.flatten [hostOps1]) (after m c) (Proc.tc.devRef main_v51) := by
  funext i
  rw [place_one i]
  exact ((out_c (after m c) (i 1) (i 2) (i 3)).trans (((congrFun (left_c m c) _).trans (latents m c (flat (i 1) (i 2)) (i 3))).trans
    ((lat_flat m c (i 1) (i 2) (i 3)).trans (ref_c (a1 m c) (a5 m c) (i 1) (i 2) (i 3)).symm))).symm

theorem result_r : val_main_v104 (F := Ideal) (a2 m c) = StableHlo.after (List.flatten [hostOps1]) (after m c) (Proc.tc.devRef main_v52) := by
  funext i
  rw [place_one i]
  exact ((out_r (after m c) (i 1) (i 2) (i 3)).trans (((congrFun (left_r m c) _).trans (rotations m c (flat (i 1) (i 2)) (i 3))).trans
    (rotated_at m c (i 1) (i 2) (i 3)))).symm

theorem result_k : val_main_v105 (F := Ideal) (a1 m c) (a5 m c) (a6 m c) = StableHlo.after (List.flatten [hostOps1]) (after m c) (Proc.tc.devRef main_v53) := by
  funext i
  rw [place i]
  exact ((out_k (after m c) (i 0) (i 1) (i 2) (i 3)).trans (got_k m c (i 0) (i 1) (i 2) (i 3))).symm

theorem result_v : val_main_v106 (F := Ideal) (a1 m c) (a5 m c) (a7 m c) = StableHlo.after (List.flatten [hostOps1]) (after m c) (Proc.tc.devRef main_v54) := by
  funext i
  rw [place i]
  exact ((out_v (after m c) (i 0) (i 1) (i 2) (i 3)).trans (got_v m c (i 0) (i 1) (i 2) (i 3))).symm

set_option maxHeartbeats 4000000 in
theorem preparation : Cert.algebraic_PrepIdeal_PrepRefIdeal_pre_finite_prep := by
  pair_intro
  · run_from Cert.PrepIdeal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
  · run_from Cert.PrepRefIdeal.Value.run m' g'
    · exact (val_main_v101_eq (F := Ideal) _ _ _).trans (result_qn m c)
    · obtain ⟨r0, r3, r4⟩ := args_real _ _ _ _ _ _ _ _ (congrFun (hpre c) ix0)
      obtain ⟨e0, e1, e2, e3, e4, e5, e6, e7⟩ := hagree c
      refine (val_main_v102_eq (F := Ideal) m' c).trans ?_
      rw [e0, e3, e4]
      exact result_qr m c r0 r3 r4
    · exact (val_main_v103_eq (F := Ideal) _ _).trans (result_c m c)
    · refine (val_main_v104_eq (F := Ideal) _).trans ?_
      rw [(hagree c).2.2.1]
      exact result_r m c
    · exact (val_main_v105_eq (F := Ideal) _ _ _).trans (result_k m c)
    · exact (val_main_v106_eq (F := Ideal) _ _ _).trans (result_v m c)

end Cert.Proof.Prep

end
-- ==== Proof.OutBody.lean ====
/- What the body of the output projection does to its buffers: the inputs stay, and the column block that the point names is replaced in
   the output's buffer; the last point then replaces the whole block by its layer norm. -/
module

public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import Idealize.ShloMosaic.Lib.VecWindow
public import Idealize.ShloMosaic.Lib.Pipeline.DatRel
public import Idealize.ShloMosaic.Lib.Pipeline.ArrRel
public import Idealize.ShloMosaic.Lib.Tactic

@[expose] public section

set_option maxRecDepth 16384

noncomputable section

namespace Cert.OutProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal.Gen

variable {F : FTy → Type} [FloatOps F]

local notation "𝕄" => MT nD τ sig Unit (Elt F) ℕ (UR sig nD τ) ℕ

set_option maxHeartbeats 4000000 in
/-- The body at a point of column block 0. -/
theorem block_0 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 0] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 1. -/
theorem block_1 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 512] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 2. -/
theorem block_2 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : ¬k0_cond2 i = 1#1) (h3 : k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 1024] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 3. -/
theorem block_3 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : ¬k0_cond2 i = 1#1) (h3 : ¬k0_cond3 i = 1#1) (h4 : k0_cond4 i = 1#1) (h5 : ¬k0_cond5 i = 1#1) (h6 : ¬k0_cond6 i = 1#1) (h7 : ¬k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 1536] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 4. -/
theorem block_4 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : ¬k0_cond2 i = 1#1) (h3 : ¬k0_cond3 i = 1#1) (h4 : ¬k0_cond4 i = 1#1) (h5 : k0_cond5 i = 1#1) (h6 : ¬k0_cond6 i = 1#1) (h7 : ¬k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 2048] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 5. -/
theorem block_5 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : ¬k0_cond2 i = 1#1) (h3 : ¬k0_cond3 i = 1#1) (h4 : ¬k0_cond4 i = 1#1) (h5 : ¬k0_cond5 i = 1#1) (h6 : k0_cond6 i = 1#1) (h7 : ¬k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 2560] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  sl_unfold_words
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 6. -/
theorem block_6 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : k0_cond7 i = 1#1) (h8 : ¬k0_cond8 i = 1#1) (h9 : ¬k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (VecWindow.put x10 ![0, 3072] S512x512.size (k0_pay2 x3 x5 x4 x6 x7))) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  sl_unfold_words
  rw [View.read_writes_cons_put _ _ _ _ _ rfl, View.writes_nil, harg10.read_unread]
  simp (disch := decide) only [View.readAt_eq_ld, Memref.IsWhole.read_unread, View.ld_unit_lit]

set_option maxHeartbeats 4000000 in
/-- The body at a point of column block 7. -/
theorem block_7 (c : Dev nD) (i : grid0.Coords) (arg2 : Memref sig .tc .hbm S8320x4096 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x512 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S512x4096 .f32) (harg10 : arg10.IsWhole)
    (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : k0_cond8 i = 1#1) (h9 : k0_cond9 i = 1#1)
    (x3 : Vec F S512x2048 .bf16) (x4 : Vec F S512x2048 .bf16) (x5 : Vec F S2048x512 .bf16) (x6 : Vec F S2048x512 .bf16) (x7 : Vec F S512x512 .f32) (x8 : Vec F S1x4096 .f32) (x9 : Vec F S1x4096 .f32) (x10 : Vec F S512x4096 .f32)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (k0_pay1 (VecWindow.put x10 ![0, 3584] S512x512.size (k0_pay2 x3 x5 x4 x6 x7)) x8 x9)) -∗ K ⟨⟩))
      ⊢ wp frame (wpE (defs₀ (F := F)) Variants.none c none) E (cc0_out_proj_ln i arg2 harg2 arg3 harg3 arg4 harg4 arg5 harg5 arg6 harg6 arg7 harg7 arg8 harg8 arg9 harg9 arg10 harg10) K := by
  simp only [cc0_out_proj_ln_eq_skeleton]; unfold cc0_out_proj_ln_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4 | sl_exact h5 | sl_exact h6 | sl_exact h7 | sl_exact h8 | sl_exact h9)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; swap; · iexact H10
  ipureintro
  sl_unfold_words
  rw [View.read_writes_full]
  simp (disch := decide) only [View.readAt_eq_ld, Memref.IsWhole.read_unread, View.ld_unit_lit]
  rw [View.read_writes_cons_put _ _ _ _ _ rfl, View.writes_nil, harg10.read_unread]

end Cert.OutProjIdeal.Hand
-- ==== Proof.OutRun.lean ====
/- The run of the output projection. Between two points of one row block the output's buffer holds the column blocks that the points
   have stored, and nothing is known of its other columns; at the last of them it holds the layer norm of the whole block. -/
module

public import proofs.«01_k».proof.Proof.OutBody
public import Idealize.ShloMosaic.Lib.Quiescent

@[expose] public section

set_option maxRecDepth 16384

noncomputable section

namespace Cert.OutProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which column block a point works on -/

theorem points (t : Fin cfg0.N) : t.val < 128 := Nat.lt_of_lt_of_eq t.isLt N_0
theorem cond_1 (t : Fin cfg0.N) : k0_cond1 (grid0.coords t) = 1#1 ↔ t.val % 8 = 0 := by
  have ht := points t
  have e1 : (grid0.coords t 1).val = t.val / 1 % 8 := Pipeline.Grid.coords_val t 1 (by decide) rfl
  simp only [k0_cond1, e1]
  word_cmp
theorem cond_2 (t : Fin cfg0.N) : k0_cond2 (grid0.coords t) = 1#1 ↔ t.val % 8 = 1 := by
  have ht := points t
  have e1 : (grid0.coords t 1).val = t.val / 1 % 8 := Pipeline.Grid.coords_val t 1 (by decide) rfl
  simp only [k0_cond2, e1]
  word_cmp
theorem cond_3 (t : Fin cfg0.N) : k0_cond3 (grid0.coords t) = 1#1 ↔ t.val % 8 = 2 := by
  have ht := points t
  have e1 : (grid0.coords t 1).val = t.val / 1 % 8 := Pipeline.Grid.coords_val t 1 (by decide) rfl
  simp only [k0_cond3, e1]
  word_cmp
theorem cond_4 (t : Fin cfg0.N) : k0_cond4 (grid0.coords t) = 1#1 ↔ t.val % 8 = 3 := by
  have ht := points t
  have e1 : (grid0.coords t 1).val = t.val / 1 % 8 := Pipeline.Grid.coords_val t 1 (by decide) rfl
  simp only [k0_cond4, e1]
  word_cmp
theorem cond_5 (t : Fin cfg0.N) : k0_cond5 (grid0.coords t) = 1#1 ↔ t.val % 8 = 4 := by
  have ht := points t
  have e1 : (grid0.coords t 1).val = t.val / 1 % 8 := Pipeline.Grid.coords_val t 1 (by decide) rfl
  simp only [k0_cond5, e1]
  word_cmp
theorem cond_6 (t : Fin cfg0.N) : k0_cond6 (grid0.coords t) = 1#1 ↔ t.val % 8 = 5 := by
  have ht := points t
  have e1 : (grid0.coords t 1).val = t.val / 1 % 8 := Pipeline.Grid.coords_val t 1 (by decide) rfl
  simp only [k0_cond6, e1]
  word_cmp
theorem cond_7 (t : Fin cfg0.N) : k0_cond7 (grid0.coords t) = 1#1 ↔ t.val % 8 = 6 := by
  have ht := points t
  have e1 : (grid0.coords t 1).val = t.val / 1 % 8 := Pipeline.Grid.coords_val t 1 (by decide) rfl
  simp only [k0_cond7, e1]
  word_cmp
theorem cond_8 (t : Fin cfg0.N) : k0_cond8 (grid0.coords t) = 1#1 ↔ t.val % 8 = 7 := by
  have ht := points t
  have e1 : (grid0.coords t 1).val = t.val / 1 % 8 := Pipeline.Grid.coords_val t 1 (by decide) rfl
  simp only [k0_cond8, e1]
  word_cmp
theorem cond_9 (t : Fin cfg0.N) : k0_cond9 (grid0.coords t) = 1#1 ↔ t.val % 8 = 7 := by
  have ht := points t
  have e1 : (grid0.coords t 1).val = t.val / 1 % 8 := Pipeline.Grid.coords_val t 1 (by decide) rfl
  simp only [k0_cond9, e1]
  word_cmp

/-- The point of column block `n` in the row block of `t`. -/
def colPoint (t : Fin cfg0.N) (n : ℕ) : Fin cfg0.N := ⟨t.val / 8 * 8 + n % 8,
  Nat.lt_of_lt_of_eq (m := 128) (by have := points t; omega) N_0.symm⟩

theorem colPoint_self (t : Fin cfg0.N) {n : ℕ} (h : t.val % 8 = n) : colPoint t n = t :=
  Fin.ext (by show t.val / 8 * 8 + n % 8 = t.val; omega)

theorem colPoint_pred (t u : Fin cfg0.N) (n : ℕ) (h : u.val / 8 = t.val / 8) : colPoint u n = colPoint t n :=
  Fin.ext (by show u.val / 8 * 8 + n % 8 = t.val / 8 * 8 + n % 8; omega)

/-- The column block that point `p` computes. -/
def mixCol (c : Dev nD) (p : Fin cfg0.N) : Vec F S512x512 .f32 :=
  k0_pay2 (iblk m c 0 p) (iblk m c 2 p) (iblk m c 1 p) (iblk m c 3 p) (iblk m c 4 p)

/-- The row block before the layer norm. -/
def mixed (c : Dev nD) (t : Fin cfg0.N) : Vec F S512x4096 .f32 := fun y =>
  mixCol m c (colPoint t ((y 1).val / 512)) fun a => ⟨(y a).val % 512, by fin_cases a <;> exact Nat.mod_lt _ (by decide)⟩

/-- The row block after the layer norm. -/
def normed (c : Dev nD) (t : Fin cfg0.N) : Vec F S512x4096 .f32 :=
  k0_pay1 (mixed m c t) (iblk m c 5 t) (iblk m c 6 t)

theorem mixed_pred (c : Dev nD) (t u : Fin cfg0.N) (h : u.val / 8 = t.val / 8) : mixed m c u = mixed m c t := by
  funext y; unfold mixed; rw [colPoint_pred t u _ h]

/-! ## The proof data -/

/-- The exact part: the inputs stay. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => normed m c t
  Φ _ := Pipeline.ΦA spec0 c
  q w := Pipeline.shareOf spec0 w
  owed _ := 0

/-- The output's window is the one of which a predicate is known. -/
def marked : Fin cfg0.W → Bool := fun
  | ⟨0, _⟩ => false | ⟨1, _⟩ => false | ⟨2, _⟩ => false | ⟨3, _⟩ => false | ⟨4, _⟩ => false | ⟨5, _⟩ => false | ⟨6, _⟩ => false
  | ⟨7, _⟩ => true

/-- What the output's buffer holds after point `t`. -/
def Filled (c : Dev nD) (t : Fin cfg0.N) (X : Vec F S512x4096 .f32) : Prop :=
  (t.val % 8 = 7 → X = normed m c t)
    ∧ (t.val % 8 ≠ 7 → ∀ y : S512x4096.Idx, (y 1).val < 512 * (t.val % 8 + 1) → X y = mixed m c t y)

def held (c : Dev nD) : (w : Fin cfg0.W) → Fin cfg0.N → ((cfg0.win w).block.Idx → Elt F (cfg0.win w).elt) → Prop := fun
  | ⟨0, _⟩ => fun _ _ => True | ⟨1, _⟩ => fun _ _ => True | ⟨2, _⟩ => fun _ _ => True | ⟨3, _⟩ => fun _ _ => True
  | ⟨4, _⟩ => fun _ _ => True | ⟨5, _⟩ => fun _ _ => True | ⟨6, _⟩ => fun _ _ => True
  | ⟨7, _⟩ => fun t X => Filled m c t X

/-- The proof data read relationally. -/
abbrev rdat (c : Dev nD) := (dats m 0 c).toRRel marked (held m c)

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-! ## The output's buffer -/

/-- What the body finds there: the column blocks of the points before. -/
theorem found (c : Dev nD) (t : Fin cfg0.N) (Y : Vec F S512x4096 .f32) (hY : (rdat m c).Finds 7 t Y) (y : S512x4096.Idx)
    (hy : (y 1).val < 512 * (t.val % 8)) : Y y = mixed m c t y := by
  have h0 : t.val ≠ 0 := by intro h; rw [h] at hy; exact Nat.not_lt_zero _ hy
  rcases ((rdat m c).finds_of_pos (w := 7) (t := t) ((cfg0.win 7).fetch_out rfl t) h0 Y).mp hY with h | h
  · have := (flush0_7 _).mp h
    dsimp only at this
    omega
  · have hF : Filled m c ⟨t.val - 1, Nat.lt_of_le_of_lt (Nat.sub_le _ _) t.isLt⟩ Y := Dat.toRRel_leaves (dats m 0 c) (w := 7) rfl h
    rw [hF.2 (by dsimp only; omega) y (by dsimp only; omega), mixed_pred m c t _ (by dsimp only; omega)]

/-- The block that the point stores, put over what was found. -/
theorem put_filled (c : Dev nD) (t : Fin cfg0.N) (n o : ℕ) (hn : t.val % 8 = n) (ho : o = 512 * n) (Y : Vec F S512x4096 .f32)
    (hY : (rdat m c).Finds 7 t Y) (y : S512x4096.Idx) (hy : (y 1).val < 512 * (n + 1)) :
    VecWindow.put Y ![0, o] S512x512.size (mixCol m c t) y = mixed m c t y := by
  subst ho
  have y0 : (y 0).val < 512 := (y 0).isLt
  by_cases h : 512 * n ≤ (y 1).val
  · have hb : ∀ a, (![0, 512 * n] : Fin 2 → ℕ) a ≤ (y a).val ∧ (y a).val < (![0, 512 * n] : Fin 2 → ℕ) a + S512x512.size a := by
      intro a; fin_cases a
      · exact ⟨Nat.zero_le _, by show (y 0).val < 0 + 512; omega⟩
      · exact ⟨h, by show (y 1).val < 512 * n + 512; omega⟩
    refine (dif_pos hb).trans ?_
    unfold mixed
    rw [colPoint_self t (n := (y 1).val / 512) (by omega)]
    refine congrArg (mixCol m c t) (funext fun a => Fin.ext ?_)
    fin_cases a
    · show (y 0).val - 0 = (y 0).val % 512; omega
    · show (y 1).val - 512 * n = (y 1).val % 512; omega
  · refine (dif_neg fun hb => h (hb 1).1).trans (found m c t Y hY y (by omega))

theorem filled_lt (c : Dev nD) (t : Fin cfg0.N) (n o : ℕ) (hn : t.val % 8 = n) (h7 : n ≠ 7) (ho : o = 512 * n) (Y : Vec F S512x4096 .f32)
    (hY : (rdat m c).Finds 7 t Y) : Filled m c t (VecWindow.put Y ![0, o] S512x512.size (mixCol m c t)) :=
  ⟨fun h => absurd (hn.symm.trans h) h7, fun _ y hy => put_filled m c t n o hn ho Y hY y (by rw [← hn]; exact hy)⟩

theorem filled_last (c : Dev nD) (t : Fin cfg0.N) (hn : t.val % 8 = 7) (Y : Vec F S512x4096 .f32)
    (hY : (rdat m c).Finds 7 t Y) :
    Filled m c t (k0_pay1 (VecWindow.put Y ![0, 3584] S512x512.size (mixCol m c t)) (iblk m c 5 t) (iblk m c 6 t)) :=
  ⟨fun _ => congrArg (fun B => k0_pay1 B (iblk m c 5 t) (iblk m c 6 t)) (funext fun y =>
      put_filled m c t 7 3584 hn rfl Y hY y (show (y 1).val < 4096 from (y 1).isLt)), fun h => absurd hn h⟩

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ Y, ⌜(rdat m c).Finds 7 t Y⌝ ∗ owns (c : Thread nD τ) (st0_7 t) fullShare Y))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, ⌜held m c 7 t X⌝ ∗ owns (c : Thread nD τ) (st0_7 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6]
  rw [show (dats m 0 c).Φ t.succ = (dats m 0 c).Φ t.castSucc from rfl]
  have hcase : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases hcase with hn | hn | hn | hn | hn | hn | hn | hn
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_0 c (grid0.coords t) _ _ _ _ _ _ _ _ _ _ _ _ _ _ _ _ _ _ ((cond_1 t).mpr hn) (fun h => by have := (cond_2 t).mp h; omega) (fun h => by have := (cond_3 t).mp h; omega) (fun h => by have := (cond_4 t).mp h; omega) (fun h => by have := (cond_5 t).mp h; omega) (fun h => by have := (cond_6 t).mp h; omega) (fun h => by have := (cond_7 t).mp h; omega) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 0 0 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_1 c (grid0.coords t) _ _ _ _ _ _ _ _ _ _ _ _ _ _ _ _ _ _ (fun h => by have := (cond_1 t).mp h; omega) ((cond_2 t).mpr hn) (fun h => by have := (cond_3 t).mp h; omega) (fun h => by have := (cond_4 t).mp h; omega) (fun h => by have := (cond_5 t).mp h; omega) (fun h => by have := (cond_6 t).mp h; omega) (fun h => by have := (cond_7 t).mp h; omega) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 1 512 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_2 c (grid0.coords t) _ _ _ _ _ _ _ _ _ _ _ _ _ _ _ _ _ _ (fun h => by have := (cond_1 t).mp h; omega) (fun h => by have := (cond_2 t).mp h; omega) ((cond_3 t).mpr hn) (fun h => by have := (cond_4 t).mp h; omega) (fun h => by have := (cond_5 t).mp h; omega) (fun h => by have := (cond_6 t).mp h; omega) (fun h => by have := (cond_7 t).mp h; omega) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 2 1024 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_3 c (grid0.coords t) _ _ _ _ _ _ _ _ _ _ _ _ _ _ _ _ _ _ (fun h => by have := (cond_1 t).mp h; omega) (fun h => by have := (cond_2 t).mp h; omega) (fun h => by have := (cond_3 t).mp h; omega) ((cond_4 t).mpr hn) (fun h => by have := (cond_5 t).mp h; omega) (fun h => by have := (cond_6 t).mp h; omega) (fun h => by have := (cond_7 t).mp h; omega) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 3 1536 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_4 c (grid0.coords t) _ _ _ _ _ _ _ _ _ _ _ _ _ _ _ _ _ _ (fun h => by have := (cond_1 t).mp h; omega) (fun h => by have := (cond_2 t).mp h; omega) (fun h => by have := (cond_3 t).mp h; omega) (fun h => by have := (cond_4 t).mp h; omega) ((cond_5 t).mpr hn) (fun h => by have := (cond_6 t).mp h; omega) (fun h => by have := (cond_7 t).mp h; omega) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 4 2048 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_5 c (grid0.coords t) _ _ _ _ _ _ _ _ _ _ _ _ _ _ _ _ _ _ (fun h => by have := (cond_1 t).mp h; omega) (fun h => by have := (cond_2 t).mp h; omega) (fun h => by have := (cond_3 t).mp h; omega) (fun h => by have := (cond_4 t).mp h; omega) (fun h => by have := (cond_5 t).mp h; omega) ((cond_6 t).mpr hn) (fun h => by have := (cond_7 t).mp h; omega) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 5 2560 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_6 c (grid0.coords t) _ _ _ _ _ _ _ _ _ _ _ _ _ _ _ _ _ _ (fun h => by have := (cond_1 t).mp h; omega) (fun h => by have := (cond_2 t).mp h; omega) (fun h => by have := (cond_3 t).mp h; omega) (fun h => by have := (cond_4 t).mp h; omega) (fun h => by have := (cond_5 t).mp h; omega) (fun h => by have := (cond_6 t).mp h; omega) ((cond_7 t).mpr hn) (fun h => by have := (cond_8 t).mp h; omega) (fun h => by have := (cond_9 t).mp h; omega)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_lt m c t 6 3072 hn (by decide) rfl Y hY
  · iintro ⟨Hp, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (block_7 c (grid0.coords t) _ _ _ _ _ _ _ _ _ _ _ _ _ _ _ _ _ _ (fun h => by have := (cond_1 t).mp h; omega) (fun h => by have := (cond_2 t).mp h; omega) (fun h => by have := (cond_3 t).mp h; omega) (fun h => by have := (cond_4 t).mp h; omega) (fun h => by have := (cond_5 t).mp h; omega) (fun h => by have := (cond_6 t).mp h; omega) (fun h => by have := (cond_7 t).mp h; omega) ((cond_8 t).mpr hn) ((cond_9 t).mpr hn)
      (iblk m c 0 t) (iblk m c 1 t) (iblk m c 2 t) (iblk m c 3 t) (iblk m c 4 t) (iblk m c 5 t) (iblk m c 6 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro
    exact filled_last m c t hn Y hY

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (held m c) := fun t => by
  rw [bigSep_W0, bigSep_W0, defs₀_row]
  exact triple_restated (sound_body m c t) rfl .rfl fun _ => .rfl

/-! ## The run -/

set_option backward.isDefEq.respectTransparency.types false in
set_option maxHeartbeats 1600000 in
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl) (howed := fun _ _ => rfl) (V := V m)
    (hmain := hmain m Variants.none) (hA := A_eq m) (hin := fun _ => .rfl) (hout := fun _ => .rfl)

/-- The arguments at the end of the run. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  ⟨(h.arr_in c 0 rfl).trans ((A_eq m c 0).trans (V_main_arg0 m c)),
    (h.arr_in c 1 rfl).trans ((A_eq m c 1).trans (V_main_arg1 m c)),
    ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun r h => ⟨args_kept m r h.1, h.2⟩) (run_main_quiescent m ρ)

end Cert.OutProjIdeal.Hand
-- ==== Proof.OutValue.lean ====
/-
  The output projection kernel, read at an index: what its grid leaves in its array.
-/
module

public import proofs.«01_k».proof.Defs
public import proofs.«01_k».proof.Proof.OutRun
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.OutProj

open Cert.OutProjIdeal Cert.OutProjIdeal.Gen Cert.OutProjIdeal.Hand
open Idealize.ShloMosaic Idealize.ShloMosaic.TcCoe Idealize.SL.Sem
open Idealize.ShloMosaic.Tactic Idealize.ShloMosaic.Pointwise

/-- The layer norm of a row at a column. -/
def lnorm (x : Fin 4096 → EReal) (k : Fin 4096) (g b : EReal) : EReal :=
  (x k - Ideal.div (∑ j : Fin 4096, x j) (Ideal.ofBits .f32 0x45800000#32 : EReal))
    * Ideal.rsqrt (Ideal.div (∑ j : Fin 4096, (x j - Ideal.div (∑ j : Fin 4096, x j) (Ideal.ofBits .f32 0x45800000#32 : EReal))
        * (x j - Ideal.div (∑ j : Fin 4096, x j) (Ideal.ofBits .f32 0x45800000#32 : EReal))) (Ideal.ofBits .f32 0x45800000#32 : EReal)
      + (Ideal.ofBits .f32 0x3727C5AC#32 : EReal)) * g + b

theorem product_at (x0 : Vec Ideal S512x2048 .bf16) (w0 : Vec Ideal S2048x512 .bf16) (x1 : Vec Ideal S512x2048 .bf16) (w1 : Vec Ideal S2048x512 .bf16)
    (x : Vec Ideal S512x512 .f32) (r : Fin 512) (e : Fin 512) :
    (k0_pay2 x0 w0 x1 w1 x (ix2 r e) : EReal) = (Ideal.ofBits .f32 0x3F9837F0#32 : EReal) * (x (ix2 r e) : EReal)
      + (∑ k : Fin 2048, (x0 (ix2 r k) : EReal) * (w0 (ix2 k e) : EReal) + ∑ k : Fin 2048, (x1 (ix2 r k) : EReal) * (w1 (ix2 k e) : EReal)) := by
  unfold_payloads
  pointwise

theorem norm_at (x : Vec Ideal S512x4096 .f32) (g b : Vec Ideal S1x4096 .f32) (r : Fin 512) (k : Fin 4096) :
    (k0_pay1 x g b (ix2 r k) : EReal) = lnorm (fun k => (x (ix2 r k) : EReal)) k (g (ix2 0 k)) (b (ix2 0 k)) := by
  unfold lnorm
  unfold_payloads
  pointwise

variable (m : (ℓ : Loc nD τ sig) → Buf (Elt Ideal) ℓ) (c : Dev nD)

theorem idx0 : ∀ t : Fin grid0.N, win0_0.index t = ![t.val / 8, 0] := by decide +kernel
theorem idx1 : ∀ t : Fin grid0.N, win0_1.index t = ![t.val / 8, 0] := by decide +kernel
theorem idx2 : ∀ t : Fin grid0.N, win0_2.index t = ![0, t.val % 8] := by decide +kernel
theorem idx3 : ∀ t : Fin grid0.N, win0_3.index t = ![1, t.val % 8] := by decide +kernel
theorem idx4 : ∀ t : Fin grid0.N, win0_4.index t = ![t.val / 8, t.val % 8] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val / 8, 0] := by decide +kernel

abbrev a0 : FVec Ideal S8192x2048 .bf16 := m (c, Proc.tc.devRef main_arg0)
abbrev a1 : FVec Ideal S8192x2048 .bf16 := m (c, Proc.tc.devRef main_arg1)
abbrev a2 : FVec Ideal S1x4096x4096 .f32 := m (c, Proc.tc.devRef main_arg2)
abbrev a3 : FVec Ideal S4x2048x4096 .f32 := m (c, Proc.tc.devRef main_arg3)
abbrev a4 : FVec Ideal S1x4096 .f32 := m (c, Proc.tc.devRef main_arg4)
abbrev a5 : FVec Ideal S1x4096 .f32 := m (c, Proc.tc.devRef main_arg5)

/-! ## What the host lines give the call -/

theorem heads_at (i : S8192x2048.Idx) : (V m c main_arg0 i : EReal) = a0 m c i := congrFun (V_main_arg0 m c) i
theorem attended_at (i : S8192x2048.Idx) : (V m c main_arg1 i : EReal) = a1 m c i := congrFun (V_main_arg1 m c) i

theorem weights_at (k e : Fin 4096) : (V m c main_v1 (ix2 k e) : EReal) = a2 m c (ix3 0 k e) := by
  unfold V
  after_reads_at

theorem residual_at (R : Fin 8192) (e : Fin 4096) : (V m c main_v2 (ix2 R e) : EReal)
    = a3 m c (ix3 ⟨R.val / 2048, by omega⟩ ⟨R.val % 2048, by omega⟩ e) := by
  unfold V
  after_reads_at

theorem scale_at (e : Fin 4096) : (V m c main_v4 (ix2 0 e) : EReal) = a4 m c (ix2 0 e) := by
  unfold V
  after_reads_at

theorem shift_at (e : Fin 4096) : (V m c main_v6 (ix2 0 e) : EReal) = a5 m c (ix2 0 e) := by
  unfold V
  after_reads_at

theorem empty_at (R : Fin 8320) (e : Fin 4096) : (V m c main_v8 (ix2 R e) : EReal) = (Ideal.ofBits .f32 0x00000000#32 : EReal) := by
  unfold V
  after_reads_at
  simp only [id_eq]
  pointwise

/-! ## The blocks of a point -/

theorem block0 (t : Fin cfg0.N) (r : Fin 512) (k : Fin 2048) :
    (iblk m c 0 t : Vec Ideal S512x2048 .bf16) (ix2 r k) = V m c main_arg0 (ix2 ⟨512 * (t.val / 8) + r.val, by have := points t; omega⟩ k) := by
  blk_ext [iblk, idx0 t]

theorem block1 (t : Fin cfg0.N) (r : Fin 512) (k : Fin 2048) :
    (iblk m c 1 t : Vec Ideal S512x2048 .bf16) (ix2 r k) = V m c main_arg1 (ix2 ⟨512 * (t.val / 8) + r.val, by have := points t; omega⟩ k) := by
  blk_ext [iblk, idx1 t]

theorem block2 (t : Fin cfg0.N) (k : Fin 2048) (e : Fin 512) :
    (iblk m c 2 t : Vec Ideal S2048x512 .bf16) (ix2 k e) = V m c main_v1 (ix2 ⟨k.val, by omega⟩ ⟨512 * (t.val % 8) + e.val, by omega⟩) := by
  blk_ext [iblk, idx2 t]

theorem block3 (t : Fin cfg0.N) (k : Fin 2048) (e : Fin 512) :
    (iblk m c 3 t : Vec Ideal S2048x512 .bf16) (ix2 k e) = V m c main_v1 (ix2 ⟨2048 + k.val, by omega⟩ ⟨512 * (t.val % 8) + e.val, by omega⟩) := by
  blk_ext [iblk, idx3 t]

theorem block4 (t : Fin cfg0.N) (r e : Fin 512) :
    (iblk m c 4 t : Vec Ideal S512x512 .f32) (ix2 r e)
      = V m c main_v2 (ix2 ⟨512 * (t.val / 8) + r.val, by have := points t; omega⟩ ⟨512 * (t.val % 8) + e.val, by omega⟩) := by
  blk_ext [iblk, idx4 t]

theorem block5 (t : Fin cfg0.N) (e : Fin 4096) :
    (iblk m c 5 t : Vec Ideal S1x4096 .f32) (ix2 0 e) = V m c main_v4 (ix2 0 e) := by
  blk_ext [iblk, idx5 t]

theorem block6 (t : Fin cfg0.N) (e : Fin 4096) :
    (iblk m c 6 t : Vec Ideal S1x4096 .f32) (ix2 0 e) = V m c main_v6 (ix2 0 e) := by
  blk_ext [iblk, idx6 t]

/-- The layer's row before its norm. -/
def mix (x0 x1 : FVec Ideal S8192x2048 .bf16) (x2 : FVec Ideal S1x4096x4096 .f32) (x3 : FVec Ideal S4x2048x4096 .f32) (R : Fin 8192) (e : Fin 4096) : EReal :=
  (Ideal.ofBits .f32 0x3F9837F0#32 : EReal) * (x3 (ix3 ⟨R.val / 2048, by omega⟩ ⟨R.val % 2048, by omega⟩ e) : EReal)
    + (∑ k : Fin 2048, (x0 (ix2 R k) : EReal) * (x2 (ix3 0 ⟨k.val, by omega⟩ e) : EReal)
      + ∑ k : Fin 2048, (x1 (ix2 R k) : EReal) * (x2 (ix3 0 ⟨2048 + k.val, by omega⟩ e) : EReal))

theorem column (t : Fin cfg0.N) (r e : Fin 512) : (mixCol m c t (ix2 r e) : EReal)
    = mix (a0 m c) (a1 m c) (a2 m c) (a3 m c) ⟨512 * (t.val / 8) + r.val, by have := points t; omega⟩ ⟨512 * (t.val % 8) + e.val, by omega⟩ := by
  unfold mixCol mix
  refine (product_at ..).trans (congrArg₂ (fun u v : EReal => u + v) (congrArg (fun u : EReal => (Ideal.ofBits .f32 0x3F9837F0#32 : EReal) * u) ?_)
    (congrArg₂ (fun u v : EReal => u + v) (Finset.sum_congr rfl fun k _ => congrArg₂ (fun u v : EReal => u * v) ?_ ?_)
      (Finset.sum_congr rfl fun k _ => congrArg₂ (fun u v : EReal => u * v) ?_ ?_)))
  · exact (block4 m c t r e).trans (residual_at ..)
  · exact (block0 m c t r k).trans (heads_at ..)
  · exact (block2 m c t k e).trans (weights_at ..)
  · exact (block1 m c t r k).trans (attended_at ..)
  · exact (block3 m c t k e).trans (weights_at ..)

theorem mixed_at (t : Fin cfg0.N) (r : Fin 512) (e : Fin 4096) : (mixed m c t (ix2 r e) : EReal)
    = mix (a0 m c) (a1 m c) (a2 m c) (a3 m c) ⟨512 * (t.val / 8) + r.val, by have := points t; omega⟩ e := by
  have hp : (colPoint t (e.val / 512)).val = t.val / 8 * 8 + e.val / 512 % 8 := rfl
  have he := e.isLt
  have hi : (fun a => ⟨((ix2 r e : S512x4096.Idx) a).val % 512, by fin_cases a <;> exact Nat.mod_lt _ (by decide)⟩ : S512x512.Idx)
      = ix2 r ⟨e.val % 512, by omega⟩ := by
    funext a; fin_cases a
    · exact Fin.ext (Nat.mod_eq_of_lt r.isLt)
    · rfl
  refine (congrArg (fun z : S512x512.Idx => (mixCol m c (colPoint t (e.val / 512)) z : EReal)) hi).trans ?_
  refine (column m c _ r _).trans (congrArg₂ (mix (a0 m c) (a1 m c) (a2 m c) (a3 m c)) (Fin.ext ?_) (Fin.ext ?_)) <;> dsimp only <;> rw [hp] <;> omega

theorem normed_at (t : Fin cfg0.N) (r : Fin 512) (e : Fin 4096) : (normed m c t (ix2 r e) : EReal)
    = lnorm (mix (a0 m c) (a1 m c) (a2 m c) (a3 m c) ⟨512 * (t.val / 8) + r.val, by have := points t; omega⟩) e (a4 m c (ix2 0 e)) (a5 m c (ix2 0 e)) := by
  unfold normed
  rw [norm_at, block5, block6, scale_at, shift_at]
  exact congrArg (fun f => lnorm f e _ _) (funext fun k => mixed_at m c t r k)

/-! ## The array -/

/-- A row of the buffer, at the layer's numbers. -/
def filledRow (x0 x1 : FVec Ideal S8192x2048 .bf16) (x2 : FVec Ideal S1x4096x4096 .f32) (x3 : FVec Ideal S4x2048x4096 .f32) (x4 x5 : FVec Ideal S1x4096 .f32)
    (R : Fin 8192) (e : Fin 4096) : EReal :=
  lnorm (mix x0 x1 x2 x3 R) e (x4 (ix2 0 e)) (x5 (ix2 0 e))

def whole : FVec Ideal S8320x4096 .f32 := fun i =>
  filledRow (a0 m c) (a1 m c) (a2 m c) (a3 m c) (a4 m c) (a5 m c) ⟨(i 0).val % 8192, Nat.mod_lt _ (by decide)⟩ (i 1)

theorem placed (t : Fin cfg0.N) (y : ((cfg0.win 7).xblock (cfg0.grid.coords t)).Idx) (R : Fin 8320) (e : Fin 4096)
    (hR : R.val = 512 * (t.val / 8) + (y (0 : Fin 2)).val) (he : e.val = (y (1 : Fin 2)).val) :
    (win0_7.blk t).view.emb y = (ix2 R e : S8320x4096.Idx) := by
  blk_ext [idx7 t]

theorem whole_at (t : Fin cfg0.N) (z : S512x4096.Idx) (R : Fin 8320) (e : Fin 4096)
    (hR : R.val = 512 * (t.val / 8) + (z 0).val) (he : e.val = (z 1).val) : (normed m c t z : EReal) = whole m c (ix2 R e) := by
  have ht := points t
  have l0 : (z 0).val < 512 := (z 0).isLt
  refine Eq.trans ?_ ((normed_at m c t (z 0) (z 1)).trans ?_)
  · refine congrArg (fun z : S512x4096.Idx => (normed m c t z : EReal)) ?_
    funext a
    fin_cases a <;> rfl
  · unfold whole
    exact congrArg₂ (filledRow (a0 m c) (a1 m c) (a2 m c) (a3 m c) (a4 m c) (a5 m c)) (Fin.ext (by show 512 * (t.val / 8) + (z 0).val = R.val % 8192; omega)) (Fin.ext he.symm)

theorem array (after : (w : Fin cfg0.W) → Fin cfg0.N → (cfg0.win w).block.Idx → Elt Ideal (cfg0.win w).elt)
    (ha : ∀ t : Fin cfg0.N, (cfg0.win 7).flush t = true → after 7 t = normed m c t) :
    ((rdat m c).withAfter after).arrAt 7 cfg0.N
      = fun i : S8320x4096.Idx => if (i 0).val < 8192 then whole m c i else V m c main_v8 i := by
  refine ((rdat m c).withAfter after).arrAt_eq_of_coversWhere 7 _ (fun β => β (0 : Fin 2) < 16) (by decide +kernel) (fun t hf y => ?_) (fun j => ?_)
  · blk_simp
    have e : (((rdat m c).withAfter after).after 7 t : Vec Ideal S512x4096 .f32) = normed m c t := ha t hf
    rw [e]
    have ht := points t
    obtain ⟨z, hz⟩ : ∃ z : S512x4096.Idx, z = (cfg0.win 7).xinj (cfg0.grid.coords t) y := ⟨_, rfl⟩
    have l0 : (z 0).val < 512 := (z 0).isLt
    refine (congrArg (normed m c t) hz.symm).trans ((whole_at m c t z ⟨512 * (t.val / 8) + (z 0).val, by omega⟩ (z 1) rfl rfl).trans ?_)
    refine congrArg (whole m c) (placed t y _ _ ?_ ?_).symm
    · subst hz; rfl
    · subst hz; rfl
  · blk_simp [Pipeline.Window.cell_apply]; omega

/-! ## The layer's own lines -/

section

open Cert.OutProjRefIdeal.Read

variable (x0 x1 : FVec Ideal S8192x2048 .bf16) (x2 : FVec Ideal S1x4096x4096 .f32) (x3 : FVec Ideal S4x2048x4096 .f32) (x4 x5 : FVec Ideal S1x4096 .f32)

theorem ref_joined (b : Fin 4) (t : Fin 2048) (k : Fin 4096) : (val_main_v3 (F := Ideal) x0 x1 (ix3 b t k) : EReal)
    = if h : k.val < 2048 then (x0 (ix2 ⟨b.val * 2048 + t.val, by omega⟩ ⟨k.val, h⟩) : EReal)
      else x1 (ix2 ⟨b.val * 2048 + t.val, by omega⟩ ⟨k.val - 2048, by omega⟩) := by
  unfold val_main_v3 val_main_v2 val_main_v1 val_main_v0
  pointwise

theorem ref_product (b : Fin 4) (t : Fin 2048) (e : Fin 4096) : (val_main_v5 (F := Ideal) x0 x1 x2 (ix3 b t e) : EReal)
    = ∑ k : Fin 4096, (val_main_v3 (F := Ideal) x0 x1 (ix3 b t k) : EReal) * (x2 (ix3 0 k e) : EReal) := by
  unfold val_main_v5 val_main_v4
  pointwise

theorem ref_mix (b : Fin 4) (t : Fin 2048) (e : Fin 4096) : (val_main_v8 (F := Ideal) x0 x1 x2 x3 (ix3 b t e) : EReal)
    = mix x0 x1 x2 x3 ⟨b.val * 2048 + t.val, by omega⟩ e := by
  have hv : (val_main_v8 (F := Ideal) x0 x1 x2 x3 (ix3 b t e) : EReal)
      = (Ideal.ofBits .f32 0x3F9837F0#32 : EReal) * (x3 (ix3 b t e) : EReal) + (val_main_v5 (F := Ideal) x0 x1 x2 (ix3 b t e) : EReal) := by
    unfold val_main_v8 val_main_v7 val_main_v6 val_main_cst
    pointwise
  rw [hv, ref_product]
  unfold mix
  refine congrArg₂ (fun u v : EReal => u + v) ?_ ((Fin.sum_univ_add (a := 2048) (b := 2048) _).trans
    (congrArg₂ (fun u v : EReal => u + v) (Finset.sum_congr rfl fun k _ => ?_) (Finset.sum_congr rfl fun k _ => ?_)))
  · refine congrArg (fun z : S4x2048x4096.Idx => (Ideal.ofBits .f32 0x3F9837F0#32 : EReal) * (x3 z : EReal)) ?_
    funext a
    fin_cases a
    · exact Fin.ext (by show b.val = (b.val * 2048 + t.val) / 2048; omega)
    · exact Fin.ext (by show t.val = (b.val * 2048 + t.val) % 2048; omega)
    · rfl
  · rw [ref_joined, dif_pos (show (Fin.castAdd 2048 k).val < 2048 from k.isLt)]
    rfl
  · rw [ref_joined, dif_neg (show ¬(Fin.natAdd 2048 k).val < 2048 by simp)]
    refine congrArg (fun u : EReal => u * (x2 (ix3 0 (Fin.natAdd 2048 k) e) : EReal)) (congrArg (fun z : Fin 2048 => (x1 (ix2 ⟨b.val * 2048 + t.val, by omega⟩ z) : EReal)) (Fin.ext ?_))
    simp

theorem ref_norm (b : Fin 4) (t : Fin 2048) (e : Fin 4096) : (val_main_v34 (F := Ideal) x0 x1 x2 x3 x4 x5 (ix3 b t e) : EReal)
    = lnorm (fun k => (val_main_v8 (F := Ideal) x0 x1 x2 x3 (ix3 b t k) : EReal)) e (x4 (ix2 0 e)) (x5 (ix2 0 e)) := by
  unfold lnorm val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst_0 val_main_cst_1 val_main_cst_2 val_main_cst_3 val_main_cst_4
  pointwise

theorem ref_row (R : Fin 8320) (e : Fin 4096) : (val_main_v37 (F := Ideal) x0 x1 x2 x3 x4 x5 (ix2 R e) : EReal)
    = if h : R.val < 8192 then (val_main_v34 (F := Ideal) x0 x1 x2 x3 x4 x5 (ix3 ⟨R.val / 2048, by omega⟩ ⟨R.val % 2048, by omega⟩ e) : EReal)
      else (Ideal.ofBits .f32 0x00000000#32 : EReal) := by
  unfold val_main_v37 val_main_v36 val_main_v35 val_main_cst_5
  pointwise

/-- A place of the result, from the arguments. -/
theorem ref_place (R : Fin 8320) (e : Fin 4096) : (val_main_v37 (F := Ideal) x0 x1 x2 x3 x4 x5 (ix2 R e) : EReal)
    = if R.val < 8192 then filledRow x0 x1 x2 x3 x4 x5 ⟨R.val % 8192, Nat.mod_lt _ (by decide)⟩ e else (Ideal.ofBits .f32 0x00000000#32 : EReal) := by
  refine (ref_row x0 x1 x2 x3 x4 x5 R e).trans ?_
  by_cases h : R.val < 8192
  · rw [dif_pos h, if_pos h, ref_norm]
    unfold filledRow
    refine congrArg (fun f => lnorm f e (x4 (ix2 0 e)) (x5 (ix2 0 e))) (funext fun k => (ref_mix x0 x1 x2 x3 _ _ k).trans ?_)
    exact congrArg (fun R => mix x0 x1 x2 x3 R k) (Fin.ext (by dsimp only; omega))
  · rw [dif_neg h, if_neg h]

end

theorem expected_at (R : Fin 8320) (e : Fin 4096) :
    ((fun i : S8320x4096.Idx => if (i 0).val < 8192 then whole m c i else V m c main_v8 i) (ix2 R e) : EReal)
      = Cert.OutProjRefIdeal.Read.val_main_v37 (F := Ideal) (a0 m c) (a1 m c) (a2 m c) (a3 m c) (a4 m c) (a5 m c) (ix2 R e) := by
  refine Eq.trans ?_ (ref_place (a0 m c) (a1 m c) (a2 m c) (a3 m c) (a4 m c) (a5 m c) R e).symm
  show (if R.val < 8192 then whole m c (ix2 R e) else V m c main_v8 (ix2 R e) : EReal) = _
  by_cases h : R.val < 8192
  · rw [if_pos h, if_pos h]
    rfl
  · rw [if_neg h, if_neg h]
    exact empty_at m c R e

/-- Over the extended reals the call and the layer's lines return the same buffer. -/
theorem projection : Cert.algebraic_OutProjIdeal_OutProjRefIdeal := by
  intro m g m' g' _ hagree
  refine ⟨fun c => fun i : S8320x4096.Idx => if (i 0).val < 8192 then whole m c i else V m c main_v8 i, ?_, ?_⟩
  · refine (θ_run _ _ _).mono (fun r h c => ?_) (Cert.OutProjIdeal.Hand.run_main_quiescent m g)
    obtain ⟨after, hL, hA⟩ := Pipeline.RDat.FramePost.exists_exact h.1 c
    refine ⟨(hA 7).trans (array m c after fun t hf => ?_), args_kept m r h.1 c⟩
    have hF : Filled m c t (after 7 t) := Pipeline.Dat.toRRel_leaves (dats m 0 c) (w := 7) rfl (hL 7 t hf)
    exact hF.1 ((flush0_7 t).mp hf)
  · refine (θ_run _ _ _).mono (fun r h c => ?_) (Cert.OutProjRefIdeal.Value.run m' g')
    obtain ⟨e0, e1, e2, e3, e4, e5⟩ := hagree c
    refine ⟨(h c).1.trans ?_, (h c).2⟩
    refine (Cert.OutProjRefIdeal.Read.val_main_v37_eq m' c).trans ?_
    rw [e0, e1, e2, e3, e4, e5]
    funext i
    have hi : i = (ix2 (i 0) (i 1) : S8320x4096.Idx) := by funext a; fin_cases a <;> rfl
    rw [hi]
    exact (expected_at m c (i 0) (i 1)).symm

end Cert.Proof.OutProj

end
-- ==== Proof.CombineBody.lean ====
/- What the body of the last norm does to its buffers: the inputs stay, and the norm of the block is stored into the buffer of the
   prompt tokens at the first 64 points and into the buffer of the sample tokens at the last. -/
module

public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import Idealize.ShloMosaic.Lib.VecWindow
public import Idealize.ShloMosaic.Lib.Pipeline.DatRel
public import Idealize.ShloMosaic.Lib.Pipeline.ArrRel
public import Idealize.ShloMosaic.Lib.Tactic

@[expose] public section

set_option maxRecDepth 16384

noncomputable section

namespace Cert.CombineIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal.Gen

variable {F : FTy → Type} [FloatOps F]

local notation "𝕄" => MT nD τ sig Unit (Elt F) ℕ (UR sig nD τ) ℕ

set_option maxHeartbeats 4000000 in
/-- The body at a point of the prompt tokens. -/
theorem block_prompt (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x128 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .f32) (harg8 : arg8.IsWhole)
    (h1 : k0_cond1 i = 1#1) (h2 : ¬k0_cond2 i = 1#1)
    (x1 : Vec F S128x4096 .f32) (x2 : Vec F S128x4096 .f32) (x3 : Vec F S128x4096 .f32) (x4 : Vec F S128x128 .f32) (x5 : Vec F S1x4096 .f32) (x6 : Vec F S1x4096 .f32) (x7 : Vec F S128x4096 .f32) (x8 : Vec F S128x4096 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay1 x4 x2 x3 x1 x5 x6) ∗ owns (c : Thread nD τ) arg8 fullShare x8) -∗ K ⟨⟩))
      ⊢ wp frame (wpE (defs₀ (F := F)) Variants.none c none) E (cc0_ffn_ln i arg1 harg1 arg2 harg2 arg3 harg3 arg4 harg4 arg5 harg5 arg6 harg6 arg7 harg7 arg8 harg8) K := by
  simp only [cc0_ffn_ln_eq_skeleton]; unfold cc0_ffn_ln_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact h1 | sl_exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_full]
    simp (disch := decide) only [View.readAt_eq_ld, Memref.IsWhole.read_unread, View.ld_unit_lit]
  iexists _; isplitr; · ipureintro; exact harg8.read_unread _
  iexact H8

set_option maxHeartbeats 4000000 in
/-- The body at a point of the sample tokens. -/
theorem block_sample (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x128 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S128x4096 .f32) (harg8 : arg8.IsWhole)
    (h1 : ¬k0_cond1 i = 1#1) (h2 : k0_cond2 i = 1#1)
    (x1 : Vec F S128x4096 .f32) (x2 : Vec F S128x4096 .f32) (x3 : Vec F S128x4096 .f32) (x4 : Vec F S128x128 .f32) (x5 : Vec F S1x4096 .f32) (x6 : Vec F S1x4096 .f32) (x7 : Vec F S128x4096 .f32) (x8 : Vec F S128x4096 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay1 x4 x2 x3 x1 x5 x6)) -∗ K ⟨⟩))
      ⊢ wp frame (wpE (defs₀ (F := F)) Variants.none c none) E (cc0_ffn_ln i arg1 harg1 arg2 harg2 arg3 harg3 arg4 harg4 arg5 harg5 arg6 harg6 arg7 harg7 arg8 harg8) K := by
  simp only [cc0_ffn_ln_eq_skeleton]; unfold cc0_ffn_ln_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact h1 | sl_exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  sl_unfold_words
  rw [View.read_writes_full]
  simp (disch := decide) only [View.readAt_eq_ld, Memref.IsWhole.read_unread, View.ld_unit_lit]

end Cert.CombineIdeal.Hand
-- ==== Proof.CombineRun.lean ====
/- The run of the last norm. Its grid has one point more than the prompt has blocks: at the last point the buffer of the prompt tokens is
   written back once more, as the point before left it. -/
module

public import proofs.«01_k».proof.Proof.CombineBody
public import Idealize.ShloMosaic.Lib.Quiescent

@[expose] public section

set_option maxRecDepth 16384

noncomputable section

namespace Cert.CombineIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 65 := Nat.lt_of_lt_of_eq t.isLt N_0

theorem cond_1 (t : Fin cfg0.N) : k0_cond1 (grid0.coords t) = 1#1 ↔ t.val < 64 := by
  have ht := points t
  have e0 : (grid0.coords t 0).val = t.val / 1 % 65 := Pipeline.Grid.coords_val t 0 (by decide) rfl
  simp only [k0_cond1, e0]
  word_cmp
theorem cond_2 (t : Fin cfg0.N) : k0_cond2 (grid0.coords t) = 1#1 ↔ 64 ≤ t.val := by
  have ht := points t
  have e0 : (grid0.coords t 0).val = t.val / 1 % 65 := Pipeline.Grid.coords_val t 0 (by decide) rfl
  simp only [k0_cond2, e0]
  word_cmp

/-- The buffer of the prompt tokens is written back at every point but the last of theirs. -/
theorem flush_prompt : ∀ t : Fin cfg0.N, (cfg0.win 6).flush t = true ↔ t.val ≠ 63 :=
  (by decide +kernel : ∀ t : Fin grid0.N, win0_6.flush t = true ↔ t.val ≠ 63)

/-- The last point of the prompt tokens up to `t`. -/
def promptPoint (t : Fin cfg0.N) : Fin cfg0.N := ⟨min t.val 63, Nat.lt_of_le_of_lt (Nat.min_le_left _ _) t.isLt⟩

theorem promptPoint_self (t : Fin cfg0.N) (h : t.val < 64) : promptPoint t = t :=
  Fin.ext (by show min t.val 63 = t.val; omega)

theorem promptPoint_pred (t u : Fin cfg0.N) (h : 64 ≤ t.val) (hu : u.val = t.val - 1) : promptPoint u = promptPoint t :=
  Fin.ext (by show min u.val 63 = min t.val 63; omega)

/-- The block that point `t` stores. -/
def normed (c : Dev nD) (t : Fin cfg0.N) : Vec F S128x4096 .f32 :=
  k0_pay1 (iblk m c 3 t) (iblk m c 1 t) (iblk m c 2 t) (iblk m c 0 t) (iblk m c 4 t) (iblk m c 5 t)

/-! ## The proof data -/

/-- The exact part: the inputs stay. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => normed m c t
    | ⟨7, _⟩ => normed m c t
  Φ _ := Pipeline.ΦA spec0 c
  q w := Pipeline.shareOf spec0 w
  owed _ := 0

/-- The two outputs' windows are the ones of which a predicate is known. -/
def marked : Fin cfg0.W → Bool := fun
  | ⟨0, _⟩ => false | ⟨1, _⟩ => false | ⟨2, _⟩ => false | ⟨3, _⟩ => false | ⟨4, _⟩ => false | ⟨5, _⟩ => false
  | ⟨6, _⟩ => true | ⟨7, _⟩ => true

/-- What the two outputs' buffers hold after point `t`. -/
def held (c : Dev nD) : (w : Fin cfg0.W) → Fin cfg0.N → ((cfg0.win w).block.Idx → Elt F (cfg0.win w).elt) → Prop := fun
  | ⟨0, _⟩ => fun _ _ => True | ⟨1, _⟩ => fun _ _ => True | ⟨2, _⟩ => fun _ _ => True | ⟨3, _⟩ => fun _ _ => True
  | ⟨4, _⟩ => fun _ _ => True | ⟨5, _⟩ => fun _ _ => True
  | ⟨6, _⟩ => fun t X => X = normed m c (promptPoint t)
  | ⟨7, _⟩ => fun t X => 64 ≤ t.val → X = normed m c t

/-- The proof data read relationally. -/
abbrev rdat (c : Dev nD) := (dats m 0 c).toRRel marked (held m c)

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

/-- The last point finds in the buffer of the prompt tokens what the point before left there. -/
theorem found (c : Dev nD) (t : Fin cfg0.N) (h : 64 ≤ t.val) (Y : Vec F S128x4096 .f32) (hY : (rdat m c).Finds 6 t Y) :
    Y = normed m c (promptPoint t) := by
  have ht := points t
  have h0 : t.val ≠ 0 := by omega
  rcases ((rdat m c).finds_of_pos (w := 6) (t := t) ((cfg0.win 6).fetch_out rfl t) h0 Y).mp hY with h' | h'
  · have := (flush_prompt _).mp h'
    dsimp only at this
    omega
  · have hF : held m c 6 ⟨t.val - 1, Nat.lt_of_le_of_lt (Nat.sub_le _ _) t.isLt⟩ Y := Dat.toRRel_leaves (dats m 0 c) (w := 6) rfl h'
    exact Eq.trans (show Y = normed m c (promptPoint _) from hF) (congrArg (normed m c) (promptPoint_pred t _ h rfl))

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ X, ⌜held m c 6 t X⌝ ∗ owns (c : Thread nD τ) (st0_6 t) fullShare X)
    ∗ (∃ X, ⌜held m c 7 t X⌝ ∗ owns (c : Thread nD τ) (st0_7 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = (dats m 0 c).Φ t.castSucc from rfl]
  have hcase : t.val < 64 ∨ 64 ≤ t.val := by omega
  rcases hcase with hn | hn
  · iintro ⟨Hp, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩⟩
    iapply (block_prompt c (grid0.coords t) _ _ _ _ _ _ _ _ _ _ _ _ _ _ _ _ ((cond_1 t).mpr hn) (fun h => by have := (cond_2 t).mp h; omega)
      (iblk m c 0 t) (iblk m c 1 t) (iblk m c 2 t) (iblk m c 3 t) (iblk m c 4 t) (iblk m c 5 t) Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact congrArg (normed m c) (promptPoint_self t hn).symm
    iexists _; isplitr; swap; · iexact H7
    ipureintro
    exact fun h => absurd h (Nat.not_le_of_lt hn)
  · iintro ⟨Hp, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩⟩
    iapply (block_sample c (grid0.coords t) _ _ _ _ _ _ _ _ _ _ _ _ _ _ _ _ (fun h => by have := (cond_1 t).mp h; omega) ((cond_2 t).mpr hn)
      (iblk m c 0 t) (iblk m c 1 t) (iblk m c 2 t) (iblk m c 3 t) (iblk m c 4 t) (iblk m c 5 t) Y6 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hp]; · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro
      exact found m c t hn Y6 hY6
    iexists _; isplitr; swap; · iexact H7
    ipureintro
    exact fun _ => rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (held m c) := fun t => by
  rw [bigSep_W0, bigSep_W0, defs₀_row]
  exact triple_restated (sound_body m c t) rfl .rfl fun _ => .rfl

/-! ## The run -/

set_option backward.isDefEq.respectTransparency.types false in
set_option maxHeartbeats 1600000 in
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl) (howed := fun _ _ => rfl) (V := V m)
    (hmain := hmain m Variants.none) (hA := A_eq m) (hin := fun _ => .rfl) (hout := fun _ => .rfl)

/-- The arguments at the end of the run. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨(h.arr_in c 0 rfl).trans ((A_eq m c 0).trans (V_main_arg0 m c)),
    (h.arr_in c 2 rfl).trans ((A_eq m c 2).trans (V_main_arg1 m c)),
    (h.arr_in c 3 rfl).trans ((A_eq m c 3).trans (V_main_arg2 m c)),
    ((h c).2 main_arg3 (Pipeline.mem_restRefs_of main_arg3 (by decide) (by decide))).trans (V_main_arg3 m c), ((h c).2 main_arg4 (Pipeline.mem_restRefs_of main_arg4 (by decide) (by decide))).trans (V_main_arg4 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun r h => ⟨args_kept m r h.1, h.2⟩) (run_main_quiescent m ρ)

end Cert.CombineIdeal.Hand
-- ==== Proof.CombineValue.lean ====
/-
  The last norm, read at an index: what its grid leaves in the arrays of the prompt tokens and of the sample tokens.
-/
module

public import proofs.«01_k».proof.Defs
public import proofs.«01_k».proof.Proof.CombineRun
public import proofs.«01_k».proof.Proof.OutValue
public import proofs.«01_k».proof.Proof.Gen.CombineRefIdeal
public import proofs.«01_k».proof.Proof.Gen.CombineRefIdeal.Run
public import proofs.«01_k».proof.Proof.Gen.CombineRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Combine

open Cert.CombineIdeal Cert.CombineIdeal.Gen Cert.CombineIdeal.Hand
open Idealize.ShloMosaic Idealize.ShloMosaic.TcCoe Idealize.SL.Sem
open Idealize.ShloMosaic.Tactic Idealize.ShloMosaic.Pointwise

open Cert.Proof.OutProj (lnorm)

/-- A row before its norm, at a column: the hidden value and the two experts' outputs at their gates. -/
def blend (h y0 y1 g0 g1 : EReal) : EReal := (Ideal.ofBits .f32 0x3F9837F0#32 : EReal) * h + (g0 * y0 + g1 * y1)

theorem norm_at (gt : Vec Ideal S128x128 .f32) (y0 y1 h : Vec Ideal S128x4096 .f32) (g b : Vec Ideal S1x4096 .f32) (r : Fin 128) (k : Fin 4096) :
    (k0_pay1 gt y0 y1 h g b (ix2 r k) : EReal)
      = lnorm (fun k => blend (h (ix2 r k)) (y0 (ix2 r k)) (y1 (ix2 r k)) (gt (ix2 r 0)) (gt (ix2 r 1))) k (g (ix2 0 k)) (b (ix2 0 k)) := by
  unfold lnorm blend
  unfold_payloads
  pointwise

variable (m : (ℓ : Loc nD τ sig) → Buf (Elt Ideal) ℓ) (c : Dev nD)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val + 65, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![min t.val 63, 0] := by decide +kernel
theorem idx7 : ∀ t : Fin grid0.N, win0_7.index t = ![0, 0] := by decide +kernel

abbrev a0 : FVec Ideal S8320x4096 .f32 := m (c, Proc.tc.devRef main_arg0)
abbrev a1 : FVec Ideal S16640x4096 .f32 := m (c, Proc.tc.devRef main_arg1)
abbrev a2 : FVec Ideal S8320x128 .f32 := m (c, Proc.tc.devRef main_arg2)
abbrev a3 : FVec Ideal S1x4096 .f32 := m (c, Proc.tc.devRef main_arg3)
abbrev a4 : FVec Ideal S1x4096 .f32 := m (c, Proc.tc.devRef main_arg4)

/-! ## What the host lines give the call -/

theorem hidden_at (i : S8320x4096.Idx) : (V m c main_arg0 i : EReal) = a0 m c i := congrFun (V_main_arg0 m c) i
theorem outputs_at (i : S16640x4096.Idx) : (V m c main_arg1 i : EReal) = a1 m c i := congrFun (V_main_arg1 m c) i
theorem gates_at (i : S8320x128.Idx) : (V m c main_arg2 i : EReal) = a2 m c i := congrFun (V_main_arg2 m c) i

theorem scale_at (e : Fin 4096) : (V m c main_v1 (ix2 0 e) : EReal) = a3 m c (ix2 0 e) := by
  unfold V
  after_reads_at

theorem shift_at (e : Fin 4096) : (V m c main_v3 (ix2 0 e) : EReal) = a4 m c (ix2 0 e) := by
  unfold V
  after_reads_at

/-! ## The blocks of a point -/

theorem block0 (t : Fin cfg0.N) (r : Fin 128) (k : Fin 4096) :
    (iblk m c 0 t : Vec Ideal S128x4096 .f32) (ix2 r k) = V m c main_arg0 (ix2 ⟨128 * t.val + r.val, by have := points t; omega⟩ k) := by
  blk_ext [iblk, idx0 t]

theorem block1 (t : Fin cfg0.N) (r : Fin 128) (k : Fin 4096) :
    (iblk m c 1 t : Vec Ideal S128x4096 .f32) (ix2 r k) = V m c main_arg1 (ix2 ⟨128 * t.val + r.val, by have := points t; omega⟩ k) := by
  blk_ext [iblk, idx1 t]

theorem block2 (t : Fin cfg0.N) (r : Fin 128) (k : Fin 4096) :
    (iblk m c 2 t : Vec Ideal S128x4096 .f32) (ix2 r k) = V m c main_arg1 (ix2 ⟨8320 + (128 * t.val + r.val), by have := points t; omega⟩ k) := by
  blk_ext [iblk, idx2 t]

theorem block3 (t : Fin cfg0.N) (r k : Fin 128) :
    (iblk m c 3 t : Vec Ideal S128x128 .f32) (ix2 r k) = V m c main_arg2 (ix2 ⟨128 * t.val + r.val, by have := points t; omega⟩ k) := by
  blk_ext [iblk, idx3 t]

theorem block4 (t : Fin cfg0.N) (e : Fin 4096) :
    (iblk m c 4 t : Vec Ideal S1x4096 .f32) (ix2 0 e) = V m c main_v1 (ix2 0 e) := by
  blk_ext [iblk, idx4 t]

theorem block5 (t : Fin cfg0.N) (e : Fin 4096) :
    (iblk m c 5 t : Vec Ideal S1x4096 .f32) (ix2 0 e) = V m c main_v3 (ix2 0 e) := by
  blk_ext [iblk, idx5 t]

/-- A token's row before its norm. -/
def mix (x0 : FVec Ideal S8320x4096 .f32) (x1 : FVec Ideal S16640x4096 .f32) (x2 : FVec Ideal S8320x128 .f32) (R : Fin 8320) (e : Fin 4096) : EReal :=
  blend (x0 (ix2 R e)) (x1 (ix2 ⟨R.val, by omega⟩ e)) (x1 (ix2 ⟨8320 + R.val, by omega⟩ e)) (x2 (ix2 R 0)) (x2 (ix2 R 1))

/-- A token's row of the result. -/
def outRow (x0 : FVec Ideal S8320x4096 .f32) (x1 : FVec Ideal S16640x4096 .f32) (x2 : FVec Ideal S8320x128 .f32) (x3 x4 : FVec Ideal S1x4096 .f32)
    (R : Fin 8320) (e : Fin 4096) : EReal :=
  lnorm (mix x0 x1 x2 R) e (x3 (ix2 0 e)) (x4 (ix2 0 e))

theorem blend_congr {h h' y y' z z' g g' l l' : EReal} (e0 : h = h') (e1 : y = y') (e2 : z = z') (e3 : g = g') (e4 : l = l') :
    blend h y z g l = blend h' y' z' g' l' := by subst e0 e1 e2 e3 e4; rfl

theorem normed_at (t : Fin cfg0.N) (r : Fin 128) (e : Fin 4096) : (normed m c t (ix2 r e) : EReal)
    = outRow (a0 m c) (a1 m c) (a2 m c) (a3 m c) (a4 m c) ⟨128 * t.val + r.val, by have := points t; omega⟩ e := by
  unfold normed outRow mix
  rw [norm_at, block4, block5, scale_at, shift_at]
  exact congrArg (fun f => lnorm f e _ _) (funext fun k => blend_congr ((block0 m c t r k).trans (hidden_at ..))
    ((block1 m c t r k).trans (outputs_at ..)) ((block2 m c t r k).trans (outputs_at ..)) ((block3 m c t r 0).trans (gates_at ..))
    ((block3 m c t r 1).trans (gates_at ..)))

theorem row_of (t : Fin cfg0.N) (z : S128x4096.Idx) (R : Fin 8320) (e : Fin 4096)
    (hR : R.val = 128 * t.val + (z 0).val) (he : e.val = (z 1).val) : (normed m c t z : EReal)
      = outRow (a0 m c) (a1 m c) (a2 m c) (a3 m c) (a4 m c) R e := by
  refine Eq.trans ?_ ((normed_at m c t (z 0) (z 1)).trans ?_)
  · refine congrArg (fun z : S128x4096.Idx => (normed m c t z : EReal)) ?_
    funext a
    fin_cases a <;> rfl
  · exact congrArg₂ (outRow (a0 m c) (a1 m c) (a2 m c) (a3 m c) (a4 m c)) (Fin.ext hR.symm) (Fin.ext he.symm)

/-! ## The arrays -/

/-- The rows of the prompt tokens. -/
def prompt : FVec Ideal S8192x4096 .f32 := fun i =>
  outRow (a0 m c) (a1 m c) (a2 m c) (a3 m c) (a4 m c) ⟨(i 0).val, by have : (i 0).val < 8192 := (i 0).isLt; omega⟩ (i 1)

/-- The rows of the sample tokens. -/
def sample : FVec Ideal S128x4096 .f32 := fun i =>
  outRow (a0 m c) (a1 m c) (a2 m c) (a3 m c) (a4 m c) ⟨8192 + (i 0).val, by have : (i 0).val < 128 := (i 0).isLt; omega⟩ (i 1)

theorem placed_prompt (t : Fin cfg0.N) (y : ((cfg0.win 6).xblock (cfg0.grid.coords t)).Idx) (R : Fin 8192) (e : Fin 4096)
    (hR : R.val = 128 * min t.val 63 + (y (0 : Fin 2)).val) (he : e.val = (y (1 : Fin 2)).val) :
    (win0_6.blk t).view.emb y = (ix2 R e : S8192x4096.Idx) := by
  blk_ext [idx6 t]

theorem placed_sample (t : Fin cfg0.N) (y : ((cfg0.win 7).xblock (cfg0.grid.coords t)).Idx) (R : Fin 128) (e : Fin 4096)
    (hR : R.val = (y (0 : Fin 2)).val) (he : e.val = (y (1 : Fin 2)).val) :
    (win0_7.blk t).view.emb y = (ix2 R e : S128x4096.Idx) := by
  blk_ext [idx7 t]

theorem array_prompt (after : (w : Fin cfg0.W) → Fin cfg0.N → (cfg0.win w).block.Idx → Elt Ideal (cfg0.win w).elt)
    (ha : ∀ t : Fin cfg0.N, (cfg0.win 6).flush t = true → after 6 t = normed m c (promptPoint t)) :
    ((rdat m c).withAfter after).arrAt 6 cfg0.N = prompt m c := by
  refine ((rdat m c).withAfter after).arrAt_eq_of_covers 6 _ (by decide +kernel) fun t hf y => ?_
  blk_simp
  have e : (((rdat m c).withAfter after).after 6 t : Vec Ideal S128x4096 .f32) = normed m c (promptPoint t) := ha t hf
  rw [e]
  obtain ⟨z, hz⟩ : ∃ z : S128x4096.Idx, z = (cfg0.win 6).xinj (cfg0.grid.coords t) y := ⟨_, rfl⟩
  have l0 : (z 0).val < 128 := (z 0).isLt
  refine (congrArg (normed m c (promptPoint t)) hz.symm).trans ((row_of m c (promptPoint t) z ⟨128 * min t.val 63 + (z 0).val, by omega⟩ (z 1) rfl rfl).trans ?_)
  refine Eq.trans (b := prompt m c (ix2 ⟨128 * min t.val 63 + (z 0).val, by omega⟩ (z 1))) rfl (congrArg (prompt m c) (placed_prompt t y _ _ ?_ ?_).symm)
  · subst hz; rfl
  · subst hz; rfl

theorem array_sample (after : (w : Fin cfg0.W) → Fin cfg0.N → (cfg0.win w).block.Idx → Elt Ideal (cfg0.win w).elt)
    (ha : ∀ t : Fin cfg0.N, (cfg0.win 7).flush t = true → after 7 t = normed m c t) :
    ((rdat m c).withAfter after).arrAt 7 cfg0.N = sample m c := by
  refine ((rdat m c).withAfter after).arrAt_eq_of_covers 7 _ (by decide +kernel) fun t hf y => ?_
  blk_simp
  have e : (((rdat m c).withAfter after).after 7 t : Vec Ideal S128x4096 .f32) = normed m c t := ha t hf
  rw [e]
  have ht := points t
  have hl : t.val = 64 := by have := (flush0_7 t).mp hf; omega
  obtain ⟨z, hz⟩ : ∃ z : S128x4096.Idx, z = (cfg0.win 7).xinj (cfg0.grid.coords t) y := ⟨_, rfl⟩
  have l0 : (z 0).val < 128 := (z 0).isLt
  refine (congrArg (normed m c t) hz.symm).trans ((row_of m c t z ⟨8192 + (z 0).val, by omega⟩ (z 1)
    (by show 8192 + (z 0).val = 128 * t.val + (z 0).val; omega) rfl).trans ?_)
  refine Eq.trans (b := sample m c (ix2 (z 0) (z 1))) rfl (congrArg (sample m c) (placed_sample t y _ _ ?_ ?_).symm)
  · subst hz; rfl
  · subst hz; rfl

/-! ## The layer's own lines -/

section

open Cert.CombineRefIdeal.Read

variable (x0 : FVec Ideal S8320x4096 .f32) (x1 : FVec Ideal S16640x4096 .f32) (x2 : FVec Ideal S8320x128 .f32) (x3 x4 : FVec Ideal S1x4096 .f32)

theorem ref_mix (R : Fin 8320) (e : Fin 4096) : (val_main_v11 (F := Ideal) x0 x1 x2 (ix2 R e) : EReal) = mix x0 x1 x2 R e := by
  have hv : (val_main_v11 (F := Ideal) x0 x1 x2 (ix2 R e) : EReal)
      = (Ideal.ofBits .f32 0x3F9837F0#32 : EReal) * (x0 (ix2 R e) : EReal)
        + ((x1 (ix2 ⟨R.val, by omega⟩ e) : EReal) * (x2 (ix2 R 0) : EReal) + (x1 (ix2 ⟨8320 + R.val, by omega⟩ e) : EReal) * (x2 (ix2 R 1) : EReal)) := by
    unfold val_main_v11 val_main_v10 val_main_v9 val_main_cst val_main_v8 val_main_v7 val_main_v6 val_main_v5 val_main_v4 val_main_v3 val_main_v2 val_main_v1 val_main_v0
    pointwise
  refine hv.trans ?_
  unfold mix blend
  exact congrArg₂ (fun u v : EReal => (Ideal.ofBits .f32 0x3F9837F0#32 : EReal) * (x0 (ix2 R e) : EReal) + (u + v)) (mul_comm _ _) (mul_comm _ _)

theorem ref_norm (R : Fin 8320) (e : Fin 4096) : (val_main_v37 (F := Ideal) x0 x1 x2 x3 x4 (ix2 R e) : EReal)
    = lnorm (fun k => (val_main_v11 (F := Ideal) x0 x1 x2 (ix2 R k) : EReal)) e (x3 (ix2 0 e)) (x4 (ix2 0 e)) := by
  unfold lnorm val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_cst_0 val_main_cst_1 val_main_cst_2 val_main_cst_3 val_main_cst_4
  pointwise

theorem ref_place (R : Fin 8320) (e : Fin 4096) : (val_main_v37 (F := Ideal) x0 x1 x2 x3 x4 (ix2 R e) : EReal) = outRow x0 x1 x2 x3 x4 R e := by
  refine (ref_norm x0 x1 x2 x3 x4 R e).trans ?_
  unfold outRow
  exact congrArg (fun f => lnorm f e (x3 (ix2 0 e)) (x4 (ix2 0 e))) (funext fun k => ref_mix x0 x1 x2 R k)

theorem ref_prompt (R : Fin 8192) (e : Fin 4096) : (val_main_v38 (F := Ideal) x0 x1 x2 x3 x4 (ix2 R e) : EReal)
    = val_main_v37 (F := Ideal) x0 x1 x2 x3 x4 (ix2 ⟨R.val, by omega⟩ e) := by
  unfold val_main_v38
  pointwise

theorem ref_sample (R : Fin 128) (e : Fin 4096) : (val_main_v39 (F := Ideal) x0 x1 x2 x3 x4 (ix2 R e) : EReal)
    = val_main_v37 (F := Ideal) x0 x1 x2 x3 x4 (ix2 ⟨8192 + R.val, by omega⟩ e) := by
  unfold val_main_v39
  pointwise

end

theorem expected_prompt : Cert.CombineRefIdeal.Read.val_main_v38 (F := Ideal) (a0 m c) (a1 m c) (a2 m c) (a3 m c) (a4 m c) = prompt m c := by
  funext i
  obtain ⟨R, e, rfl⟩ : ∃ (R : Fin 8192) (e : Fin 4096), i = ix2 R e := ⟨i 0, i 1, by funext a; fin_cases a <;> rfl⟩
  exact (ref_prompt ..).trans (ref_place ..)

theorem expected_sample : Cert.CombineRefIdeal.Read.val_main_v39 (F := Ideal) (a0 m c) (a1 m c) (a2 m c) (a3 m c) (a4 m c) = sample m c := by
  funext i
  obtain ⟨R, e, rfl⟩ : ∃ (R : Fin 128) (e : Fin 4096), i = ix2 R e := ⟨i 0, i 1, by funext a; fin_cases a <;> rfl⟩
  exact (ref_sample ..).trans (ref_place ..)

/-- Over the extended reals the call and the layer's lines return the same two arrays. -/
theorem combination : Cert.algebraic_CombineIdeal_CombineRefIdeal := by
  intro m g m' g' _ hagree
  refine ⟨fun c => prompt m c, fun c => sample m c, ?_, ?_⟩
  · refine (θ_run _ _ _).mono (fun r h c => ?_) (Cert.CombineIdeal.Hand.run_main_quiescent m g)
    obtain ⟨after, hL, hA⟩ := Pipeline.RDat.FramePost.exists_exact h.1 c
    refine ⟨(hA 6).trans (array_prompt m c after fun t hf => ?_), (hA 7).trans (array_sample m c after fun t hf => ?_), args_kept m r h.1 c⟩
    · have hF : held m c 6 t (after 6 t) := Pipeline.Dat.toRRel_leaves (dats m 0 c) (w := 6) rfl (hL 6 t hf)
      exact hF
    · have hF : held m c 7 t (after 7 t) := Pipeline.Dat.toRRel_leaves (dats m 0 c) (w := 7) rfl (hL 7 t hf)
      exact hF (by have := (flush0_7 t).mp hf; omega)
  · refine (θ_run _ _ _).mono (fun r h c => ?_) (Cert.CombineRefIdeal.Value.run m' g')
    obtain ⟨e0, e1, e2, e3, e4⟩ := hagree c
    refine ⟨(h c).1.trans ?_, (h c).2.1.trans ?_, (h c).2.2⟩
    · refine (Cert.CombineRefIdeal.Read.val_main_v38_eq m' c).trans ?_
      rw [e0, e1, e2, e3, e4]
      exact expected_prompt m c
    · refine (Cert.CombineRefIdeal.Read.val_main_v39_eq m' c).trans ?_
      rw [e0, e1, e2, e3, e4]
      exact expected_sample m c

end Cert.Proof.Combine

end
-- ==== Proof.Sample.lean ====
/-
  The latent projections of the sample tokens, read at an index: queries and latents with their norms and rotations.
-/
module

public import proofs.«01_k».proof.Defs
public import proofs.«01_k».proof.Proof.Prep
public import proofs.«01_k».proof.Proof.Gen.SampleIdeal
public import proofs.«01_k».proof.Proof.Gen.SampleRefIdeal
public import proofs.«01_k».proof.Proof.Gen.SampleIdeal.Frame
public import proofs.«01_k».proof.Proof.Gen.SampleRefIdeal.Run
public import proofs.«01_k».proof.Proof.Gen.SampleRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Sample

open Cert.SampleIdeal Cert.SampleIdeal.Gen
open Cert.Proof.Prep (normed lane)
open Idealize.ShloMosaic Idealize.ShloMosaic.TcCoe Idealize.SL.Sem
open Idealize.ShloMosaic.Tactic Idealize.ShloMosaic.Pointwise

/-- The rows' products with the packed query columns. -/
def raised (x0 : Vec Ideal S128x1024 .f32) (x4 : Vec Ideal S1x1024 .f32) (x6 : Vec Ideal S1024x4096 .bf16) (r : Fin 128) (C : Fin 4096) : EReal :=
  ∑ k : Fin 1024, normed 1024 (fun k => (x0 (ix2 r k) : EReal)) (Ideal.ofBits .f32 0x44800000#32) k (x4 (ix2 0 k)) * (x6 (ix2 k C) : EReal)

theorem raised_at (x0 : Vec Ideal S128x1024 .f32) (x4 : Vec Ideal S1x1024 .f32) (x6 : Vec Ideal S1024x4096 .bf16) (r : Fin 128) (C : Fin 4096) :
    (k0_pay4 x0 x4 x6 (ix2 r C) : EReal) = raised x0 x4 x6 r C := by
  unfold raised normed
  unfold_payloads
  pointwise

section

variable (c : Dev nD) (i : grid0.Coords) (arg1 : Memref sig .tc .vmem S128x1024 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1024 .f32) (harg5 : arg5.IsWhole) (arg6 : Memref sig .tc .vmem S1x512 .f32) (harg6 : arg6.IsWhole) (arg7 : Memref sig .tc .vmem S1024x4096 .bf16) (harg7 : arg7.IsWhole) (arg8 : Memref sig .tc .vmem S512x4096 .bf16) (harg8 : arg8.IsWhole) (arg9 : Memref sig .tc .vmem S128x4096 .bf16) (harg9 : arg9.IsWhole) (arg10 : Memref sig .tc .vmem S128x512 .f32) (harg10 : arg10.IsWhole) (arg11 : Memref sig .tc .vmem S128x64 .f32) (harg11 : arg11.IsWhole)
    (x0 : Vec Ideal S128x1024 .f32) (x1 : Vec Ideal S128x512 .f32) (x2 : Vec Ideal S128x128 .f32) (x3 : Vec Ideal S128x128 .f32) (x4 : Vec Ideal S1x1024 .f32) (x5 : Vec Ideal S1x512 .f32) (x6 : Vec Ideal S1024x4096 .bf16) (x7 : Vec Ideal S512x4096 .bf16)

/-- The columns of a head without position: the products as they are. -/
theorem point_qn (r : Fin 128) (C : Fin 4096) (hC : C.val % 256 < 128) :
    (out0_A_8 c i arg1 harg1 arg2 harg2 arg3 harg3 arg4 harg4 arg5 harg5 arg6 harg6 arg7 harg7 arg8 harg8 arg9 harg9 arg10 harg10 arg11 harg11 x0 x1 x2 x3 x4 x5 x6 x7 (ix2 r C) : EReal) = (k0_pay4 x0 x4 x6 (ix2 r C) : EReal) := by
  frame_out
  canon_tiles y h
  all_goals
    have e : (C : ℕ) = ↑((ix2 r C : S128x4096.Idx) 1) := rfl
    have e0 : (r : ℕ) = ↑((ix2 r C : S128x4096.Idx) 0) := rfl
    first
      | (exfalso; omega)
      | skip
  all_goals
    idx_vars y
    open_payloads
    pointwise
    cases Fin.ext h0
    exact congrArg (fun z : Fin 4096 => (k0_pay4 x0 x4 x6 (ix2 r z) : EReal)) (Fin.ext (by dsimp only; omega))

/-- The columns of a head with position: the two halves of the rotation added. -/
theorem point_qr (r : Fin 128) (C : Fin 4096) (l : Fin 64) (hC : C.val % 256 = 128 + l.val) :
    (out0_A_8 c i arg1 harg1 arg2 harg2 arg3 harg3 arg4 harg4 arg5 harg5 arg6 harg6 arg7 harg7 arg8 harg8 arg9 harg9 arg10 harg10 arg11 harg11 x0 x1 x2 x3 x4 x5 x6 x7 (ix2 r C) : EReal)
      = (k0_pay4 x0 x4 x6 (ix2 r C) : EReal) * (x3 (ix2 r ⟨l.val, by omega⟩) : EReal)
        + (k0_pay4 x0 x4 x6 (ix2 r ⟨C.val + 64, by omega⟩) : EReal) * (x3 (ix2 r ⟨l.val + 64, by omega⟩) : EReal) := by
  frame_out
  canon_tiles y h
  all_goals
    have e : (C : ℕ) = ↑((ix2 r C : S128x4096.Idx) 1) := rfl
    have e0 : (r : ℕ) = ↑((ix2 r C : S128x4096.Idx) 0) := rfl
    first
      | (exfalso; omega)
      | skip
  all_goals
    idx_vars y
    open_payloads
    pointwise
    cases Fin.ext h0
    rw [lane y1 _ _ (by omega)]
    refine congrArg₂ (fun u v : EReal => u + v) (congrArg₂ (fun u v : EReal => u * v) ?_ ?_) (congrArg₂ (fun u v : EReal => u * v) ?_ ?_)
    · exact congrArg (fun z : Fin 4096 => (k0_pay4 x0 x4 x6 (ix2 r z) : EReal)) (Fin.ext (by dsimp only; omega))
    · exact congrArg (fun z : Fin 128 => (x3 (ix2 r z) : EReal)) (Fin.ext (by dsimp only; omega))
    · exact congrArg (fun z : Fin 4096 => (k0_pay4 x0 x4 x6 (ix2 r z) : EReal)) (Fin.ext (by dsimp only; omega))
    · exact congrArg (fun z : Fin 128 => (x3 (ix2 r z) : EReal)) (Fin.ext (by dsimp only; omega))

theorem point_c (r : Fin 128) (k : Fin 512) :
    (out0_A_9 c i arg1 harg1 arg2 harg2 arg3 harg3 arg4 harg4 arg5 harg5 arg6 harg6 arg7 harg7 arg8 harg8 arg9 harg9 arg10 harg10 arg11 harg11 x0 x1 x2 x3 x4 x5 x6 x7 (ix2 r k) : EReal) = normed 512 (fun k => (x1 (ix2 r k) : EReal)) (Ideal.ofBits .f32 0x44000000#32) k (x5 (ix2 0 k)) := by
  unfold normed
  frame_out
  unfold_payloads
  pointwise

theorem point_r (r : Fin 128) (l : Fin 64) :
    (out0_A_10 c i arg1 harg1 arg2 harg2 arg3 harg3 arg4 harg4 arg5 harg5 arg6 harg6 arg7 harg7 arg8 harg8 arg9 harg9 arg10 harg10 arg11 harg11 x0 x1 x2 x3 x4 x5 x6 x7 (ix2 r l) : EReal)
      = (x2 (ix2 r ⟨l.val, by omega⟩) : EReal) * (x3 (ix2 r ⟨l.val, by omega⟩) : EReal) + (x2 (ix2 r ⟨l.val + 64, by omega⟩) : EReal) * (x3 (ix2 r ⟨l.val + 64, by omega⟩) : EReal) := by
  frame_out
  unfold_payloads
  pointwise
  refine (lane ⟨l.val, by omega⟩ _ _ l.isLt).trans ?_
  refine congrArg₂ (fun u v : EReal => u + v) rfl (congrArg₂ (fun u v : EReal => u * v) ?_ ?_)
  · exact congrArg (fun z : Fin 128 => (x2 (ix2 r z) : EReal)) (Fin.ext (by dsimp only; omega))
  · exact congrArg (fun z : Fin 128 => (x3 (ix2 r z) : EReal)) (Fin.ext (by dsimp only; omega))

end

variable (m : (ℓ : Loc nD τ sig) → Buf (Elt Ideal) ℓ) (c : Dev nD)

theorem idx0 : ∀ t : Fin grid0.N, win0_0.index t = ![t.val, 3] := by decide +kernel
theorem idx1 : ∀ t : Fin grid0.N, win0_1.index t = ![t.val, 12] := by decide +kernel
theorem idx2 : ∀ t : Fin grid0.N, win0_2.index t = ![t.val, 52] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem lt_grid (t : Fin cfg0.N) : t.val < 1 := t.isLt

/-- The operands the call is given. -/
abbrev rows : FVec Ideal S128x6912 .f32 := V m c main_v25
abbrev table : FVec Ideal S128x128 .f32 := V m c main_v41
abbrev qw : FVec Ideal S1x1024 .f32 := V m c main_v43
abbrev cw : FVec Ideal S1x512 .f32 := V m c main_v45
abbrev wq : FVec Ideal S1024x4096 .bf16 := V m c main_v9
abbrev wkv : FVec Ideal S512x4096 .bf16 := V m c main_v15

/-- The row of the whole array that a point's block has at a place. -/
def row (t : Fin cfg0.N) (r : Fin 128) : Fin 128 := ⟨128 * t.val + r.val, by have := lt_grid t; omega⟩

theorem block0 (t : Fin cfg0.N) (r : Fin 128) (k : Fin 1024) :
    (X0_0 m c t (ix2 r k) : EReal) = rows m c (ix2 (row t r) ⟨3072 + k.val, by omega⟩) := by
  unfold X0_0 Pipeline.Window.fill
  rw [dif_pos (moved0_0 t _)]
  blk_ext [iblk, idx0 t, row]

theorem block1 (t : Fin cfg0.N) (r : Fin 128) (k : Fin 512) :
    (X0_1 m c t (ix2 r k) : EReal) = rows m c (ix2 (row t r) ⟨6144 + k.val, by omega⟩) := by
  unfold X0_1 Pipeline.Window.fill
  rw [dif_pos (moved0_1 t _)]
  blk_ext [iblk, idx1 t, row]

theorem block2 (t : Fin cfg0.N) (r : Fin 128) (l : Fin 128) :
    ((iblk m c 2 t : Vec Ideal S128x128 .f32) (ix2 r l) : EReal) = rows m c (ix2 (row t r) ⟨6656 + l.val, by omega⟩) := by
  blk_ext [iblk, idx2 t, row]

theorem block3 (t : Fin cfg0.N) (r : Fin 128) (l : Fin 128) :
    ((iblk m c 3 t : Vec Ideal S128x128 .f32) (ix2 r l) : EReal) = table m c (ix2 (row t r) l) := by
  have := lt_grid t
  blk_ext [iblk, idx3 t, row]

theorem block4 (t : Fin cfg0.N) (k : Fin 1024) :
    ((iblk m c 4 t : Vec Ideal S1x1024 .f32) (ix2 0 k) : EReal) = qw m c (ix2 0 k) := by
  blk_ext [iblk, idx4 t]

theorem block5 (t : Fin cfg0.N) (k : Fin 512) :
    ((iblk m c 5 t : Vec Ideal S1x512 .f32) (ix2 0 k) : EReal) = cw m c (ix2 0 k) := by
  blk_ext [iblk, idx5 t]

theorem block6 (t : Fin cfg0.N) (k : Fin 1024) (C : Fin 4096) :
    ((iblk m c 6 t : Vec Ideal S1024x4096 .bf16) (ix2 k C) : EReal) = wq m c (ix2 k C) := by
  blk_ext [iblk, idx6 t]

theorem block7 (t : Fin cfg0.N) (k : Fin 512) (C : Fin 4096) :
    ((iblk m c 7 t : Vec Ideal S512x4096 .bf16) (ix2 k C) : EReal) = wkv m c (ix2 k C) := by
  blk_ext [iblk, idx7 t]

/-- A row's normed query latent, and its products with the packed query columns. -/
def qlat (R : Fin 128) (k : Fin 1024) : EReal :=
  normed 1024 (fun k => (rows m c (ix2 R ⟨3072 + k.val, by omega⟩) : EReal)) (Ideal.ofBits .f32 0x44800000#32) k (qw m c (ix2 0 k))
def lat (R : Fin 128) (k : Fin 512) : EReal :=
  normed 512 (fun k => (rows m c (ix2 R ⟨6144 + k.val, by omega⟩) : EReal)) (Ideal.ofBits .f32 0x44000000#32) k (cw m c (ix2 0 k))
def up (R : Fin 128) (C : Fin 4096) : EReal := ∑ k : Fin 1024, qlat m c R k * (wq m c (ix2 k C) : EReal)

theorem up_at (t : Fin cfg0.N) (r : Fin 128) (C : Fin 4096) :
    (k0_pay4 (X0_0 m c t) (iblk m c 4 t) (iblk m c 6 t) (ix2 r C) : EReal) = up m c (row t r) C := by
  rw [raised_at]
  unfold raised up qlat
  refine Finset.sum_congr rfl fun k _ => ?_
  rw [block4, block6]
  refine congrArg₂ (fun u v : EReal => u * v) ?_ rfl
  exact congrArg (fun f : Fin 1024 → EReal => normed 1024 f (Ideal.ofBits .f32 0x44800000#32) k (qw m c (ix2 0 k))) (funext fun k => block0 m c t r k)

theorem lat_at (t : Fin cfg0.N) (r : Fin 128) (k : Fin 512) :
    normed 512 (fun k => (X0_1 m c t (ix2 r k) : EReal)) (Ideal.ofBits .f32 0x44000000#32) k ((iblk m c 5 t : Vec Ideal S1x512 .f32) (ix2 0 k))
      = lat m c (row t r) k := by
  unfold lat
  rw [block5]
  exact congrArg (fun f : Fin 512 → EReal => normed 512 f (Ideal.ofBits .f32 0x44000000#32) k (cw m c (ix2 0 k))) (funext fun k => block1 m c t r k)

/-- What the columns of the arrays hold that the results are cut from. -/
def Asked (i : S128x4096.Idx) (v : EReal) : Prop :=
  ((i 1).val % 256 < 128 → v = up m c (i 0) (i 1)) ∧
  (∀ l : Fin 64, (i 1).val % 256 = 128 + l.val → ∀ C' : Fin 4096, C'.val = (i 1).val + 64 →
    v = up m c (i 0) (i 1) * (table m c (ix2 (i 0) ⟨l.val, by omega⟩) : EReal)
      + up m c (i 0) C' * (table m c (ix2 (i 0) ⟨l.val + 64, by omega⟩) : EReal))

theorem asked_at (t : Fin cfg0.N) (r : Fin 128) (C : Fin 4096) : Asked m c (ix2 (row t r) C) ((outsAt0 m c t).1 (ix2 r C)) := by
  unfold outsAt0
  dsimp only
  refine ⟨fun h => ?_, fun l h C' hC' => ?_⟩
  · exact (point_qn (C := C) (hC := h) ..).trans (up_at m c t r C)
  · have h' : C.val % 256 = 128 + l.val := h
    have hx : C.val + 64 < 4096 := by clear hC'; omega
    obtain rfl : C' = ⟨C.val + 64, hx⟩ := Fin.ext hC'
    refine (point_qr (C := C) (l := l) (hC := h') ..).trans ?_
    rw [up_at, up_at, block3, block3]
    rfl

theorem asked (i : S128x4096.Idx) : Asked m c i ((dats m 0 c).arrAt 8 cfg0.N i) := by
  refine (dats m 0 c).arrAt_forall_of_covers 8 (fun i v => Asked m c i v) (by decide +kernel) (fun t hf y => ?_) i
  blk_simp
  rw [after0_8]
  have hb := asked_at m c t (y 0) (y 1)
  have e : (win0_8.blk t).view.emb y = ix2 (row t (y 0)) (y 1) := by
    blk_ext [idx8 t, row]
  have e' : y = ix2 (y 0) (y 1) := by
    funext a
    fin_cases a <;> rfl
  rw [e]
  exact Eq.mpr (congrArg (fun z : S128x4096.Idx => Asked m c (ix2 (row t (y 0)) (y 1)) ((outsAt0 m c t).1 z)) e') hb

theorem latents (R : Fin 128) (k : Fin 512) : ((dats m 0 c).arrAt 9 cfg0.N (ix2 R k : S128x512.Idx) : EReal) = lat m c R k := by
  refine (dats m 0 c).arrAt_forall_of_covers 9 (fun (i : S128x512.Idx) (v : EReal) => v = lat m c (i 0) (i 1)) (by decide +kernel) (fun t hf y => ?_) (ix2 R k)
  blk_simp
  rw [after0_9]
  have hb : ((outsAt0 m c t).2.1 (ix2 (y 0) (y 1)) : EReal) = lat m c (row t (y 0)) (y 1) := by
    unfold outsAt0
    dsimp only
    exact (point_c ..).trans (lat_at m c t (y 0) (y 1))
  have e : (win0_9.blk t).view.emb y = ix2 (row t (y 0)) (y 1) := by
    blk_ext [idx9 t, row]
  have e' : y = ix2 (y 0) (y 1) := by
    funext a
    fin_cases a <;> rfl
  rw [e]
  exact (congrArg (fun z : S128x512.Idx => ((outsAt0 m c t).2.1 z : EReal)) e').trans hb

/-- The rotated shared key of a row. -/
def rotated (R : Fin 128) (l : Fin 64) : EReal :=
  (rows m c (ix2 R ⟨6656 + l.val, by omega⟩) : EReal) * (table m c (ix2 R ⟨l.val, by omega⟩) : EReal)
    + (rows m c (ix2 R ⟨6656 + (l.val + 64), by omega⟩) : EReal) * (table m c (ix2 R ⟨l.val + 64, by omega⟩) : EReal)

theorem rotations (R : Fin 128) (l : Fin 64) : ((dats m 0 c).arrAt 10 cfg0.N (ix2 R l : S128x64.Idx) : EReal) = rotated m c R l := by
  refine (dats m 0 c).arrAt_forall_of_covers 10 (fun (i : S128x64.Idx) (v : EReal) => v = rotated m c (i 0) (i 1)) (by decide +kernel) (fun t hf y => ?_) (ix2 R l)
  blk_simp
  rw [after0_10]
  have hb : ∀ (r : Fin 128) (l : Fin 64), ((outsAt0 m c t).2.2 (ix2 r l) : EReal) = rotated m c (row t r) l := by
    intro r l
    unfold outsAt0 rotated
    dsimp only
    refine (point_r ..).trans ?_
    rw [block2, block2, block3, block3]
  have e : (win0_10.blk t).view.emb y = ix2 (row t (y 0)) (y 1) := by
    blk_ext [idx10 t, row]
  have e' : y = ix2 (y 0) (y 1) := by
    funext a
    fin_cases a <;> rfl
  rw [e]
  exact (congrArg (fun z : S128x64.Idx => ((outsAt0 m c t).2.2 z : EReal)) e').trans (hb (y 0) (y 1))

end Cert.Proof.Sample

end
-- ==== Proof.SampleHost.lean ====
/-
  The latent projections of the sample tokens, around the call: what the host prepares and what it cuts out.
-/
module

public import proofs.«01_k».proof.Defs
public import proofs.«01_k».proof.Proof.PrepHost
public import proofs.«01_k».proof.Proof.Gen.SampleIdeal
public import proofs.«01_k».proof.Proof.Gen.SampleRefIdeal
public import proofs.«01_k».proof.Proof.Gen.SampleIdeal.Frame
public import proofs.«01_k».proof.Proof.Sample
public import proofs.«01_k».proof.Proof.Gen.SampleRefIdeal.Run
public import proofs.«01_k».proof.Proof.Gen.SampleRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Sample

open Cert.SampleIdeal Cert.SampleIdeal.Gen
open Cert.Proof.Prep (same2 angle)
open Idealize.ShloMosaic Idealize.ShloMosaic.TcCoe Idealize.SL.Sem
open Idealize.ShloMosaic.Tactic Idealize.ShloMosaic.Pointwise

variable (m : (ℓ : Loc nD τ sig) → Buf (Elt Ideal) ℓ) (c : Dev nD)

abbrev a0 : FVec Ideal S128x1x1024 .f32 := m (c, Proc.tc.devRef main_arg0)
abbrev a1 : FVec Ideal S128x1x512 .f32 := m (c, Proc.tc.devRef main_arg1)
abbrev a2 : FVec Ideal S128x1x64 .f32 := m (c, Proc.tc.devRef main_arg2)
abbrev a3 : FVec Ideal S1x1024 .f32 := m (c, Proc.tc.devRef main_arg3)
abbrev a4 : FVec Ideal S1x1024x16x192 .f32 := m (c, Proc.tc.devRef main_arg4)
abbrev a5 : FVec Ideal S1x512 .f32 := m (c, Proc.tc.devRef main_arg5)
abbrev a6 : FVec Ideal S1x512x16x128 .f32 := m (c, Proc.tc.devRef main_arg6)
abbrev a7 : FVec Ideal S1x512x16x128 .f32 := m (c, Proc.tc.devRef main_arg7)

set_option maxHeartbeats 2000000 in
theorem rows_q (b : Fin 128) (k : Fin 1024) :
    (rows m c (ix2 b ⟨3072 + k.val, by omega⟩) : EReal) = a0 m c (ix3 b 0 k) := by
  unfold rows V
  after_reads_at
  after_reads_simp
  set_option maxRecDepth 200000 in pointwise

set_option maxHeartbeats 2000000 in
theorem rows_c (b : Fin 128) (k : Fin 512) :
    (rows m c (ix2 b ⟨6144 + k.val, by omega⟩) : EReal) = a1 m c (ix3 b 0 k) := by
  unfold rows V
  after_reads_at
  after_reads_simp
  set_option maxRecDepth 200000 in pointwise
  split_ifs <;> first
    | (exfalso; omega)
    | exact same2 (fun b k => (a1 m c (ix3 b 0 k) : EReal)) (by first | (dsimp only; omega) | dsimp only | omega) (by first | (dsimp only; omega) | dsimp only | omega)

set_option maxHeartbeats 2000000 in
theorem rows_r (b : Fin 128) (l : Fin 64) :
    (rows m c (ix2 b ⟨6656 + l.val, by omega⟩) : EReal) = a2 m c (ix3 b 0 l) := by
  unfold rows V
  after_reads_at
  after_reads_simp
  set_option maxRecDepth 200000 in pointwise
  split_ifs <;> first
    | (exfalso; omega)
    | exact same2 (fun b k => (a2 m c (ix3 b 0 k) : EReal)) (by first | (dsimp only; omega) | dsimp only | omega) (by first | (dsimp only; omega) | dsimp only | omega)

set_option maxHeartbeats 2000000 in
theorem rows_n (b : Fin 128) (l : Fin 32) :
    (rows m c (ix2 b ⟨6656 + (l.val + 64), by omega⟩) : EReal) = -(a2 m c (ix3 b 0 ⟨32 + l.val, by omega⟩) : EReal) := by
  unfold rows V
  after_reads_at
  after_reads_simp
  set_option maxRecDepth 200000 in pointwise
  split_ifs <;> first
    | (exfalso; omega)
    | exact same2 (fun b k => -(a2 m c (ix3 b 0 k) : EReal)) (by first | (dsimp only; omega) | dsimp only | omega) (by first | (dsimp only; omega) | dsimp only | omega)

set_option maxHeartbeats 2000000 in
theorem rows_p (b : Fin 128) (l : Fin 32) :
    (rows m c (ix2 b ⟨6656 + (32 + l.val + 64), by omega⟩) : EReal) = (a2 m c (ix3 b 0 ⟨l.val, by omega⟩) : EReal) := by
  unfold rows V
  after_reads_at
  after_reads_simp
  set_option maxRecDepth 200000 in pointwise
  split_ifs <;> first
    | (exfalso; omega)
    | exact same2 (fun b k => (a2 m c (ix3 b 0 k) : EReal)) (by first | (dsimp only; omega) | dsimp only | omega) (by first | (dsimp only; omega) | dsimp only | omega)

theorem qw_at (k : Fin 1024) : (qw m c (ix2 0 k) : EReal) = a3 m c (ix2 0 k) := by
  unfold qw V
  after_reads_at

theorem cw_at (k : Fin 512) : (cw m c (ix2 0 k) : EReal) = a5 m c (ix2 0 k) := by
  unfold cw V
  after_reads_at

theorem wq_p (k : Fin 1024) (h : Fin 16) (d : Fin 192) :
    (wq m c (ix2 k ⟨h.val * 256 + d.val, by omega⟩) : EReal) = a4 m c (ix4 0 k h d) := by
  unfold wq V
  after_reads_at
  after_reads_simp
  set_option maxRecDepth 200000 in pointwise
  split_ifs <;> first
    | (exfalso; omega)
    | exact same2 (fun h d => (a4 m c (ix4 0 k h d) : EReal)) (by first | (dsimp only; omega) | dsimp only | omega) (by first | (dsimp only; omega) | dsimp only | omega)

theorem wq_n (k : Fin 1024) (h : Fin 16) (d : Fin 32) :
    (wq m c (ix2 k ⟨h.val * 256 + (192 + d.val), by omega⟩) : EReal) = -(a4 m c (ix4 0 k h ⟨160 + d.val, by omega⟩) : EReal) := by
  unfold wq V
  after_reads_at
  after_reads_simp
  set_option maxRecDepth 200000 in pointwise
  split_ifs <;> first
    | (exfalso; omega)
    | exact same2 (fun h d => -(a4 m c (ix4 0 k h d) : EReal)) (by first | (dsimp only; omega) | dsimp only | omega) (by first | (dsimp only; omega) | dsimp only | omega)

theorem wq_r (k : Fin 1024) (h : Fin 16) (d : Fin 32) :
    (wq m c (ix2 k ⟨h.val * 256 + (224 + d.val), by omega⟩) : EReal) = a4 m c (ix4 0 k h ⟨128 + d.val, by omega⟩) := by
  unfold wq V
  after_reads_at
  after_reads_simp
  set_option maxRecDepth 200000 in pointwise
  split_ifs <;> first
    | (exfalso; omega)
    | exact same2 (fun h d => (a4 m c (ix4 0 k h d) : EReal)) (by first | (dsimp only; omega) | dsimp only | omega) (by first | (dsimp only; omega) | dsimp only | omega)

open Cert.SampleRefIdeal.Read in
/-- The cosines and sines of the rotation table are the reference's. -/
theorem table_cos (p : Fin 128) (l : Fin 32) : (table m c (ix2 p ⟨l.val, by omega⟩) : EReal) = val_main_v32 (F := Ideal) (ix2 0 l) := by
  unfold table V
  after_reads_at
  after_reads_simp
  unfold val_main_v32 val_main_v31 val_main_v30 val_main_v29 val_main_v28 val_main_v27 val_main_v26 val_main_v25 val_main_v24 val_main_v23 val_main_v22 val_main_v21 val_main_cst_2 val_main_cst_3 val_main_v2 val_main_v1 val_main_c val_main_v0
  set_option maxRecDepth 200000 in pointwise
  all_goals first
    | rfl
    | (split_ifs <;> first
        | (exfalso; omega)
        | exact congrArg (fun n : Nat => Ideal.cos (angle 16384 n)) (by omega))

open Cert.SampleRefIdeal.Read in
theorem table_cos' (p : Fin 128) (l : Fin 32) : (table m c (ix2 p ⟨32 + l.val, by omega⟩) : EReal) = val_main_v32 (F := Ideal) (ix2 0 l) := by
  unfold table V
  after_reads_at
  after_reads_simp
  unfold val_main_v32 val_main_v31 val_main_v30 val_main_v29 val_main_v28 val_main_v27 val_main_v26 val_main_v25 val_main_v24 val_main_v23 val_main_v22 val_main_v21 val_main_cst_2 val_main_cst_3 val_main_v2 val_main_v1 val_main_c val_main_v0
  set_option maxRecDepth 200000 in pointwise
  all_goals first
    | rfl
    | (split_ifs <;> first
        | (exfalso; omega)
        | exact congrArg (fun n : Nat => Ideal.cos (angle 16384 n)) (by omega))

open Cert.SampleRefIdeal.Read in
theorem table_sin (p : Fin 128) (l : Fin 32) : (table m c (ix2 p ⟨l.val + 64, by omega⟩) : EReal) = val_main_v34 (F := Ideal) (ix2 0 l) := by
  unfold table V
  after_reads_at
  after_reads_simp
  unfold val_main_v34 val_main_v31 val_main_v30 val_main_v29 val_main_v28 val_main_v27 val_main_v26 val_main_v25 val_main_v24 val_main_v23 val_main_v22 val_main_v21 val_main_cst_2 val_main_cst_3 val_main_v2 val_main_v1 val_main_c val_main_v0
  set_option maxRecDepth 200000 in pointwise
  all_goals first
    | rfl
    | (split_ifs <;> first
        | (exfalso; omega)
        | exact congrArg (fun n : Nat => Ideal.sin (angle 16384 n)) (by omega))

open Cert.SampleRefIdeal.Read in
theorem table_sin' (p : Fin 128) (l : Fin 32) : (table m c (ix2 p ⟨32 + l.val + 64, by omega⟩) : EReal) = val_main_v34 (F := Ideal) (ix2 0 l) := by
  unfold table V
  after_reads_at
  after_reads_simp
  unfold val_main_v34 val_main_v31 val_main_v30 val_main_v29 val_main_v28 val_main_v27 val_main_v26 val_main_v25 val_main_v24 val_main_v23 val_main_v22 val_main_v21 val_main_cst_2 val_main_cst_3 val_main_v2 val_main_v1 val_main_c val_main_v0
  set_option maxRecDepth 200000 in pointwise
  all_goals first
    | rfl
    | (split_ifs <;> first
        | (exfalso; omega)
        | exact congrArg (fun n : Nat => Ideal.sin (angle 16384 n)) (by omega))

/-- The results cut out of what the call leaves. -/
theorem out_qn (W : Valuation τ sig (Elt Ideal)) (b : Fin 128) (h : Fin 16) (d : Fin 128) :
    ((StableHlo.after (List.flatten [hostOps1]) W (Proc.tc.devRef main_v48) : FVec Ideal S128x1x16x128 .bf16) (ix4 b 0 h d) : EReal)
      = (W (Proc.tc.devRef main_v46_0) : FVec Ideal S128x4096 .bf16) (ix2 b ⟨h.val * 256 + d.val, by omega⟩) := by
  after_reads_at

theorem out_qr (W : Valuation τ sig (Elt Ideal)) (b : Fin 128) (h : Fin 16) (d : Fin 64) :
    ((StableHlo.after (List.flatten [hostOps1]) W (Proc.tc.devRef main_v49) : FVec Ideal S128x1x16x64 .bf16) (ix4 b 0 h d) : EReal)
      = (W (Proc.tc.devRef main_v46_0) : FVec Ideal S128x4096 .bf16) (ix2 b ⟨h.val * 256 + (128 + d.val), by omega⟩) := by
  after_reads_at

theorem out_c (W : Valuation τ sig (Elt Ideal)) (b : Fin 128) (k : Fin 512) :
    ((StableHlo.after (List.flatten [hostOps1]) W (Proc.tc.devRef main_v50) : FVec Ideal S1x128x1x512 .f32) (ix4 0 b 0 k) : EReal)
      = (W (Proc.tc.devRef main_v46_1) : FVec Ideal S128x512 .f32) (ix2 b k) := by
  after_reads_at

theorem out_r (W : Valuation τ sig (Elt Ideal)) (b : Fin 128) (l : Fin 64) :
    ((StableHlo.after (List.flatten [hostOps1]) W (Proc.tc.devRef main_v51) : FVec Ideal S1x128x1x64 .f32) (ix4 0 b 0 l) : EReal)
      = (W (Proc.tc.devRef main_v46_2) : FVec Ideal S128x64 .f32) (ix2 b l) := by
  after_reads_at

end Cert.Proof.Sample

end
-- ==== Proof.SampleRef.lean ====
/-
  The latent projections of the sample tokens, as the layer states them: what each of the reference's lines holds at a place.
-/
module

public import proofs.«01_k».proof.Defs
public import proofs.«01_k».proof.Proof.Gen.SampleIdeal
public import proofs.«01_k».proof.Proof.Gen.SampleRefIdeal
public import proofs.«01_k».proof.Proof.Gen.SampleIdeal.Frame
public import proofs.«01_k».proof.Proof.Sample
public import proofs.«01_k».proof.Proof.Gen.SampleRefIdeal.Run
public import proofs.«01_k».proof.Proof.Gen.SampleRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Sample

open Cert.SampleRefIdeal Cert.SampleRefIdeal.Read
open Cert.Proof.Prep (normed)
open Idealize.ShloMosaic Idealize.ShloMosaic.TcCoe Idealize.SL.Sem
open Idealize.ShloMosaic.Tactic Idealize.ShloMosaic.Pointwise

variable (x0 : FVec Ideal S128x1x1024 .f32) (x1 : FVec Ideal S128x1x512 .f32) (x2 : FVec Ideal S128x1x64 .f32) (x3 : FVec Ideal S1x1024 .f32)
  (x4 : FVec Ideal S1x1024x16x192 .f32) (x5 : FVec Ideal S1x512 .f32)

theorem ref_qlat (b : Fin 128) (k : Fin 1024) : (val_main_v16 (F := Ideal) x0 x3 (ix3 b 0 k) : EReal)
    = normed 1024 (fun k => (x0 (ix3 b 0 k) : EReal)) (Ideal.ofBits .f32 0x44800000#32) k (x3 (ix2 0 k)) := by
  unfold val_main_v16 val_main_v15 val_main_v14 val_main_v13 val_main_v12 val_main_v11 val_main_v10 val_main_v9 val_main_v8 val_main_v7 val_main_v6 val_main_v5 val_main_v4 val_main_v3 val_main_cst val_main_cst_0 val_main_cst_1 normed
  pointwise

theorem ref_lat (b : Fin 128) (k : Fin 512) : (val_main_v66 (F := Ideal) x1 x5 (ix3 b 0 k) : EReal)
    = normed 512 (fun k => (x1 (ix3 b 0 k) : EReal)) (Ideal.ofBits .f32 0x44000000#32) k (x5 (ix2 0 k)) := by
  unfold val_main_v66 val_main_v65 val_main_v64 val_main_v63 val_main_v62 val_main_v61 val_main_v60 val_main_v59 val_main_v58 val_main_v57 val_main_v56 val_main_v55 val_main_v54 val_main_v53 val_main_cst_4 val_main_cst_5 val_main_cst_6 normed
  pointwise

theorem ref_q (b : Fin 128) (h : Fin 16) (d : Fin 192) : (val_main_v18 (F := Ideal) x0 x3 x4 (ix4 b 0 h d) : EReal)
    = ∑ k : Fin 1024, (val_main_v16 (F := Ideal) x0 x3 (ix3 b 0 k) : EReal) * (x4 (ix4 0 k h d) : EReal) := by
  unfold val_main_v18 val_main_v17
  pointwise

theorem ref_qn (b : Fin 128) (h : Fin 16) (d : Fin 128) : (val_main_v97 (F := Ideal) x0 x3 x4 (ix4 b 0 h d) : EReal)
    = val_main_v18 (F := Ideal) x0 x3 x4 (ix4 b 0 h ⟨d.val, by omega⟩) := by
  unfold val_main_v97 val_main_v19
  pointwise

theorem ref_qr_fst (b : Fin 128) (h : Fin 16) (l : Fin 32) : (val_main_v98 (F := Ideal) x0 x3 x4 (ix4 b 0 h ⟨l.val, by omega⟩) : EReal)
    = (val_main_v18 (F := Ideal) x0 x3 x4 (ix4 b 0 h ⟨128 + l.val, by omega⟩) : EReal) * (val_main_v32 (F := Ideal) (ix2 0 l) : EReal)
      - (val_main_v18 (F := Ideal) x0 x3 x4 (ix4 b 0 h ⟨128 + (32 + l.val), by omega⟩) : EReal) * (val_main_v34 (F := Ideal) (ix2 0 l) : EReal) := by
  unfold val_main_v98 val_main_v52 val_main_v44 val_main_v43 val_main_v42 val_main_v41 val_main_v40 val_main_v39 val_main_v38 val_main_v37 val_main_v36 val_main_v35 val_main_v33 val_main_v20
  pointwise

theorem ref_qr_snd (b : Fin 128) (h : Fin 16) (l : Fin 32) : (val_main_v98 (F := Ideal) x0 x3 x4 (ix4 b 0 h ⟨32 + l.val, by omega⟩) : EReal)
    = (val_main_v18 (F := Ideal) x0 x3 x4 (ix4 b 0 h ⟨128 + (32 + l.val), by omega⟩) : EReal) * (val_main_v32 (F := Ideal) (ix2 0 l) : EReal)
      + (val_main_v18 (F := Ideal) x0 x3 x4 (ix4 b 0 h ⟨128 + l.val, by omega⟩) : EReal) * (val_main_v34 (F := Ideal) (ix2 0 l) : EReal) := by
  unfold val_main_v98 val_main_v52 val_main_v51 val_main_v50 val_main_v49 val_main_v48 val_main_v47 val_main_v46 val_main_v45 val_main_v37 val_main_v36 val_main_v35 val_main_v33 val_main_v20
  pointwise

theorem cos_again : val_main_v78 (F := Ideal) = val_main_v32 (F := Ideal) := rfl
theorem sin_again : val_main_v79 (F := Ideal) = val_main_v34 (F := Ideal) := rfl

theorem ref_c (b : Fin 128) (k : Fin 512) : (val_main_v99 (F := Ideal) x1 x5 (ix4 0 b 0 k) : EReal)
    = val_main_v66 (F := Ideal) x1 x5 (ix3 b 0 k) := by
  unfold val_main_v99
  pointwise

theorem ref_r_fst (b : Fin 128) (l : Fin 32) : (val_main_v100 (F := Ideal) x2 (ix4 0 b 0 ⟨l.val, by omega⟩) : EReal)
    = (x2 (ix3 b 0 ⟨l.val, by omega⟩) : EReal) * (val_main_v32 (F := Ideal) (ix2 0 l) : EReal)
      - (x2 (ix3 b 0 ⟨32 + l.val, by omega⟩) : EReal) * (val_main_v34 (F := Ideal) (ix2 0 l) : EReal) := by
  unfold val_main_v100 val_main_v96 val_main_v88 val_main_v87 val_main_v86 val_main_v85 val_main_v84 val_main_v83 val_main_v82 val_main_v81 val_main_v80
  rw [cos_again, sin_again]
  pointwise

theorem ref_r_snd (b : Fin 128) (l : Fin 32) : (val_main_v100 (F := Ideal) x2 (ix4 0 b 0 ⟨32 + l.val, by omega⟩) : EReal)
    = (x2 (ix3 b 0 ⟨32 + l.val, by omega⟩) : EReal) * (val_main_v32 (F := Ideal) (ix2 0 l) : EReal)
      + (x2 (ix3 b 0 ⟨l.val, by omega⟩) : EReal) * (val_main_v34 (F := Ideal) (ix2 0 l) : EReal) := by
  unfold val_main_v100 val_main_v96 val_main_v95 val_main_v94 val_main_v93 val_main_v92 val_main_v91 val_main_v90 val_main_v89 val_main_v81 val_main_v80
  rw [cos_again, sin_again]
  pointwise

end Cert.Proof.Sample

end
-- ==== Proof.SampleClaim.lean ====
/-
  The latent projections of the sample tokens, claimed: the call with its host code and the layer's own lines give the same four arrays.
-/
module

public import proofs.«01_k».proof.Defs
public import proofs.«01_k».proof.Proof.PrepClaim
public import proofs.«01_k».proof.Proof.Gen.SampleIdeal
public import proofs.«01_k».proof.Proof.Gen.SampleRefIdeal
public import proofs.«01_k».proof.Proof.Gen.SampleIdeal.Frame
public import proofs.«01_k».proof.Proof.Sample
public import proofs.«01_k».proof.Proof.SampleHost
public import proofs.«01_k».proof.Proof.SampleRef
public import proofs.«01_k».proof.Proof.Gen.Pre_finite_sample
public import proofs.«01_k».proof.Proof.Finite
public import Idealize.ShloMosaic.Lib.ReduceAll
public import proofs.«01_k».proof.Proof.Gen.SampleRefIdeal.Run
public import proofs.«01_k».proof.Proof.Gen.SampleRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.Sample

open Cert.SampleIdeal Cert.SampleIdeal.Gen
open Cert.Proof.Prep (normed Real normed_real sum_neg turned halves place place_one)
open Idealize.ShloMosaic Idealize.ShloMosaic.TcCoe Idealize.SL.Sem
open Idealize.ShloMosaic.Tactic Idealize.ShloMosaic.Pointwise

/-- The precondition, read at the arguments. -/
theorem args_real [Cert.Pre_finite_sample.Facts] (x0 : FVec Ideal S128x1x1024 .f32) (x1 : FVec Ideal S128x1x512 .f32) (x2 : FVec Ideal S128x1x64 .f32)
    (x3 : FVec Ideal S1x1024 .f32) (x4 : FVec Ideal S1x1024x16x192 .f32) (x5 : FVec Ideal S1x512 .f32) (x6 x7 : FVec Ideal S1x512x16x128 .f32)
    (h : Cert.Pre_finite_sample.fn (F := Ideal) x0 x1 x2 x3 x4 x5 x6 x7 ix0 = 1#1) : Real x0 ∧ Real x3 ∧ Real x4 := by
  have : Subsingleton Cert.Pre_finite_sample.S_.Idx := ⟨fun a b => funext fun k => k.elim0⟩
  have two : ∀ a b : BitVec 1, IntOp.andi a b = 1#1 → a = 1#1 ∧ b = 1#1 := by decide
  unfold Cert.Pre_finite_sample.fn at h
  obtain ⟨h, h2⟩ := two _ _ h
  obtain ⟨h0, h1⟩ := two _ _ h
  exact ⟨fun i => Cert.Proof.Finite.real_of_abs_lt x0 _ i (Host.reduce_andi_all _ _ _ _ _ h0 i),
    fun i => Cert.Proof.Finite.real_of_abs_lt x3 _ i (Host.reduce_andi_all _ _ _ _ _ h1 i),
    fun i => Cert.Proof.Finite.real_of_abs_lt x4 _ i (Host.reduce_andi_all _ _ _ _ _ h2 i)⟩

variable (m : (ℓ : Loc nD τ sig) → Buf (Elt Ideal) ℓ) (c : Dev nD)

open Cert.SampleRefIdeal.Read

theorem qlat_at (b : Fin 128) (k : Fin 1024) : qlat m c b k = val_main_v16 (F := Ideal) (a0 m c) (a3 m c) (ix3 b 0 k) := by
  refine Eq.trans ?_ (ref_qlat (a0 m c) (a3 m c) b k).symm
  unfold qlat
  exact congrArg₂ (fun (f : Fin 1024 → EReal) w => normed 1024 f (Ideal.ofBits .f32 0x44800000#32) k w) (funext fun k => rows_q m c b k) (qw_at m c k)

theorem lat_flat (b : Fin 128) (k : Fin 512) : lat m c b k = val_main_v66 (F := Ideal) (a1 m c) (a5 m c) (ix3 b 0 k) := by
  refine Eq.trans ?_ (ref_lat (a1 m c) (a5 m c) b k).symm
  unfold lat
  exact congrArg₂ (fun (f : Fin 512 → EReal) w => normed 512 f (Ideal.ofBits .f32 0x44000000#32) k w) (funext fun k => rows_c m c b k) (cw_at m c k)

/-- The reference's query product of the kernel's arguments. -/
abbrev query (b : Fin 128) (h : Fin 16) (d : Fin 192) : EReal := val_main_v18 (F := Ideal) (a0 m c) (a3 m c) (a4 m c) (ix4 b 0 h d)

theorem up_p (b : Fin 128) (h : Fin 16) (d : Fin 192) : up m c b ⟨h.val * 256 + d.val, by omega⟩ = query m c b h d := by
  refine Eq.trans ?_ (ref_q (a0 m c) (a3 m c) (a4 m c) b h d).symm
  unfold up
  exact Finset.sum_congr rfl fun k _ => congrArg₂ (fun u v : EReal => u * v) (qlat_at m c b k) (wq_p m c k h d)

theorem up_r (b : Fin 128) (h : Fin 16) (d : Fin 32) : up m c b ⟨h.val * 256 + (224 + d.val), by omega⟩ = query m c b h ⟨128 + d.val, by omega⟩ := by
  refine Eq.trans ?_ (ref_q (a0 m c) (a3 m c) (a4 m c) b h ⟨128 + d.val, by omega⟩).symm
  unfold up
  exact Finset.sum_congr rfl fun k _ => congrArg₂ (fun u v : EReal => u * v) (qlat_at m c b k) (wq_r m c k h d)

theorem up_n (hq : Real (a0 m c)) (hw : Real (a3 m c)) (hu : Real (a4 m c)) (b : Fin 128) (h : Fin 16) (d : Fin 32) :
    up m c b ⟨h.val * 256 + (192 + d.val), by omega⟩ = -query m c b h ⟨128 + (32 + d.val), by omega⟩ := by
  refine Eq.trans ?_ (congrArg (fun u : EReal => -u) (ref_q (a0 m c) (a3 m c) (a4 m c) b h ⟨128 + (32 + d.val), by omega⟩)).symm
  refine Eq.trans ?_ (sum_neg (fun k => (val_main_v16 (F := Ideal) (a0 m c) (a3 m c) (ix3 b 0 k) : EReal)) (fun k => (a4 m c (ix4 0 k h ⟨128 + (32 + d.val), by omega⟩) : EReal))
    (fun k => ?_) (fun k => hu _))
  · unfold up
    exact Finset.sum_congr rfl fun k _ => congrArg₂ (fun u v : EReal => u * v) (qlat_at m c b k)
      ((wq_n m c k h d).trans (congrArg (fun z : Fin 192 => -(a4 m c (ix4 0 k h z) : EReal)) (Fin.ext (by dsimp only; omega))))
  · obtain ⟨r, hr⟩ := normed_real (fun k => (a0 m c (ix3 b 0 k) : EReal)) (fun k => hq _) (a3 m c (ix2 0 k)) (hw _) k
    exact ⟨r, (ref_qlat (a0 m c) (a3 m c) b k).trans hr⟩

/-- The packed row holds, for a rotated lane, the lane, the lane it is paired with, and their turns. -/
theorem roped (hq : Real (a0 m c)) (hw : Real (a3 m c)) (hu : Real (a4 m c)) (b : Fin 128) (h : Fin 16) (l : Fin 64) :
    up m c b ⟨h.val * 256 + (128 + l.val), by omega⟩ * (table m c (ix2 b ⟨l.val, by omega⟩) : EReal)
      + up m c b ⟨h.val * 256 + (192 + l.val), by omega⟩ * (table m c (ix2 b ⟨l.val + 64, by omega⟩) : EReal)
      = val_main_v98 (F := Ideal) (a0 m c) (a3 m c) (a4 m c) (ix4 b 0 h l) := by
  refine halves (P := fun l => up m c b ⟨h.val * 256 + (128 + l.val), by omega⟩ * (table m c (ix2 b ⟨l.val, by omega⟩) : EReal)
      + up m c b ⟨h.val * 256 + (192 + l.val), by omega⟩ * (table m c (ix2 b ⟨l.val + 64, by omega⟩) : EReal)
      = val_main_v98 (F := Ideal) (a0 m c) (a3 m c) (a4 m c) (ix4 b 0 h l)) (fun l => ?_) (fun l => ?_) l
  · refine Eq.trans ?_ (ref_qr_fst (a0 m c) (a3 m c) (a4 m c) b h l).symm
    refine Eq.trans ?_ (turned _ _ _ _)
    refine congrArg₂ (fun u v : EReal => u + v) (congrArg₂ (fun u v : EReal => u * v) ?_ (table_cos m c b l)) (congrArg₂ (fun u v : EReal => u * v) ?_ (table_sin m c b l))
    · exact up_p m c b h ⟨128 + l.val, by omega⟩
    · exact up_n m c hq hw hu b h l
  · refine Eq.trans ?_ (ref_qr_snd (a0 m c) (a3 m c) (a4 m c) b h l).symm
    refine congrArg₂ (fun u v : EReal => u + v) (congrArg₂ (fun u v : EReal => u * v) ?_ (table_cos' m c b l)) (congrArg₂ (fun u v : EReal => u * v) ?_ (table_sin' m c b l))
    · exact up_p m c b h ⟨128 + (32 + l.val), by omega⟩
    · exact (congrArg (up m c b) (Fin.ext (by dsimp only; omega))).trans (up_r m c b h l)

theorem rotated_at (b : Fin 128) (l : Fin 64) : rotated m c b l = val_main_v100 (F := Ideal) (a2 m c) (ix4 0 b 0 l) := by
  unfold rotated
  refine halves (P := fun l => (rows m c (ix2 b ⟨6656 + l.val, by omega⟩) : EReal) * (table m c (ix2 b ⟨l.val, by omega⟩) : EReal)
    + (rows m c (ix2 b ⟨6656 + (l.val + 64), by omega⟩) : EReal) * (table m c (ix2 b ⟨l.val + 64, by omega⟩) : EReal)
      = val_main_v100 (F := Ideal) (a2 m c) (ix4 0 b 0 l)) (fun l => ?_) (fun l => ?_) l
  · refine Eq.trans ?_ (ref_r_fst (a2 m c) b l).symm
    refine Eq.trans ?_ (turned _ _ _ _)
    refine congrArg₂ (fun u v : EReal => u + v) (congrArg₂ (fun u v : EReal => u * v) ?_ (table_cos m c b l)) (congrArg₂ (fun u v : EReal => u * v) ?_ (table_sin m c b l))
    · exact rows_r m c b ⟨l.val, by omega⟩
    · exact rows_n m c b l
  · refine Eq.trans ?_ (ref_r_snd (a2 m c) b l).symm
    refine congrArg₂ (fun u v : EReal => u + v) (congrArg₂ (fun u v : EReal => u * v) ?_ (table_cos' m c b l)) (congrArg₂ (fun u v : EReal => u * v) ?_ (table_sin' m c b l))
    · exact rows_r m c b ⟨32 + l.val, by omega⟩
    · exact rows_p m c b l

/-- The memory the grid leaves. -/
abbrev after : Valuation τ sig (Elt Ideal) := Pipeline.withArrays (cfgs 0).spec c (V0 m c) (fun w => (dats m 0 c).arrAt w (cfgs 0).N)

theorem left_q : (after m c (Proc.tc.devRef main_v46_0) : FVec Ideal S128x4096 .bf16) = (dats m 0 c).arrAt 8 cfg0.N :=
  (dats m 0 c).withArrays_arrAt sharedIn0 (V0 m c) (fun _ => rfl) 8
theorem left_c : (after m c (Proc.tc.devRef main_v46_1) : FVec Ideal S128x512 .f32) = (dats m 0 c).arrAt 9 cfg0.N :=
  (dats m 0 c).withArrays_arrAt sharedIn0 (V0 m c) (fun _ => rfl) 9
theorem left_r : (after m c (Proc.tc.devRef main_v46_2) : FVec Ideal S128x64 .f32) = (dats m 0 c).arrAt 10 cfg0.N :=
  (dats m 0 c).withArrays_arrAt sharedIn0 (V0 m c) (fun _ => rfl) 10
theorem got_qn (b : Fin 128) (h : Fin 16) (d : Fin 128) :
    (after m c (Proc.tc.devRef main_v46_0) : FVec Ideal S128x4096 .bf16) (ix2 b ⟨h.val * 256 + d.val, by omega⟩)
      = val_main_v97 (F := Ideal) (a0 m c) (a3 m c) (a4 m c) (ix4 b 0 h d) := by
  rw [left_q]
  have e : (h.val * 256 + d.val) % 256 < 128 := by omega
  refine ((asked m c (ix2 b ⟨h.val * 256 + d.val, by omega⟩)).1 e).trans ?_
  exact (up_p m c b h ⟨d.val, by omega⟩).trans (ref_qn (a0 m c) (a3 m c) (a4 m c) b h d).symm

theorem got_qr (hq : Real (a0 m c)) (hw : Real (a3 m c)) (hu : Real (a4 m c)) (b : Fin 128) (h : Fin 16) (l : Fin 64) :
    (after m c (Proc.tc.devRef main_v46_0) : FVec Ideal S128x4096 .bf16) (ix2 b ⟨h.val * 256 + (128 + l.val), by omega⟩)
      = val_main_v98 (F := Ideal) (a0 m c) (a3 m c) (a4 m c) (ix4 b 0 h l) := by
  rw [left_q]
  have e₁ : (h.val * 256 + (128 + l.val)) % 256 = 128 + l.val := by omega
  have e₂ : h.val * 256 + (192 + l.val) = h.val * 256 + (128 + l.val) + 64 := by omega
  refine ((asked m c (ix2 b ⟨h.val * 256 + (128 + l.val), by omega⟩)).2 l e₁
    ⟨h.val * 256 + (192 + l.val), by omega⟩ e₂).trans ?_
  exact roped m c hq hw hu b h l

/-- A place of a result, its token axis having one entry. -/
theorem spot {r s : Nat} (i : (⟨4, ![128, 1, r, s]⟩ : Shape).Idx) : i = ix4 (i 0) 0 (i 2) (i 3) :=
  (place i).trans (congrArg (fun z : Fin 1 => (ix4 (i 0) z (i 2) (i 3) : (⟨4, ![128, 1, r, s]⟩ : Shape).Idx)) (Subsingleton.elim _ _))

theorem spot_one {s : Nat} (i : (⟨4, ![1, 128, 1, s]⟩ : Shape).Idx) : i = ix4 0 (i 1) 0 (i 3) :=
  (place_one i).trans (congrArg (fun z : Fin 1 => (ix4 0 (i 1) z (i 3) : (⟨4, ![1, 128, 1, s]⟩ : Shape).Idx)) (Subsingleton.elim _ _))

theorem result_qn : val_main_v97 (F := Ideal) (a0 m c) (a3 m c) (a4 m c) = StableHlo.after (List.flatten [hostOps1]) (after m c) (Proc.tc.devRef main_v48) := by
  funext i
  rw [spot i]
  exact ((out_qn (after m c) (i 0) (i 2) (i 3)).trans (got_qn m c (i 0) (i 2) (i 3))).symm

theorem result_qr (hq : Real (a0 m c)) (hw : Real (a3 m c)) (hu : Real (a4 m c)) :
    val_main_v98 (F := Ideal) (a0 m c) (a3 m c) (a4 m c) = StableHlo.after (List.flatten [hostOps1]) (after m c) (Proc.tc.devRef main_v49) := by
  funext i
  rw [spot i]
  exact ((out_qr (after m c) (i 0) (i 2) (i 3)).trans (got_qr m c hq hw hu (i 0) (i 2) (i 3))).symm

theorem result_c : val_main_v99 (F := Ideal) (a1 m c) (a5 m c) = StableHlo.after (List.flatten [hostOps1]) (after m c) (Proc.tc.devRef main_v50) := by
  funext i
  rw [spot_one i]
  exact ((out_c (after m c) (i 1) (i 3)).trans (((congrFun (left_c m c) _).trans (latents m c (i 1) (i 3))).trans
    ((lat_flat m c (i 1) (i 3)).trans (ref_c (a1 m c) (a5 m c) (i 1) (i 3)).symm))).symm

theorem result_r : val_main_v100 (F := Ideal) (a2 m c) = StableHlo.after (List.flatten [hostOps1]) (after m c) (Proc.tc.devRef main_v51) := by
  funext i
  rw [spot_one i]
  exact ((out_r (after m c) (i 1) (i 3)).trans (((congrFun (left_r m c) _).trans (rotations m c (i 1) (i 3))).trans
    (rotated_at m c (i 1) (i 3)))).symm

set_option maxHeartbeats 4000000 in
theorem sampling : Cert.algebraic_SampleIdeal_SampleRefIdeal_pre_finite_sample := by
  pair_intro
  · run_from Cert.SampleIdeal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
  · run_from Cert.SampleRefIdeal.Value.run m' g'
    · exact (val_main_v97_eq (F := Ideal) _ _ _).trans (result_qn m c)
    · obtain ⟨r0, r3, r4⟩ := args_real _ _ _ _ _ _ _ _ (congrFun (hpre c) ix0)
      obtain ⟨e0, e1, e2, e3, e4, e5, e6, e7⟩ := hagree c
      refine (val_main_v98_eq (F := Ideal) m' c).trans ?_
      rw [e0, e3, e4]
      exact result_qr m c r0 r3 r4
    · exact (val_main_v99_eq (F := Ideal) _ _).trans (result_c m c)
    · refine (val_main_v100_eq (F := Ideal) _).trans ?_
      rw [(hagree c).2.2.1]
      exact result_r m c

end Cert.Proof.Sample

end
-- ==== Proof.SampleIn.lean ====
/-
  The input projection of the sample tokens, read at an index: the grid is one run of nine points over all 128 tokens.
-/
module

public import proofs.«01_k».proof.Defs
public import proofs.«01_k».proof.Proof.InProj
public import proofs.«01_k».proof.Proof.Gen.SampleInIdeal
public import proofs.«01_k».proof.Proof.Gen.SampleInRefIdeal
public import proofs.«01_k».proof.Proof.Gen.SampleInIdeal.Frame
public import proofs.«01_k».proof.Proof.Gen.SampleInRefIdeal.Run
public import proofs.«01_k».proof.Proof.Gen.SampleInRefIdeal.Read
public import Idealize.ShloMosaic.Lib.Claim
public import Idealize.ShloMosaic.Lib.Pipeline.Value
public import Idealize.ShloMosaic.Lib.Pipeline.ValueKit
public import Idealize.ShloMosaic.Lib.Pipeline.ValueKit.Held
public import Idealize.ShloMosaic.Lib.StableHlo.ReadAt
public import Idealize.ShloMosaic.Lib.Pointwise
public import Idealize.ShloMosaic.Lib.Tactic
public import Idealize.ShloMosaic.PureOps.Ideal.Laws

@[expose] public section

set_option maxRecDepth 16384

noncomputable section

namespace Cert.Proof.SampleIn

open Cert.SampleInIdeal Cert.SampleInIdeal.Gen
open Cert.Proof.InProj (col col_spec)
open Idealize.ShloMosaic Idealize.ShloMosaic.TcCoe Idealize.SL.Sem
open Idealize.ShloMosaic.Tactic Idealize.ShloMosaic.Pointwise

/-- The store of a grid point: the products of its rows with its packed columns. -/
theorem point_first (c : Dev nD) (i : grid0.Coords) (arg2 : Memref sig .tc .vmem S128x4096 .f32) (harg2 : arg2.IsWhole) (arg3 : Memref sig .tc .vmem S768x4096 .bf16) (harg3 : arg3.IsWhole) (arg4 : Memref sig .tc .vmem S128x768 .f32) (harg4 : arg4.IsWhole) (arg5 : Memref sig .tc .vmem S128x4096 .bf16) (harg5 : arg5.IsWhole) (hc0 : cond0_0 i)
    (x0 : Vec Ideal S128x4096 .f32) (x1 : Vec Ideal S768x4096 .bf16) (r : Fin 128) (e : Fin 768) :
    (out0_A_2 c i arg2 harg2 arg3 harg3 arg4 harg4 arg5 harg5 hc0 x0 x1 (ix2 r e) : EReal)
      = ∑ k : Fin 4096, (x0 (ix2 r k) : EReal) * (x1 (ix2 e k) : EReal) := by
  frame_out
  unfold_payloads
  pointwise

theorem point_next (c : Dev nD) (i : grid0.Coords) (arg2 : Memref sig .tc .vmem S128x4096 .f32) (harg2 : arg2.IsWhole) (arg3 : Memref sig .tc .vmem S768x4096 .bf16) (harg3 : arg3.IsWhole) (arg4 : Memref sig .tc .vmem S128x768 .f32) (harg4 : arg4.IsWhole) (arg5 : Memref sig .tc .vmem S128x4096 .bf16) (harg5 : arg5.IsWhole) (hc0 : ¬cond0_0 i)
    (x0 : Vec Ideal S128x4096 .f32) (x1 : Vec Ideal S768x4096 .bf16) (xs : Vec Ideal S128x4096 .bf16) (r : Fin 128) (e : Fin 768) :
    (out0_B_2 c i arg2 harg2 arg3 harg3 arg4 harg4 arg5 harg5 hc0 x0 x1 xs (ix2 r e) : EReal)
      = ∑ k : Fin 4096, (xs (ix2 r k) : EReal) * (x1 (ix2 e k) : EReal) := by
  frame_out
  unfold_payloads
  pointwise

/-- The copy of its rows that the first point of a run keeps. -/
theorem kept_first (c : Dev nD) (i : grid0.Coords) (arg2 : Memref sig .tc .vmem S128x4096 .f32) (harg2 : arg2.IsWhole) (arg3 : Memref sig .tc .vmem S768x4096 .bf16) (harg3 : arg3.IsWhole) (arg4 : Memref sig .tc .vmem S128x768 .f32) (harg4 : arg4.IsWhole) (arg5 : Memref sig .tc .vmem S128x4096 .bf16) (harg5 : arg5.IsWhole) (hc0 : cond0_0 i)
    (x0 : Vec Ideal S128x4096 .f32) (x1 : Vec Ideal S768x4096 .bf16) (j : S128x4096.Idx) :
    (sout0_A_0 c i arg2 harg2 arg3 harg3 arg4 harg4 arg5 harg5 hc0 x0 x1 j : EReal) = (x0 j : EReal) := by
  frame_out
  unfold_payloads
  pointwise

theorem kept_next (c : Dev nD) (i : grid0.Coords) (arg2 : Memref sig .tc .vmem S128x4096 .f32) (harg2 : arg2.IsWhole) (arg3 : Memref sig .tc .vmem S768x4096 .bf16) (harg3 : arg3.IsWhole) (arg4 : Memref sig .tc .vmem S128x768 .f32) (harg4 : arg4.IsWhole) (arg5 : Memref sig .tc .vmem S128x4096 .bf16) (harg5 : arg5.IsWhole) (hc0 : ¬cond0_0 i)
    (x0 : Vec Ideal S128x4096 .f32) (x1 : Vec Ideal S768x4096 .bf16) (xs : Vec Ideal S128x4096 .bf16) (j : S128x4096.Idx) :
    (sout0_B_0 c i arg2 harg2 arg3 harg3 arg4 harg4 arg5 harg5 hc0 x0 x1 xs j : EReal) = (xs j : EReal) := rfl

variable (m : (ℓ : Loc nD τ sig) → Buf (Elt Ideal) ℓ) (c : Dev nD)

theorem idx0 : ∀ t : Fin grid0.N, win0_0.index t = ![t.val / 9, 0] := by decide +kernel
theorem idx1 : ∀ t : Fin grid0.N, win0_1.index t = ![t.val % 9, 0] := by decide +kernel
theorem idx2 : ∀ t : Fin grid0.N, win0_2.index t = ![t.val / 9, t.val % 9] := by decide +kernel

theorem lt_grid (t : Fin cfg0.N) : t.val < 9 := t.isLt

theorem block0 (t : Fin cfg0.N) (r : Fin 128) (k : Fin 4096) :
    (iblk m c 0 t : Vec Ideal S128x4096 .f32) (ix2 r k) = V m c main_v0 (ix2 ⟨128 * (t.val / 9) + r.val, by have := lt_grid t; omega⟩ k) := by
  blk_ext [iblk, idx0 t]

theorem block1 (t : Fin cfg0.N) (e : Fin 768) (k : Fin 4096) :
    (iblk m c 1 t : Vec Ideal S768x4096 .bf16) (ix2 e k) = V m c main_v14 (ix2 ⟨768 * (t.val % 9) + e.val, by have := lt_grid t; omega⟩ k) := by
  blk_ext [iblk, idx1 t]

/-- At every point of a run the kept rows are the run's rows. -/
theorem kept (t : Fin cfg0.N) (j : S128x4096.Idx) :
    ((outsAt0 m c t.val t.isLt).2 j : EReal)
      = (iblk m c 0 ⟨9 * (t.val / 9), Pipeline.run_start_lt t⟩ : Vec Ideal S128x4096 .f32) j := by
  refine Pipeline.eq_of_write_hold_apply (fun n hn j => ((outsAt0 m c n hn).2 j : EReal)) 9
    (fun t j => ((iblk m c 0 t : Vec Ideal S128x4096 .f32) j : EReal)) ?_ ?_ t j
  · intro t h j
    refine (congrArg (fun p : Vec Ideal S128x768 .f32 × Vec Ideal S128x4096 .bf16 => (p.2 j : EReal)) (outsAt0_A m c t h)).trans ?_
    dsimp only
    exact kept_first ..
  · intro t h j
    refine (congrArg (fun p : Vec Ideal S128x768 .f32 × Vec Ideal S128x4096 .bf16 => (p.2 j : EReal)) (outsAt0_B m c t h)).trans ?_
    dsimp only
    exact kept_next ..

/-- The rows and the packed columns the call is given. -/
abbrev rows : FVec Ideal S128x4096 .f32 := V m c main_v0
abbrev packed : FVec Ideal S6912x4096 .bf16 := V m c main_v14

/-- The product the call makes of a row and a packed column. -/
def product : FVec Ideal S128x6912 .f32 := fun i =>
  ∑ k : Fin 4096, (rows m c (ix2 (i 0) k) : EReal) * (packed m c (ix2 (i 1) k) : EReal)

theorem product_at (R : Fin 128) (C : Fin 6912) : (product m c (ix2 R C) : EReal)
    = ∑ k : Fin 4096, (rows m c (ix2 R k) : EReal) * (packed m c (ix2 C k) : EReal) := rfl

theorem block_at (t : Fin cfg0.N) (r : Fin 128) (e : Fin 768) :
    ((outsAt0 m c t.val t.isLt).1 (ix2 r e) : EReal)
      = product m c (ix2 ⟨128 * (t.val / 9) + r.val, by have := lt_grid t; omega⟩ ⟨768 * (t.val % 9) + e.val, by omega⟩) := by
  rw [product_at]
  have ht := lt_grid t
  by_cases h : t.val % 9 = 0
  · refine (congrArg (fun p : Vec Ideal S128x768 .f32 × Vec Ideal S128x4096 .bf16 => (p.1 (ix2 r e) : EReal)) (outsAt0_A m c t h)).trans ?_
    dsimp only
    refine (point_first ..).trans (Finset.sum_congr rfl fun k _ => ?_)
    rw [block0, block1]
  · refine (congrArg (fun p : Vec Ideal S128x768 .f32 × Vec Ideal S128x4096 .bf16 => (p.1 (ix2 r e) : EReal)) (outsAt0_B m c t h)).trans ?_
    dsimp only
    refine (point_next ..).trans (Finset.sum_congr rfl fun k _ => ?_)
    rw [block1]
    refine congrArg₂ (· * ·) ?_ rfl
    refine (kept m c ⟨t.val - 1, by omega⟩ (ix2 r k)).trans ?_
    rw [block0]
    congr 2
    refine Fin.ext ?_
    show 128 * (9 * ((t.val - 1) / 9) / 9) + r.val = 128 * (t.val / 9) + r.val
    omega

theorem array : (dats m 0 c).arrAt 2 cfg0.N = product m c := by
  refine (dats m 0 c).arrAt_eq_of_covers 2 _ (by decide +kernel) fun t hf y => ?_
  blk_simp
  rw [after0_2]
  have hb := block_at m c t (y 0) (y 1)
  refine Eq.trans ?_ (hb.trans ?_)
  · refine congrArg (fun z : S128x768.Idx => ((outsAt0 m c t.val t.isLt).1 z : EReal)) ?_
    funext a
    fin_cases a <;> rfl
  · blk_ext [idx2 t]

abbrev a0 : FVec Ideal S128x1x4096 .f32 := m (c, Proc.tc.devRef main_arg0)
abbrev a1 : FVec Ideal S1x4096x6752 .f32 := m (c, Proc.tc.devRef main_arg1)

theorem rows_at (b : Fin 128) (t : Fin 1) (k : Fin 4096) :
    (rows m c (ix2 b k) : EReal) = a0 m c (ix3 b t k) := by
  rw [Subsingleton.elim t 0]
  unfold rows V
  after_reads_at

set_option maxHeartbeats 2000000 in
theorem packed_at (C : Fin 6912) (e : Fin 6752) (k : Fin 4096)
    (h : (C.val < 3072 ∧ e.val = C.val + 2048) ∨ (3072 ≤ C.val ∧ C.val < 4096 ∧ e.val = C.val + 2080)
      ∨ (4096 ≤ C.val ∧ C.val < 6144 ∧ e.val + 4096 = C.val) ∨ (6144 ≤ C.val ∧ C.val < 6656 ∧ e.val = C.val + 32)
      ∨ (6656 ≤ C.val ∧ C.val < 6720 ∧ e.val = C.val + 32) ∨ (6784 ≤ C.val ∧ C.val < 6816 ∧ e.val + 1664 = C.val)) :
    (packed m c (ix2 C k) : EReal) = a1 m c (ix3 0 k e) := by
  unfold packed V
  after_reads_at
  after_reads_simp
  set_option maxRecDepth 200000 in pointwise
  split_ifs <;> first
    | (exfalso; omega)
    | exact congrArg (fun z : Fin 6752 => (a1 m c (ix3 0 k z) : EReal)) (Fin.ext (by dsimp only; omega))

/-- The result is the packed product's columns, put back in the layer's own order. -/
theorem ordered (W : Valuation τ sig (Elt Ideal)) (b : Fin 128) (t : Fin 1) (e : Fin 6752) :
    (StableHlo.after (List.flatten [hostOps1]) W (Proc.tc.devRef main_v23) : FVec Ideal S128x1x6752 .f32) (ix3 b t e)
      = (W (Proc.tc.devRef main_v15) : FVec Ideal S128x6912 .f32) (ix2 b (col e)) := by
  after_reads_at
  after_reads_simp
  set_option maxRecDepth 200000 in pointwise
  split_ifs <;>
    exact congrArg (fun z : Fin 6912 => (W (Proc.tc.devRef main_v15) : FVec Ideal S128x6912 .f32) (ix2 b z))
      (Fin.ext (by dsimp only [col]; split_ifs <;> omega))

/-- What the grid leaves of the call's array. -/
theorem left : (Pipeline.withArrays (cfgs 0).spec c (V0 m c) (fun w => (dats m 0 c).arrAt w (cfgs 0).N) (Proc.tc.devRef main_v15) : FVec Ideal S128x6912 .f32)
    = product m c := by
  refine (Pipeline.withArrays_arr (cfgs 0).spec (by decide) c (V0 m c) (fun w => (dats m 0 c).arrAt w (cfgs 0).N) 2).trans ?_
  exact array m c

theorem reference_at (x : FVec Ideal S128x1x4096 .f32) (w : FVec Ideal S1x4096x6752 .f32) (i : S128x1x6752.Idx) :
    (Ideal.matmul Cert.SampleInRefIdeal.dot_S128x1x4096_S4096x6752_S128x1x6752_2_0_01_1_n_n x
      (shapeCast Cert.SampleInRefIdeal.S4096x6752 w Cert.SampleInRefIdeal.Gen.shapeCasts_S1x4096x6752_S4096x6752)
      (fun _ => 0) i : EReal) = ∑ k : Fin 4096, (x (ix3 (i 0) (i 1) k) : EReal) * (w (ix3 0 k (i 2)) : EReal) := by
  pointwise

theorem projection : Cert.algebraic_SampleInIdeal_SampleInRefIdeal := by
  pair_intro
  · run_from Cert.SampleInIdeal.Gen.run_main m g
    · exact W_main_arg0 m (dats m) c
    · exact W_main_arg1 m (dats m) c
  · run_from Cert.SampleInRefIdeal.Value.run m' g'
    refine Eq.symm ?_
    funext i
    refine (ordered _ (i 0) (i 1) (i 2)).trans ?_
    refine (congrFun (left m c) _).trans ?_
    refine (product_at m c _ _).trans ?_
    refine Eq.trans ?_ (reference_at (m (c.tc.loc main_arg0)) (m (c.tc.loc main_arg1)) i).symm
    refine Finset.sum_congr rfl fun k _ => ?_
    exact congrArg₂ (fun u v : EReal => u * v) (rows_at m c (i 0) (i 1) k)
      (packed_at m c (col (i 2)) (i 2) k (col_spec (i 2)))

end Cert.Proof.SampleIn

end
-- ==== Proof.Weights.lean ====
/-
  A row of attention computed block by block, over the extended reals.

  The kernel carries a running maximum `m`, a running normaliser `l` and a running weighted sum `acc`. `Carried` says
  what they are after some columns: a real `μ` (which real it is does not matter), the sum of the weights so far times
  `2^(-μ)`, and the weighted sum of the values so far times `2^(-μ)`. One block of columns keeps it (`Carried.step`), and
  the quotient at the end does not depend on `μ` (`Carried.quotient`). The reference's softmax of a whole row has the same
  quotient (`softmax_row`).
-/
module

public import Idealize.ShloMosaic.PureOps.Ideal
public import Mathlib.Analysis.SpecialFunctions.Pow.Real

@[expose] public section

set_option maxRecDepth 16384

noncomputable section

namespace Cert.Proof.Weights

open Idealize.ShloMosaic
open scoped BigOperators

/-- A sum of reals, read in the extended reals. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A nonnegative real factor comes out of a sum of extended reals. -/
theorem mul_sum {ι : Type*} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A score and its weight, to the base `2`: a masked column has score `⊥` and weight `0`. -/
def Weighs (s : EReal) (w : ℝ) : Prop := (s = ⊥ ∧ w = 0) ∨ ∃ x : ℝ, s = (x : EReal) ∧ w = Real.rpow 2 x

theorem Weighs.nonneg {s : EReal} {w : ℝ} (h : Weighs s w) : 0 ≤ w := by
  rcases h with ⟨_, rfl⟩ | ⟨x, _, rfl⟩
  · exact le_refl _
  · exact (Real.rpow_pos_of_pos (by norm_num) x).le

theorem Weighs.ne_top {s : EReal} {w : ℝ} (h : Weighs s w) : s ≠ ⊤ := by
  rcases h with ⟨rfl, _⟩ | ⟨x, rfl, _⟩
  · simp
  · exact EReal.coe_ne_top x

theorem Weighs.exp2_sub {s : EReal} {w : ℝ} (h : Weighs s w) (μ : ℝ) :
    Ideal.exp2 (s - (μ : EReal)) = ((Real.rpow 2 (-μ) * w : ℝ) : EReal) := by
  rcases h with ⟨rfl, rfl⟩ | ⟨x, rfl, rfl⟩
  · simp
  · rw [← EReal.coe_sub, Ideal.exp2_coe]
    congr 1
    show (2 : ℝ) ^ (x - μ) = (2 : ℝ) ^ (-μ) * (2 : ℝ) ^ x
    rw [← Real.rpow_add (by norm_num)]
    congr 1
    ring

/-- The largest score of a block, or of a row, is below `⊤` when every one is. -/
theorem fold_max_ne_top {ι : Type*} (t : Finset ι) (s : ι → EReal) (hs : ∀ j ∈ t, s j ≠ ⊤) :
    t.fold max ⊥ s ≠ ⊤ := by
  rw [← lt_top_iff_ne_top, Finset.fold_max_lt]
  exact ⟨by simp, fun j hj => lt_top_iff_ne_top.2 (hs j hj)⟩

theorem fold_max_ne_bot {ι : Type*} (t : Finset ι) (s : ι → EReal) (hs : ∃ j ∈ t, s j ≠ ⊥) :
    t.fold max ⊥ s ≠ ⊥ := by
  obtain ⟨j, hj, hne⟩ := hs
  rw [← bot_lt_iff_ne_bot, Finset.lt_fold_max]
  exact Or.inr ⟨j, hj, bot_lt_iff_ne_bot.2 hne⟩

theorem exists_real {x : EReal} (ht : x ≠ ⊤) (hb : x ≠ ⊥) : ∃ r : ℝ, x = (r : EReal) :=
  ⟨x.toReal, (EReal.coe_toReal ht hb).symm⟩

/-- What the kernel carries of one row and one output column: weights summing to `W`, weighted values to `A`. -/
def Carried (m l acc : EReal) (W : ℝ) (A : EReal) : Prop :=
  (∃ μ : ℝ, m = (μ : EReal) ∧ l = ((Real.rpow 2 (-μ) * W : ℝ) : EReal) ∧ acc = ((Real.rpow 2 (-μ) : ℝ) : EReal) * A) ∨
  (m = ⊥ ∧ l = 0 ∧ acc = 0 ∧ W = 0 ∧ A = 0)

theorem Carried.start : Carried ⊥ 0 0 0 0 := Or.inr ⟨rfl, rfl, rfl, rfl, rfl⟩

theorem two_rpow_pos (x : ℝ) : 0 < Real.rpow 2 x := Real.rpow_pos_of_pos (by norm_num) x

/-- One block of columns: the running values go on being what `Carried` says. -/
theorem Carried.step {n : ℕ} {m l acc : EReal} {W : ℝ} {A : EReal} (h : Carried m l acc W A)
    (s v : Fin n → EReal) (w : Fin n → ℝ) (hs : ∀ j, Weighs (s j) (w j)) (hr : ∃ j, s j ≠ ⊥) :
    Carried (max m (Finset.univ.fold max ⊥ s))
      (Ideal.exp2 (m - max m (Finset.univ.fold max ⊥ s)) * l
        + ∑ j, Ideal.exp2 (s j - max m (Finset.univ.fold max ⊥ s)))
      (Ideal.exp2 (m - max m (Finset.univ.fold max ⊥ s)) * acc
        + ∑ j, Ideal.exp2 (s j - max m (Finset.univ.fold max ⊥ s)) * v j)
      (W + ∑ j, w j) (A + ∑ j, (w j : EReal) * v j) := by
  have hm : m ≠ ⊤ := by
    rcases h with ⟨μ, rfl, _⟩ | ⟨rfl, _⟩
    · exact EReal.coe_ne_top μ
    · simp
  obtain ⟨μ', hμ'⟩ : ∃ r : ℝ, max m (Finset.univ.fold max ⊥ s) = (r : EReal) := by
    apply exists_real
    · rw [← lt_top_iff_ne_top, max_lt_iff]
      exact ⟨lt_top_iff_ne_top.2 hm, lt_top_iff_ne_top.2 (fold_max_ne_top _ s fun j _ => (hs j).ne_top)⟩
    · rw [← bot_lt_iff_ne_bot, lt_max_iff]
      obtain ⟨j, hj⟩ := hr
      exact Or.inr (bot_lt_iff_ne_bot.2 (fold_max_ne_bot _ s ⟨j, Finset.mem_univ j, hj⟩))
  rw [hμ']
  have hp : ∀ j, Ideal.exp2 (s j - (μ' : EReal)) = ((Real.rpow 2 (-μ') * w j : ℝ) : EReal) :=
    fun j => (hs j).exp2_sub μ'
  have hl : ∑ j, Ideal.exp2 (s j - (μ' : EReal)) = ((Real.rpow 2 (-μ') * ∑ j, w j : ℝ) : EReal) := by
    rw [Finset.mul_sum, coe_sum]
    exact Finset.sum_congr rfl fun j _ => hp j
  have ha : ∑ j, Ideal.exp2 (s j - (μ' : EReal)) * v j
      = ((Real.rpow 2 (-μ') : ℝ) : EReal) * ∑ j, (w j : EReal) * v j := by
    rw [mul_sum _ _ (two_rpow_pos _).le]
    refine Finset.sum_congr rfl fun j _ => ?_
    rw [hp j, EReal.coe_mul, mul_assoc]
  refine Or.inl ⟨μ', rfl, ?_, ?_⟩
  · rw [hl]
    rcases h with ⟨μ, rfl, rfl, _⟩ | ⟨rfl, rfl, _, rfl, _⟩
    · rw [Weighs.exp2_sub (Or.inr ⟨μ, rfl, rfl⟩ : Weighs (μ : EReal) (Real.rpow 2 μ)) μ', ← EReal.coe_mul, ← EReal.coe_add]
      congr 1
      have : Real.rpow 2 μ * Real.rpow 2 (-μ) = 1 := by
        show (2 : ℝ) ^ μ * (2 : ℝ) ^ (-μ) = 1
        rw [← Real.rpow_add (by norm_num), add_neg_cancel, Real.rpow_zero]
      linear_combination (Real.rpow 2 (-μ') * W) * this
    · simp
  · rw [ha]
    rcases h with ⟨μ, rfl, _, rfl⟩ | ⟨rfl, _, rfl, _, rfl⟩
    · rw [Weighs.exp2_sub (Or.inr ⟨μ, rfl, rfl⟩ : Weighs (μ : EReal) (Real.rpow 2 μ)) μ', ← mul_assoc, ← EReal.coe_mul]
      have : Real.rpow 2 (-μ') * Real.rpow 2 μ * Real.rpow 2 (-μ) = Real.rpow 2 (-μ') := by
        show (2 : ℝ) ^ (-μ') * (2 : ℝ) ^ μ * (2 : ℝ) ^ (-μ) = (2 : ℝ) ^ (-μ')
        rw [mul_assoc, ← Real.rpow_add (by norm_num), add_neg_cancel, Real.rpow_zero, mul_one]
      rw [this, EReal.left_distrib_of_nonneg_of_ne_top (by exact_mod_cast (two_rpow_pos _).le) (EReal.coe_ne_top _)]
    · simp

/-- The last division: the maximum drops out. -/
theorem Carried.quotient {m l acc : EReal} {W : ℝ} {A : EReal} (h : Carried m l acc W A) (hW : 0 < W) :
    Ideal.div acc l = ((W⁻¹ : ℝ) : EReal) * A := by
  rcases h with ⟨μ, _, rfl, rfl⟩ | ⟨_, _, _, rfl, _⟩
  · have hp := two_rpow_pos (-μ)
    rw [Ideal.div_coe (mul_pos hp hW).ne', mul_comm, ← mul_assoc, ← EReal.coe_mul]
    congr 2
    field_simp
  · exact absurd hW (lt_irrefl 0)

/-- A score and its weight, to the base `e`. -/
def WeighsE (s : EReal) (w : ℝ) : Prop := (s = ⊥ ∧ w = 0) ∨ ∃ x : ℝ, s = (x : EReal) ∧ w = Real.exp x

/-- The softmax of a whole row times the values, as the reference computes it. -/
theorem softmax_row {n : ℕ} (s v : Fin n → EReal) (w : Fin n → ℝ) (hs : ∀ j, WeighsE (s j) (w j)) (hr : ∃ j, s j ≠ ⊥)
    (hW : 0 < ∑ j, w j) :
    ∑ j, v j * Ideal.div (Ideal.exp (s j - max ⊥ (Finset.univ.fold max ⊥ s)))
        (0 + ∑ k, Ideal.exp (s k - max ⊥ (Finset.univ.fold max ⊥ s)))
      = (((∑ j, w j)⁻¹ : ℝ) : EReal) * ∑ j, (w j : EReal) * v j := by
  have hnn : ∀ j, 0 ≤ w j := fun j => by
    rcases hs j with ⟨_, h⟩ | ⟨x, _, h⟩
    · exact h.ge
    · exact h ▸ (Real.exp_pos x).le
  obtain ⟨μ, hμ⟩ : ∃ r : ℝ, max ⊥ (Finset.univ.fold max ⊥ s) = (r : EReal) := by
    rw [max_eq_right bot_le]
    obtain ⟨j, hj⟩ := hr
    refine exists_real (fold_max_ne_top _ s fun j _ => ?_) (fold_max_ne_bot _ s ⟨j, Finset.mem_univ j, hj⟩)
    rcases hs j with ⟨h, _⟩ | ⟨x, h, _⟩
    · simp [h]
    · rw [h]; exact EReal.coe_ne_top x
  rw [hμ]
  have hp : ∀ j, Ideal.exp (s j - (μ : EReal)) = ((Real.exp (-μ) * w j : ℝ) : EReal) := fun j => by
    rcases hs j with ⟨h, h'⟩ | ⟨x, h, h'⟩
    · rw [h, h']; simp
    · rw [h, h', ← EReal.coe_sub, Ideal.exp_coe, ← Real.exp_add]
      congr 2
      ring
  have hl : 0 + ∑ k, Ideal.exp (s k - (μ : EReal)) = ((Real.exp (-μ) * ∑ j, w j : ℝ) : EReal) := by
    rw [zero_add, Finset.mul_sum, coe_sum]
    exact Finset.sum_congr rfl fun j _ => hp j
  rw [hl, mul_sum _ _ (inv_nonneg.2 hW.le)]
  refine Finset.sum_congr rfl fun j _ => ?_
  have he := Real.exp_pos (-μ)
  rw [hp, Ideal.div_coe (mul_pos he hW).ne', ← EReal.coe_mul, mul_comm, ← mul_assoc, ← EReal.coe_mul]
  congr 2
  field_simp

end Cert.Proof.Weights

end
-- ==== Proof.Block.lean ====
/-
  One block of 512 columns of the attention kernel, read at an index.

  `nextMax`, `nextSum`, `nextAcc` are what a block makes of the running maximum, normaliser and weighted sum of one row
  (and one output column), from the block's scores and values. The kernel's loop trip (`trip_head0`, `trip_head1`) and its
  closing masked block (`out_head0`, `out_head1`) are these, at the products of the rows of its query and key blocks.
-/
module

public import proofs.«01_k».proof.Proof.Gen.KernelIdeal.Value
public import proofs.«01_k».proof.Proof.Weights
public import Idealize.ShloMosaic.Lib.Pipeline.Value
public import Idealize.ShloMosaic.Lib.Pointwise
public import Idealize.ShloMosaic.Lib.Tactic
public import Idealize.ShloMosaic.Lib.WordCmp
public import Idealize.ShloMosaic.PureOps.Ideal.Laws

@[expose] public section

set_option maxRecDepth 16384

noncomputable section

namespace Cert.Proof.Block

open Cert.KernelIdeal Cert.KernelIdeal.Gen Idealize.ShloMosaic Idealize.ShloMosaic.TcCoe Idealize.SL.Sem
open Idealize.ShloMosaic.Tactic Idealize.ShloMosaic.Pointwise
open Cert.Proof.Weights

/-- The scale of the scores, to the base 2. -/
def scale : ℝ := (Real.sqrt 192)⁻¹ * (Real.log 2)⁻¹

theorem named_scale : (Named.named κ "scale_log2e" 0x3DD53B95#32 : Ideal .f32) = (scale : EReal) :=
  IdealRules.named_const.ideal_named_scalar _ _ _ _ rfl

theorem named_mask : (Named.named κ "mask" 0xF149F2CA#32 : Ideal .f32) = (⊥ : EReal) :=
  IdealRules.named_const.ideal_named_scalar _ _ _ _ rfl

theorem neg_inf : (Ideal.ofBits .f32 0xFF800000#32 : EReal) = ⊥ := by
  simp [Ideal.ofBits, Ideal.ieee]

def nextMax {n : ℕ} (m : EReal) (s : Fin n → EReal) : EReal := max m (Finset.univ.fold max ⊥ s)

def nextSum {n : ℕ} (m l : EReal) (s : Fin n → EReal) : EReal :=
  Ideal.exp2 (m - nextMax m s) * l + ∑ j, Ideal.exp2 (s j - nextMax m s)

def nextAcc {n : ℕ} (m a : EReal) (s v : Fin n → EReal) : EReal :=
  Ideal.exp2 (m - nextMax m s) * a + ∑ j, Ideal.exp2 (s j - nextMax m s) * v j

/-- The scores of a row of a query block against the rows of a key block. -/
def scores (q kb : Vec Ideal S512x256 .bf16) (r : Fin 512) (j : Fin 512) : EReal :=
  (∑ k : Fin 256, (q (ix2 r k) : EReal) * (kb (ix2 j k) : EReal)) * (scale : EReal)

/-- The same where the columns after the row are masked. -/
def diagScores (q kb : Vec Ideal S512x256 .bf16) (r : Fin 512) (j : Fin 512) : EReal :=
  if j.val ≤ r.val then scores q kb r j else ⊥

theorem select_le (j r : Fin 512) (x y : EReal) :
    Scalar.select (IntOp.cmpi CmpIPredicate.sle (BitVec.ofNat 32 j.val) (BitVec.ofNat 32 r.val)) x y
      = if j.val ≤ r.val then x else y := by
  word_cmp

theorem trip_t1 (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole)
    (x1 : Vec Ideal S2048x512 .bf16) (x2 : Vec Ideal S2048x256 .bf16) (v0 v2 : Vec Ideal S512x256 .bf16) (k : Fin (k0_t1_loop i).trips)
    (a : FVec Ideal S512x1 .f32 × FVec Ideal S512x1 .f32 × FVec Ideal S512x128 .f32 × FVec Ideal S512x1 .f32 × FVec Ideal S512x1 .f32 × FVec Ideal S512x128 .f32)
    (k0 k1 : Vec Ideal S512x256 .bf16) (w0 w1 : Vec Ideal S512x128 .bf16)
    (hk0 : View.ld x1 (Rect.unit (s := S2048x512) (k0_off1 i k) S512x256.size (k0_off1_inb i k)) = k0)
    (hw0 : View.ld x2 (Rect.unit (s := S2048x256) (k0_off2 i k) S512x128.size (k0_off2_inb i k)) = w0)
    (hk1 : View.ld x1 (Rect.unit (s := S2048x512) (k0_off3 i k) S512x256.size (k0_off3_inb i k)) = k1)
    (hw1 : View.ld x2 (Rect.unit (s := S2048x256) (k0_off4 i k) S512x128.size (k0_off4_inb i k)) = w1)
    (r : Fin 512) (d : Fin 128) :
    let b := tripR_k0_t1 Variants.none c none i arg3 harg3 arg4 harg4 arg5 harg5 arg6 harg6 v0 v2 (harg4.unread x1) (harg5.unread x2) k a
    (b.1 (ix2 r 0) = nextMax (a.1 (ix2 r 0)) (scores v0 k0 r)
      ∧ b.2.1 (ix2 r 0) = nextSum (a.1 (ix2 r 0)) (a.2.1 (ix2 r 0)) (scores v0 k0 r)
      ∧ b.2.2.1 (ix2 r d) = nextAcc (a.1 (ix2 r 0)) (a.2.2.1 (ix2 r d)) (scores v0 k0 r) (fun j => w0 (ix2 j d)))
    ∧ (b.2.2.2.1 (ix2 r 0) = nextMax (a.2.2.2.1 (ix2 r 0)) (scores v2 k1 r)
      ∧ b.2.2.2.2.1 (ix2 r 0) = nextSum (a.2.2.2.1 (ix2 r 0)) (a.2.2.2.2.1 (ix2 r 0)) (scores v2 k1 r)
      ∧ b.2.2.2.2.2 (ix2 r d) = nextAcc (a.2.2.2.1 (ix2 r 0)) (a.2.2.2.2.2 (ix2 r d)) (scores v2 k1 r) (fun j => w1 (ix2 j d))) := by
  have hb : tripR_k0_t1 Variants.none c none i arg3 harg3 arg4 harg4 arg5 harg5 arg6 harg6 v0 v2 (harg4.unread x1) (harg5.unread x2) k a
      = (k0_pay3 (k0_pay26 v0) a.1 k0, k0_pay6 (k0_pay26 v0) a.1 a.2.1 k0, k0_pay7 (k0_pay26 v0) a.1 a.2.2.1 k0 w0,
         k0_pay10 (k0_pay27 v2) a.2.2.2.1 k1,
         k0_pay34 (k0_pay12 (k0_pay27 v2) a.2.2.2.1 k1) (k0_pay13 (k0_pay27 v2) a.2.2.2.1 a.2.2.2.2.1 k1),
         k0_pay35 a.2.2.2.2.2 (k0_pay8 w1) (k0_pay11 (k0_pay27 v2) a.2.2.2.1 k1) (k0_pay12 (k0_pay27 v2) a.2.2.2.1 k1)) := by
    rw [← hk0, ← hw0, ← hk1, ← hw1]
    unfold tripR_k0_t1 trip_k0_t1
    dsimp only
    sl_unfold_words
    simp only [View.readAt_eq_ld, harg4.read_unread, harg5.read_unread]
  rw [hb]
  refine ⟨⟨?_, ?_, ?_⟩, ?_, ?_, ?_⟩
  all_goals
    dsimp only
    unfold_payloads
    pointwise
    simp only [named_scale, neg_inf]
    rfl

theorem trips_t2 (i : grid0.Coords) : Scf.trips (Scalar.addi 0#32 (Scalar.muli (Scalar.divsi (Scalar.subi (BitVec.ofNat 32 (i 2).val) 0#32) 1#32) 1#32))
    (Scalar.addi 0#32 (Scalar.subi (BitVec.ofNat 32 (i 2).val) 0#32)) 1#32 = 0 := by
  have h : ∀ n : Fin 4, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by decide +kernel
  exact h (i 2)

theorem trips_t1 (i : grid0.Coords) : (k0_t1_loop i).trips = (i 2).val := by
  have h : ∀ n : Fin 4, Scf.trips 0#32 (Scalar.addi 0#32 (Scalar.muli (Scalar.divsi (Scalar.subi (BitVec.ofNat 32 n.val) 0#32) 1#32) 1#32)) 1#32 = n.val := by
    decide +kernel
  exact h (i 2)

/-- The left and the right half of a query block: its two heads. -/
abbrev q0 (x0 : Vec Ideal S512x512 .bf16) : Vec Ideal S512x256 .bf16 := View.ld x0 (Rect.unit (s := S512x512) ![0, 0] S512x256.size inb_S512x512_S512x256_0_0)
abbrev q1 (x0 : Vec Ideal S512x512 .bf16) : Vec Ideal S512x256 .bf16 := View.ld x0 (Rect.unit (s := S512x512) ![0, 256] S512x256.size inb_S512x512_S512x256_0_256)

/-- What the loop carries before trip `n`. -/
abbrev state (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole)
    (x0 : Vec Ideal S512x512 .bf16) (x1 : Vec Ideal S2048x512 .bf16) (x2 : Vec Ideal S2048x256 .bf16) (n : ℕ) :=
  st_k0_t1 (F := Ideal) Variants.none c none i arg3 harg3 arg4 harg4 arg5 harg5 arg6 harg6 (q0 x0) (q1 x0) (harg4.unread x1) (harg5.unread x2)
    (k0_pay28 (F := Ideal), k0_pay29 (F := Ideal), k0_pay30 (F := Ideal), k0_pay31 (F := Ideal), k0_pay32 (F := Ideal), k0_pay33 (F := Ideal)) n

theorem out_eq (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole)
    (x0 : Vec Ideal S512x512 .bf16) (x1 : Vec Ideal S2048x512 .bf16) (x2 : Vec Ideal S2048x256 .bf16)
    (a : FVec Ideal S512x1 .f32 × FVec Ideal S512x1 .f32 × FVec Ideal S512x128 .f32 × FVec Ideal S512x1 .f32 × FVec Ideal S512x1 .f32 × FVec Ideal S512x128 .f32)
    (k0 k1 : Vec Ideal S512x256 .bf16) (w0 w1 : Vec Ideal S512x128 .bf16)
    (ha : state c i arg3 harg3 arg4 harg4 arg5 harg5 arg6 harg6 x0 x1 x2 (k0_t1_loop i).trips = a)
    (hk0 : View.ld x1 (Rect.unit (s := S2048x512) (k0_off9 i) S512x256.size (k0_off9_inb i)) = k0)
    (hw0 : View.ld x2 (Rect.unit (s := S2048x256) (k0_off10 i) S512x128.size (k0_off10_inb i)) = w0)
    (hk1 : View.ld x1 (Rect.unit (s := S2048x512) (k0_off11 i) S512x256.size (k0_off11_inb i)) = k1)
    (hw1 : View.ld x2 (Rect.unit (s := S2048x256) (k0_off12 i) S512x128.size (k0_off12_inb i)) = w1) :
    out0_A_3 c i arg3 harg3 arg4 harg4 arg5 harg5 arg6 harg6 x0 x1 x2
      = View.canon [⟨Rect.unit (s := S512x256) ![0, 128] S512x128.size inb_S512x256_S512x128_0_128,
            k0_pay1 (k0_pay45 (k0_pay27 (q1 x0)) a.2.2.2.1 a.2.2.2.2.1 k1) (k0_pay46 (k0_pay27 (q1 x0)) a.2.2.2.1 a.2.2.2.2.2 k1 w1)⟩,
          ⟨Rect.unit (s := S512x256) ![0, 0] S512x128.size inb_S512x256_S512x128_0_0,
            k0_pay47 a.1 a.2.1 a.2.2.1 (k0_pay38 w0) (k0_pay39 (q0 x0) k0) (k0_pay40 (q0 x0) a.1 k0)⟩] := by
  rw [← ha, ← hk0, ← hw0, ← hk1, ← hw1]
  unfold out0_A_3
  rw [View.read_writes_eq_canon _ _ _ (cover0_A_3 c i arg3 harg3 arg4 harg4 arg5 harg5 arg6 harg6 x0 x1 x2)]
  unfold kernelRun0_A
  dsimp only
  sl_unfold_words
  simp only [View.readAt_eq_ld, harg3.read_unread, harg4.read_unread, harg5.read_unread, trips_t2, st_k0_t2_zero]

theorem out_apply (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole)
    (x0 : Vec Ideal S512x512 .bf16) (x1 : Vec Ideal S2048x512 .bf16) (x2 : Vec Ideal S2048x256 .bf16)
    (a : FVec Ideal S512x1 .f32 × FVec Ideal S512x1 .f32 × FVec Ideal S512x128 .f32 × FVec Ideal S512x1 .f32 × FVec Ideal S512x1 .f32 × FVec Ideal S512x128 .f32)
    (k0 k1 : Vec Ideal S512x256 .bf16) (w0 w1 : Vec Ideal S512x128 .bf16)
    (ha : state c i arg3 harg3 arg4 harg4 arg5 harg5 arg6 harg6 x0 x1 x2 (k0_t1_loop i).trips = a)
    (hk0 : View.ld x1 (Rect.unit (s := S2048x512) (k0_off9 i) S512x256.size (k0_off9_inb i)) = k0)
    (hw0 : View.ld x2 (Rect.unit (s := S2048x256) (k0_off10 i) S512x128.size (k0_off10_inb i)) = w0)
    (hk1 : View.ld x1 (Rect.unit (s := S2048x512) (k0_off11 i) S512x256.size (k0_off11_inb i)) = k1)
    (hw1 : View.ld x2 (Rect.unit (s := S2048x256) (k0_off12 i) S512x128.size (k0_off12_inb i)) = w1)
    (r : Fin 512) (d : Fin 128) :
    out0_A_3 c i arg3 harg3 arg4 harg4 arg5 harg5 arg6 harg6 x0 x1 x2 (ix2 r ⟨d.val, by omega⟩)
      = Ideal.div (nextAcc (a.1 (ix2 r 0)) (a.2.2.1 (ix2 r d)) (diagScores (q0 x0) k0 r) (fun j => w0 (ix2 j d)))
          (nextSum (a.1 (ix2 r 0)) (a.2.1 (ix2 r 0)) (diagScores (q0 x0) k0 r))
    ∧ out0_A_3 c i arg3 harg3 arg4 harg4 arg5 harg5 arg6 harg6 x0 x1 x2 (ix2 r ⟨128 + d.val, by omega⟩)
      = Ideal.div (nextAcc (a.2.2.2.1 (ix2 r 0)) (a.2.2.2.2.2 (ix2 r d)) (diagScores (q1 x0) k1 r) (fun j => w1 (ix2 j d)))
          (nextSum (a.2.2.2.1 (ix2 r 0)) (a.2.2.2.2.1 (ix2 r 0)) (diagScores (q1 x0) k1 r)) := by
  rw [out_eq c i arg3 harg3 arg4 harg4 arg5 harg5 arg6 harg6 x0 x1 x2 a k0 k1 w0 w1 ha hk0 hw0 hk1 hw1]
  constructor
  · rw [View.canon_cons_of_not_mem]
    · rw [show (ix2 r (⟨d.val, by omega⟩ : Fin 256) : S512x256.Idx)
          = (Rect.unit (s := S512x256) ![0, 0] S512x128.size inb_S512x256_S512x128_0_0).emb (ix2 r d) from by
        funext a; apply Fin.ext; rw [Rect.emb_apply]; match a with
        | ⟨0, _⟩ => show r.val = 0 + 1 * r.val; omega
        | ⟨1, _⟩ => show d.val = 0 + 1 * d.val; omega, View.canon_cons_emb]
      unfold_payloads
      pointwise
      simp only [named_scale, named_mask, neg_inf, select_le]
      rfl
    · rw [Rect.mem_set_unit]
      intro h
      have := (h 1).1
      have h' : 128 ≤ d.val := this
      omega
  · rw [show (ix2 r (⟨128 + d.val, by omega⟩ : Fin 256) : S512x256.Idx)
          = (Rect.unit (s := S512x256) ![0, 128] S512x128.size inb_S512x256_S512x128_0_128).emb (ix2 r d) from by
        funext a; apply Fin.ext; rw [Rect.emb_apply]; match a with
        | ⟨0, _⟩ => show r.val = 0 + 1 * r.val; omega
        | ⟨1, _⟩ => show 128 + d.val = 128 + 1 * d.val; omega, View.canon_cons_emb]
    unfold_payloads
    pointwise
    simp only [named_scale, named_mask, neg_inf, select_le]
    rfl

end Cert.Proof.Block

end
-- ==== Proof.Cell.lean ====
/-
  A row of a grid point's output block: the weighted mean of the value rows up to the row's own position.
-/
module

public import proofs.«01_k».proof.Proof.Block
public import Idealize.ShloMosaic.Lib.Pipeline.ValueKit.Tiles
public import Mathlib.Algebra.BigOperators.Fin

@[expose] public section

set_option maxRecDepth 16384

noncomputable section

namespace Cert.Proof.Cell

open Cert.KernelIdeal Cert.KernelIdeal.Gen Idealize.ShloMosaic Idealize.ShloMosaic.TcCoe Idealize.SL.Sem
open Idealize.ShloMosaic.Tactic Idealize.ShloMosaic.Pointwise
open Cert.Proof.Weights Cert.Proof.Block

/-- The weight of column `j` for the row at position `p`, from the products `y` of the row with the columns. -/
def weight (p : ℕ) (y : ℕ → ℝ) (j : ℕ) : ℝ := if j ≤ p then Real.rpow 2 (y j * scale) else 0

theorem weight_nonneg (p : ℕ) (y : ℕ → ℝ) (j : ℕ) : 0 ≤ weight p y j := by
  unfold weight
  split
  · exact (two_rpow_pos _).le
  · exact le_refl _

/-- The weighted mean of the values `v`. -/
def mean (w : ℕ → ℝ) (v : ℕ → EReal) : EReal :=
  (((∑ j ∈ Finset.range 2048, w j)⁻¹ : ℝ) : EReal) * ∑ j ∈ Finset.range 2048, (w j : EReal) * v j

theorem step_range {w : ℕ → ℝ} {v : ℕ → EReal} {n : ℕ} {m l a : EReal}
    (h : Carried m l a (∑ j ∈ Finset.range (512 * n), w j) (∑ j ∈ Finset.range (512 * n), (w j : EReal) * v j))
    (s vv : Fin 512 → EReal) (hs : ∀ j, Weighs (s j) (w (512 * n + j.val))) (hv : ∀ j, vv j = v (512 * n + j.val))
    (hr : ∃ j, s j ≠ ⊥) :
    Carried (nextMax m s) (nextSum m l s) (nextAcc m a s vv)
      (∑ j ∈ Finset.range (512 * (n + 1)), w j) (∑ j ∈ Finset.range (512 * (n + 1)), (w j : EReal) * v j) := by
  have := h.step s vv (fun j => w (512 * n + j.val)) hs hr
  rw [show 512 * (n + 1) = 512 * n + 512 by ring, Finset.sum_range_add, Finset.sum_range_add,
    ← Fin.sum_univ_eq_sum_range (fun x => w (512 * n + x)) 512,
    ← Fin.sum_univ_eq_sum_range (fun x => (w (512 * n + x) : EReal) * v (512 * n + x)) 512]
  rw [show (∑ j : Fin 512, (w (512 * n + j.val) : EReal) * v (512 * n + j.val))
      = ∑ j : Fin 512, (w (512 * n + j.val) : EReal) * vv j from
    Finset.sum_congr rfl fun j _ => by rw [hv j]]
  exact this

theorem head_row (q : ℕ) (hq : q < 4) (r : Fin 512) (y : ℕ → ℝ) (v : ℕ → EReal) (M L A : ℕ → EReal)
    (hM : M 0 = ⊥) (hL : L 0 = 0) (hA : A 0 = 0)
    (hstep : ∀ n < q, ∃ s vv : Fin 512 → EReal,
      (∀ j, s j = ((y (512 * n + j.val) * scale : ℝ) : EReal)) ∧ (∀ j, vv j = v (512 * n + j.val)) ∧
      M (n + 1) = nextMax (M n) s ∧ L (n + 1) = nextSum (M n) (L n) s ∧ A (n + 1) = nextAcc (M n) (A n) s vv)
    (sd vd : Fin 512 → EReal) (hsd : ∀ j, sd j = if j.val ≤ r.val then ((y (512 * q + j.val) * scale : ℝ) : EReal) else ⊥)
    (hvd : ∀ j, vd j = v (512 * q + j.val)) :
    Ideal.div (nextAcc (M q) (A q) sd vd) (nextSum (M q) (L q) sd) = mean (weight (512 * q + r.val) y) v := by
  have inv : ∀ n ≤ q, Carried (M n) (L n) (A n) (∑ j ∈ Finset.range (512 * n), weight (512 * q + r.val) y j)
      (∑ j ∈ Finset.range (512 * n), (weight (512 * q + r.val) y j : EReal) * v j) := by
    intro n
    induction n with
    | zero => intro _; rw [hM, hL, hA]; simpa using Carried.start
    | succ n ih =>
      intro hn
      obtain ⟨s, vv, hs, hv, h1, h2, h3⟩ := hstep n hn
      rw [h1, h2, h3]
      refine step_range (ih (by omega)) s vv (fun j => Or.inr ⟨_, hs j, ?_⟩) hv ⟨0, ?_⟩
      · unfold weight; rw [if_pos (by omega)]
      · rw [hs]; exact EReal.coe_ne_bot _
  have last := step_range (inv q le_rfl) sd vd (fun j => ?_) hvd ⟨0, ?_⟩
  · have hsub : Finset.range (512 * (q + 1)) ⊆ Finset.range 2048 := Finset.range_subset_range.2 (by omega)
    have hz : ∀ j ∈ Finset.range 2048, j ∉ Finset.range (512 * (q + 1)) → weight (512 * q + r.val) y j = 0 := by
      intro j _ hj
      rw [Finset.mem_range, not_lt] at hj
      unfold weight
      rw [if_neg (by omega)]
    rw [Finset.sum_subset hsub hz, Finset.sum_subset hsub (fun j hj hj' => by rw [hz j hj hj']; simp)] at last
    refine last.quotient (Finset.sum_pos' (fun j _ => weight_nonneg _ _ _) ⟨0, by simp, ?_⟩)
    unfold weight
    rw [if_pos (by omega)]
    exact two_rpow_pos _
  · unfold Weighs weight
    rw [hsd]
    by_cases hj : j.val ≤ r.val
    · rw [if_pos hj, if_pos (by omega)]; exact Or.inr ⟨_, rfl, rfl⟩
    · rw [if_neg hj, if_neg (by omega)]; exact Or.inl ⟨rfl, rfl⟩
  · rw [hsd, if_pos (show (0 : Fin 512).val ≤ r.val from Nat.zero_le _)]; exact EReal.coe_ne_bot _

theorem offs (k : ℕ) (hk : k < 4) : (BitVec.toNat (Scalar.indexCast (Scalar.muli (Scf.iv 0#32 1#32 k) 512#32))) = 512 * k := by
  have h : ∀ k : Fin 4, (BitVec.toNat (Scalar.indexCast (Scalar.muli (Scf.iv 0#32 1#32 k.val) 512#32))) = 512 * k.val := by decide +kernel
  exact h ⟨k, hk⟩

theorem offs_diag (k : ℕ) (hk : k < 4) : (BitVec.toNat (Scalar.indexCast (Scalar.muli (BitVec.ofNat 32 k) 512#32))) = 512 * k := by
  have h : ∀ k : Fin 4, (BitVec.toNat (Scalar.indexCast (Scalar.muli (BitVec.ofNat 32 k.val) 512#32))) = 512 * k.val := by decide +kernel
  exact h ⟨k, hk⟩

theorem scores_eq (q kb : Vec Ideal S512x256 .bf16) (r j : Fin 512) (y : ℝ)
    (h : ∑ k : Fin 256, (q (ix2 r k) : EReal) * (kb (ix2 j k) : EReal) = (y : EReal)) : scores q kb r j = ((y * scale : ℝ) : EReal) := by
  unfold scores
  rw [h, EReal.coe_mul]

/-- Both heads of a row of the output block. -/
theorem out_row (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole)
    (x0 : Vec Ideal S512x512 .bf16) (x1 : Vec Ideal S2048x512 .bf16) (x2 : Vec Ideal S2048x256 .bf16)
    (r : Fin 512) (d : Fin 128) (y0 y1 : ℕ → ℝ) (v0 v1 : ℕ → EReal)
    (hy0 : ∀ (j : ℕ) (h : j < 2048), ∑ k : Fin 256, (x0 (ix2 r ⟨k.val, by omega⟩) : EReal) * (x1 (ix2 ⟨j, h⟩ ⟨k.val, by omega⟩) : EReal) = (y0 j : EReal))
    (hy1 : ∀ (j : ℕ) (h : j < 2048), ∑ k : Fin 256, (x0 (ix2 r ⟨256 + k.val, by omega⟩) : EReal) * (x1 (ix2 ⟨j, h⟩ ⟨256 + k.val, by omega⟩) : EReal) = (y1 j : EReal))
    (hv0 : ∀ (j : ℕ) (h : j < 2048), v0 j = x2 (ix2 ⟨j, h⟩ ⟨d.val, by omega⟩))
    (hv1 : ∀ (j : ℕ) (h : j < 2048), v1 j = x2 (ix2 ⟨j, h⟩ ⟨128 + d.val, by omega⟩)) :
    out0_A_3 c i arg3 harg3 arg4 harg4 arg5 harg5 arg6 harg6 x0 x1 x2 (ix2 r ⟨d.val, by omega⟩)
        = mean (weight (512 * (i 2).val + r.val) y0) v0
    ∧ out0_A_3 c i arg3 harg3 arg4 harg4 arg5 harg5 arg6 harg6 x0 x1 x2 (ix2 r ⟨128 + d.val, by omega⟩)
        = mean (weight (512 * (i 2).val + r.val) y1) v1 := by
  have hi : (i 2).val < 4 := (i 2).isLt
  have hq0 : ∀ k : Fin 256, q0 x0 (ix2 r k) = x0 (ix2 r ⟨k.val, by omega⟩) := fun k => by
    refine View.ld_unit_apply_of _ _ _ _ _ _ fun a => ?_
    match a with
    | ⟨0, _⟩ => show r.val = 0 + r.val; omega
    | ⟨1, _⟩ => show k.val = 0 + k.val; omega
  have hq1 : ∀ k : Fin 256, q1 x0 (ix2 r k) = x0 (ix2 r ⟨256 + k.val, by omega⟩) := fun k => by
    refine View.ld_unit_apply_of _ _ _ _ _ _ fun a => ?_
    match a with
    | ⟨0, _⟩ => show r.val = 0 + r.val; omega
    | ⟨1, _⟩ => show 256 + k.val = 256 + k.val; rfl
  have hs0 : ∀ (n : ℕ) (hn : n < 4) (off : Fin 2 → ℕ) (inb) (h0 : off 0 = 512 * n) (h1 : off 1 = 0) (j : Fin 512),
      scores (q0 x0) (View.ld x1 (Rect.unit (s := S2048x512) off S512x256.size inb)) r j
        = ((y0 (512 * n + j.val) * scale : ℝ) : EReal) := fun n hn off inb h0 h1 j => by
    refine scores_eq _ _ _ _ _ (Eq.trans (Finset.sum_congr rfl fun k _ => ?_) (hy0 (512 * n + j.val) (by omega)))
    rw [hq0 k]
    congr 1
    refine View.ld_unit_apply_of _ _ _ _ _ _ fun a => ?_
    match a with
    | ⟨0, _⟩ => show 512 * n + j.val = off 0 + j.val; rw [h0]
    | ⟨1, _⟩ => show k.val = off 1 + k.val; rw [h1]; omega
  have hs1 : ∀ (n : ℕ) (hn : n < 4) (off : Fin 2 → ℕ) (inb) (h0 : off 0 = 512 * n) (h1 : off 1 = 256) (j : Fin 512),
      scores (q1 x0) (View.ld x1 (Rect.unit (s := S2048x512) off S512x256.size inb)) r j
        = ((y1 (512 * n + j.val) * scale : ℝ) : EReal) := fun n hn off inb h0 h1 j => by
    refine scores_eq _ _ _ _ _ (Eq.trans (Finset.sum_congr rfl fun k _ => ?_) (hy1 (512 * n + j.val) (by omega)))
    rw [hq1 k]
    congr 1
    refine View.ld_unit_apply_of _ _ _ _ _ _ fun a => ?_
    match a with
    | ⟨0, _⟩ => show 512 * n + j.val = off 0 + j.val; rw [h0]
    | ⟨1, _⟩ => show 256 + k.val = off 1 + k.val; rw [h1]
  have hw0 : ∀ (n : ℕ) (hn : n < 4) (off : Fin 2 → ℕ) (inb) (h0 : off 0 = 512 * n) (h1 : off 1 = 0) (j : Fin 512),
      View.ld x2 (Rect.unit (s := S2048x256) off S512x128.size inb) (ix2 j d) = v0 (512 * n + j.val) := fun n hn off inb h0 h1 j => by
    rw [hv0 _ (by omega : 512 * n + j.val < 2048)]
    refine View.ld_unit_apply_of _ _ _ _ _ _ fun a => ?_
    match a with
    | ⟨0, _⟩ => show 512 * n + j.val = off 0 + j.val; rw [h0]
    | ⟨1, _⟩ => show d.val = off 1 + d.val; rw [h1]; omega
  have hw1 : ∀ (n : ℕ) (hn : n < 4) (off : Fin 2 → ℕ) (inb) (h0 : off 0 = 512 * n) (h1 : off 1 = 128) (j : Fin 512),
      View.ld x2 (Rect.unit (s := S2048x256) off S512x128.size inb) (ix2 j d) = v1 (512 * n + j.val) := fun n hn off inb h0 h1 j => by
    rw [hv1 _ (by omega : 512 * n + j.val < 2048)]
    refine View.ld_unit_apply_of _ _ _ _ _ _ fun a => ?_
    match a with
    | ⟨0, _⟩ => show 512 * n + j.val = off 0 + j.val; rw [h0]
    | ⟨1, _⟩ => show 128 + d.val = off 1 + d.val; rw [h1]
  have hsucc : ∀ n (hn : n < (i 2).val), ∃ k : Fin (k0_t1_loop i).trips, k.val = n := fun n hn => ⟨⟨n, by rw [trips_t1]; exact hn⟩, rfl⟩
  have hout := out_apply c i arg3 harg3 arg4 harg4 arg5 harg5 arg6 harg6 x0 x1 x2 _ _ _ _ _ rfl rfl rfl rfl rfl r d
  rw [hout.1, hout.2, trips_t1]
  refine ⟨head_row (i 2).val hi r y0 v0
      (fun n => (state c i arg3 harg3 arg4 harg4 arg5 harg5 arg6 harg6 x0 x1 x2 n).1 (ix2 r 0))
      (fun n => (state c i arg3 harg3 arg4 harg4 arg5 harg5 arg6 harg6 x0 x1 x2 n).2.1 (ix2 r 0))
      (fun n => (state c i arg3 harg3 arg4 harg4 arg5 harg5 arg6 harg6 x0 x1 x2 n).2.2.1 (ix2 r d))
      ?_ ?_ ?_ ?_ _ _ ?_ ?_,
    head_row (i 2).val hi r y1 v1
      (fun n => (state c i arg3 harg3 arg4 harg4 arg5 harg5 arg6 harg6 x0 x1 x2 n).2.2.2.1 (ix2 r 0))
      (fun n => (state c i arg3 harg3 arg4 harg4 arg5 harg5 arg6 harg6 x0 x1 x2 n).2.2.2.2.1 (ix2 r 0))
      (fun n => (state c i arg3 harg3 arg4 harg4 arg5 harg5 arg6 harg6 x0 x1 x2 n).2.2.2.2.2 (ix2 r d))
      ?_ ?_ ?_ ?_ _ _ ?_ ?_⟩
  · show k0_pay28 (F := Ideal) (ix2 r 0) = ⊥
    unfold_payloads; pointwise; exact neg_inf
  · show k0_pay29 (F := Ideal) (ix2 r 0) = 0
    unfold_payloads; pointwise
  · show k0_pay30 (F := Ideal) (ix2 r d) = 0
    unfold_payloads; pointwise
  · intro n hn
    obtain ⟨k, rfl⟩ := hsucc n hn
    have t := (trip_t1 c i arg3 harg3 arg4 harg4 arg5 harg5 arg6 harg6 x1 x2 (q0 x0) (q1 x0) k
      (state c i arg3 harg3 arg4 harg4 arg5 harg5 arg6 harg6 x0 x1 x2 k.val) _ _ _ _ rfl rfl rfl rfl r d).1
    rw [← st_k0_t1_succ] at t
    exact ⟨_, _, hs0 k.val (by omega) _ _ (offs _ (by omega)) rfl, hw0 k.val (by omega) _ _ (offs _ (by omega)) rfl, t.1, t.2.1, t.2.2⟩
  · intro j
    unfold diagScores
    rw [hs0 (i 2).val hi _ _ (offs_diag _ hi) rfl]
  · exact hw0 (i 2).val hi _ _ (offs_diag _ hi) rfl
  · show k0_pay31 (F := Ideal) (ix2 r 0) = ⊥
    unfold_payloads; pointwise; exact neg_inf
  · show k0_pay32 (F := Ideal) (ix2 r 0) = 0
    unfold_payloads; pointwise
  · show k0_pay33 (F := Ideal) (ix2 r d) = 0
    unfold_payloads; pointwise
  · intro n hn
    obtain ⟨k, rfl⟩ := hsucc n hn
    have t := (trip_t1 c i arg3 harg3 arg4 harg4 arg5 harg5 arg6 harg6 x1 x2 (q0 x0) (q1 x0) k
      (state c i arg3 harg3 arg4 harg4 arg5 harg5 arg6 harg6 x0 x1 x2 k.val) _ _ _ _ rfl rfl rfl rfl r d).2
    rw [← st_k0_t1_succ] at t
    exact ⟨_, _, hs1 k.val (by omega) _ _ (offs _ (by omega)) rfl, hw1 k.val (by omega) _ _ (offs _ (by omega)) rfl, t.1, t.2.1, t.2.2⟩
  · intro j
    unfold diagScores
    rw [hs1 (i 2).val hi _ _ (offs_diag _ hi) rfl]
  · exact hw1 (i 2).val hi _ _ (offs_diag _ hi) rfl

end Cert.Proof.Cell

end
-- ==== Proof.Staged.lean ====
/-
  What the prepared arrays and their blocks hold.

  The queries and the keys are packed head by head into 256 lanes: 128 lanes of the position-free part, 64 of the rotated part, 64 zeros.
  A grid point `t` stands for the batch element `t / 32`, the pair of heads `t / 4 % 8` and the tile of 512 queries `t % 4`.
-/
module

public import proofs.«01_k».proof.Proof.Cell
public import proofs.«01_k».proof.Proof.Gen.KernelIdeal.Value
public import Idealize.ShloMosaic.Lib.StableHlo.ReadAt
public import Idealize.ShloMosaic.Lib.Pipeline.ValueKit

@[expose] public section

set_option maxRecDepth 16384

noncomputable section

namespace Cert.Proof.Staged

open Cert.KernelIdeal Cert.KernelIdeal.Gen Cert.KernelIdeal.Value
open Idealize.ShloMosaic Idealize.ShloMosaic.TcCoe Idealize.SL.Sem
open Idealize.ShloMosaic.Tactic Idealize.ShloMosaic.Pointwise

variable [Cert.KernelIdeal.Facts]

/-- Lane `k` of a packed row: the position-free part, the rotated part, then zeros. -/
def lane (a : Fin 128 → EReal) (b : Fin 64 → EReal) (k : Fin 256) : EReal :=
  if h : k.val < 128 then a ⟨k.val, h⟩ else if h : k.val - 128 < 64 then b ⟨k.val - 128, h⟩ else 0

variable (m : (ℓ : Loc nD τ sig) → Buf (Elt Ideal) ℓ) (c : Dev nD)

theorem queries (b : Fin 4) (t : Fin 2048) (h : Fin 16) (k : Fin 256) :
    (V m c main_v5 (ix2 ⟨2048 * b.val + t.val, by omega⟩ ⟨256 * h.val + k.val, by omega⟩) : EReal)
    = lane (fun k => m (c, Proc.tc.devRef main_arg0) (ix4 b t h k)) (fun k => m (c, Proc.tc.devRef main_arg1) (ix4 b t h k)) k := by
  unfold V; after_reads_at; after_reads_simp; pointwise
  have e1 : (2048 * b.val + t.val) / 2048 = b.val := by omega
  have e2 : (2048 * b.val + t.val) % 2048 = t.val := by omega
  have e3 : (256 * h.val + k.val) / 256 = h.val := by omega
  have e4 : (256 * h.val + k.val) % 256 = k.val := by omega
  simp only [e1, e2, e3, e4, lane]

theorem keys (b : Fin 4) (t : Fin 2048) (h : Fin 16) (k : Fin 256) :
    (V m c main_v8 (ix2 ⟨2048 * b.val + t.val, by omega⟩ ⟨256 * h.val + k.val, by omega⟩) : EReal)
    = lane (fun k => m (c, Proc.tc.devRef main_arg2) (ix4 b t h k)) (fun k => m (c, Proc.tc.devRef main_arg3) (ix3 b t k)) k := by
  unfold V; after_reads_at; after_reads_simp; pointwise
  have e1 : (2048 * b.val + t.val) / 2048 = b.val := by omega
  have e2 : (2048 * b.val + t.val) % 2048 = t.val := by omega
  have e3 : (256 * h.val + k.val) / 256 = h.val := by omega
  have e4 : (256 * h.val + k.val) % 256 = k.val := by omega
  simp only [e1, e2, e3, e4, lane]

theorem values (b : Fin 4) (t : Fin 2048) (h : Fin 16) (k : Fin 128) :
    (V m c main_v10 (ix2 ⟨2048 * b.val + t.val, by omega⟩ ⟨128 * h.val + k.val, by omega⟩) : EReal)
    = m (c, Proc.tc.devRef main_arg4) (ix4 b t h k) := by
  unfold V; after_reads_at
  have e1 : (2048 * b.val + t.val) / 2048 = b.val := by omega
  have e2 : (2048 * b.val + t.val) % 2048 = t.val := by omega
  have e3 : (128 * h.val + k.val) / 128 = h.val := by omega
  have e4 : (128 * h.val + k.val) % 128 = k.val := by omega
  simp only [e1, e2, e3, e4]

theorem lt_grid (t : Fin cfg0.N) : t.val < 128 := lt_of_lt_of_eq t.isLt Gen.N_0

theorem idx0 : ∀ t : Fin grid0.N, win0_0.index t = ![4 * (t.val / 32) + t.val % 4, t.val / 4 % 8] := by decide +kernel
theorem idx1 : ∀ t : Fin grid0.N, win0_1.index t = ![t.val / 32, t.val / 4 % 8] := by decide +kernel
theorem idx2 : ∀ t : Fin grid0.N, win0_2.index t = ![t.val / 32, t.val / 4 % 8] := by decide +kernel
theorem idx3 : ∀ t : Fin grid0.N, win0_3.index t = ![4 * (t.val / 32) + t.val % 4, t.val / 4 % 8] := by decide +kernel
theorem coord2 : ∀ t : Fin grid0.N, (grid0.coords t 2).val = t.val % 4 := by decide +kernel

theorem block0 (t : Fin cfg0.N) (r k : Fin 512) :
    iblk m c 0 t (ix2 r k) = V m c main_v5 (ix2 ⟨512 * (4 * (t.val / 32) + t.val % 4) + r.val, by have := lt_grid t; omega⟩
      ⟨512 * (t.val / 4 % 8) + k.val, by omega⟩) := by
  blk_ext [iblk, idx0 t]

theorem block1 (t : Fin cfg0.N) (r : Fin 2048) (k : Fin 512) :
    iblk m c 1 t (ix2 r k) = V m c main_v8 (ix2 ⟨2048 * (t.val / 32) + r.val, by have := lt_grid t; omega⟩
      ⟨512 * (t.val / 4 % 8) + k.val, by omega⟩) := by
  blk_ext [iblk, idx1 t]

theorem block2 (t : Fin cfg0.N) (r : Fin 2048) (k : Fin 256) :
    iblk m c 2 t (ix2 r k) = V m c main_v10 (ix2 ⟨2048 * (t.val / 32) + r.val, by have := lt_grid t; omega⟩
      ⟨256 * (t.val / 4 % 8) + k.val, by omega⟩) := by
  blk_ext [iblk, idx2 t]

end Cert.Proof.Staged

end
-- ==== Proof.Reference.lean ====
/-
  The reference at an index: a softmax over the keys up to the query's own position, then the mean of the values.
-/
module

public import proofs.«01_k».proof.Proof.Cell
public import proofs.«01_k».proof.Proof.Gen.ReferenceIdeal.Read
public import Idealize.ShloMosaic.Lib.WordCmp

@[expose] public section

set_option maxRecDepth 16384

noncomputable section

namespace Cert.Proof.Reference

open Cert.ReferenceIdeal Cert.ReferenceIdeal.Gen Cert.ReferenceIdeal.Read
open Idealize.ShloMosaic Idealize.ShloMosaic.TcCoe Idealize.SL.Sem
open Idealize.ShloMosaic.Tactic Idealize.ShloMosaic.Pointwise
open Cert.Proof.Weights Cert.Proof.Cell

variable (x0 : FVec Ideal S4x2048x16x128 .f32) (x1 : FVec Ideal S4x2048x16x64 .f32) (x2 : FVec Ideal S4x2048x16x128 .f32)
    (x3 : FVec Ideal S4x2048x64 .f32) (x4 : FVec Ideal S4x2048x16x128 .f32)

/-- The product of the query at position `p` with the key at position `j`: the position-free lanes and the rotated lanes. -/
def logit (b : Fin 4) (h : Fin 16) (p j : Fin 2048) : EReal :=
  (∑ k : Fin 128, (x0 (ix4 b p h k) : EReal) * x2 (ix4 b j h k)) + ∑ k : Fin 64, (x1 (ix4 b p h k) : EReal) * x3 (ix3 b j k)

theorem logit_eq (b : Fin 4) (h : Fin 16) (p j : Fin 2048) :
    (val_main_v4 (F := Ideal) x0 x1 x2 x3 (ix4 b h p j) : EReal) = logit x0 x1 x2 x3 b h p j := by
  unfold val_main_v4 val_main_v3 val_main_v2 val_main_v1 logit
  pointwise
  congr 1
  exact Finset.sum_congr rfl fun k _ => mul_comm _ _

theorem rsqrt_192 : Ideal.rsqrt (Ideal.ofBits .f32 0x43400000#32) = (((Real.sqrt 192)⁻¹ : ℝ) : EReal) := by
  have h : Ideal.ofBits .f32 0x43400000#32 = ((192 : ℝ) : EReal) := by
    simp [Ideal.ofBits, Ideal.ieee, -EReal.coe_mul]; norm_num
  rw [h, Ideal.rsqrt_coe]
  norm_num

theorem select_le (j p : Fin 2048) (x y : EReal) :
    Scalar.select (IntOp.cmpi CmpIPredicate.sle (BitVec.ofNat 32 j.val) (BitVec.ofNat 32 p.val)) x y
      = if j.val ≤ p.val then x else y := by
  word_cmp

theorem masked (b : Fin 4) (h : Fin 16) (p j : Fin 2048) :
    (val_main_v13 (F := Ideal) x0 x1 x2 x3 (ix4 b h p j) : EReal)
    = if j.val ≤ p.val then logit x0 x1 x2 x3 b h p j * (((Real.sqrt 192)⁻¹ : ℝ) : EReal) else ⊥ := by
  rw [← logit_eq, ← rsqrt_192, ← Cert.Proof.Block.neg_inf]
  unfold val_main_v13 val_main_call0_v1 val_main_call0_v2 val_main_v12 val_main_v11 val_main_v10 val_main_v9 val_main_v8 val_main_v7 val_main_v6 val_main_v5 val_main_cst val_main_v0 val_main_call0_v0 val_main_cst_0
  pointwise
  exact select_le _ _ _ _

theorem top (b : Fin 4) (h : Fin 16) (p : Fin 2048) :
    (val_main_v16 (F := Ideal) x0 x1 x2 x3 (ix3 b h p) : EReal)
    = max ⊥ (Finset.univ.fold max ⊥ fun j : Fin 2048 => (val_main_v13 (F := Ideal) x0 x1 x2 x3 (ix4 b h p j) : EReal)) := by
  have h15 : (val_main_v15 (F := Ideal) (ix3 b h p) : EReal) = Ideal.ofBits .f32 0xFF800000#32 := rfl
  have h14 : (val_main_v14 (F := Ideal) x0 x1 x2 x3 (ix3 b h p) : EReal)
      = Finset.univ.fold max (Ideal.ofBits .f32 0xFF800000#32) fun j : Fin 2048 => (val_main_v13 (F := Ideal) x0 x1 x2 x3 (ix4 b h p j) : EReal) := by
    unfold val_main_v14 val_main_cst_1
    pointwise
  rw [val_main_v16_apply]
  show max (val_main_v15 (F := Ideal) (ix3 b h p) : EReal) (val_main_v14 (F := Ideal) x0 x1 x2 x3 (ix3 b h p)) = _
  rw [h15, h14, Cert.Proof.Block.neg_inf]

theorem power (b : Fin 4) (h : Fin 16) (p j : Fin 2048) :
    (val_main_v20 (F := Ideal) x0 x1 x2 x3 (ix4 b h p j) : EReal)
    = Ideal.exp (val_main_v13 (F := Ideal) x0 x1 x2 x3 (ix4 b h p j) - val_main_v16 (F := Ideal) x0 x1 x2 x3 (ix3 b h p)) := by
  unfold val_main_v20 val_main_v19 val_main_v18 val_main_v17
  pointwise

theorem quotient (b : Fin 4) (h : Fin 16) (p j : Fin 2048) :
    (val_main_v24 (F := Ideal) x0 x1 x2 x3 (ix4 b h p j) : EReal)
    = Ideal.div (val_main_v20 (F := Ideal) x0 x1 x2 x3 (ix4 b h p j)) (0 + ∑ k : Fin 2048, (val_main_v20 (F := Ideal) x0 x1 x2 x3 (ix4 b h p k) : EReal)) := by
  rw [zero_add]
  unfold val_main_v24 val_main_v23 val_main_v22 val_main_v21 val_main_cst_3
  pointwise

theorem combined (b : Fin 4) (h : Fin 16) (p : Fin 2048) (d : Fin 128) :
    (val_main_v28 (F := Ideal) x0 x1 x2 x3 x4 (ix2 ⟨2048 * b.val + p.val, by omega⟩ ⟨128 * h.val + d.val, by omega⟩) : EReal)
    = ∑ j : Fin 2048, (x4 (ix4 b j h d) : EReal) * val_main_v24 (F := Ideal) x0 x1 x2 x3 (ix4 b h p j) := by
  unfold val_main_v28 val_main_v27 val_main_v26 val_main_v25
  pointwise

/-- With real products `y`, the weight of a masked and scaled score is the one the kernel works with: `2 ^ (y · scale) = exp (y / √192)`. -/
theorem weighs (p : ℕ) (y : ℕ → ℝ) (j : ℕ) :
    WeighsE (if j ≤ p then ((y j : ℝ) : EReal) * (((Real.sqrt 192)⁻¹ : ℝ) : EReal) else ⊥) (weight p y j) := by
  unfold weight
  split
  · refine Or.inr ⟨y j * (Real.sqrt 192)⁻¹, by rw [EReal.coe_mul], ?_⟩
    have hl : Real.log 2 ≠ 0 := (Real.log_pos one_lt_two).ne'
    show (2 : ℝ) ^ (y j * Cert.Proof.Block.scale) = _
    rw [Real.rpow_def_of_pos two_pos, Cert.Proof.Block.scale]
    congr 1
    field_simp
  · exact Or.inl ⟨rfl, rfl⟩

/-- The reference at a row and a column: the weighted mean of the values up to the row's position. -/
theorem result (b : Fin 4) (h : Fin 16) (p : Fin 2048) (d : Fin 128) (y : ℕ → ℝ) (v : ℕ → EReal)
    (hy : ∀ j : Fin 2048, logit x0 x1 x2 x3 b h p j = (y j.val : EReal)) (hv : ∀ j : Fin 2048, v j.val = x4 (ix4 b j h d)) :
    (val_main_v28 (F := Ideal) x0 x1 x2 x3 x4 (ix2 ⟨2048 * b.val + p.val, by omega⟩ ⟨128 * h.val + d.val, by omega⟩) : EReal)
    = mean (weight p.val y) v := by
  have hs : ∀ j : Fin 2048, WeighsE (val_main_v13 (F := Ideal) x0 x1 x2 x3 (ix4 b h p j)) (weight p.val y j.val) := by
    intro j
    rw [masked, hy]
    exact weighs _ _ _
  have hr : ∃ j : Fin 2048, (val_main_v13 (F := Ideal) x0 x1 x2 x3 (ix4 b h p j) : EReal) ≠ ⊥ := by
    refine ⟨p, ?_⟩
    rw [masked, hy, if_pos (le_refl _), ← EReal.coe_mul]
    exact EReal.coe_ne_bot _
  have hW : 0 < ∑ j : Fin 2048, weight p.val y j.val := by
    refine Finset.sum_pos' (fun j _ => weight_nonneg _ _ _) ⟨p, Finset.mem_univ _, ?_⟩
    unfold weight
    rw [if_pos (le_refl _)]
    exact two_rpow_pos _
  have := softmax_row (fun j => (val_main_v13 (F := Ideal) x0 x1 x2 x3 (ix4 b h p j) : EReal)) (fun j => x4 (ix4 b j h d)) _ hs hr hW
  rw [combined]
  simp only [quotient, power, top]
  rw [this, mean, Finset.sum_range, Finset.sum_range]
  simp only [hv]

end Cert.Proof.Reference

end
-- ==== Proof.Array.lean ====
/-
  The kernel's result array is the reference's result of the same arguments, where the queries and the keys are real.
-/
module

public import proofs.«01_k».proof.Proof.Staged
public import proofs.«01_k».proof.Proof.Reference

@[expose] public section

set_option maxRecDepth 16384

noncomputable section

namespace Cert.Proof.Array

open Cert.KernelIdeal Cert.KernelIdeal.Gen Cert.KernelIdeal.Value
open Idealize.ShloMosaic Idealize.ShloMosaic.TcCoe Idealize.SL.Sem
open Idealize.ShloMosaic.Tactic Idealize.ShloMosaic.Pointwise
open Cert.Proof.Weights Cert.Proof.Cell Cert.Proof.Staged Cert.Proof.Reference

/-- The product of two packed rows is the product of their parts: the zeros add nothing. -/
theorem lane_sum (a a' : Fin 128 → EReal) (b b' : Fin 64 → EReal) :
    ∑ k : Fin 256, lane a b k * lane a' b' k = (∑ k : Fin 128, a k * a' k) + ∑ k : Fin 64, b k * b' k := by
  have h1 := Fin.sum_univ_add (M := EReal) (a := 128) (b := 128) fun k : Fin 256 => lane a b k * lane a' b' k
  have h2 := Fin.sum_univ_add (M := EReal) (a := 64) (b := 64) fun k : Fin 128 => lane a b (Fin.natAdd 128 k) * lane a' b' (Fin.natAdd 128 k)
  refine h1.trans ?_
  refine congrArg₂ (· + ·) ?_ ?_
  · refine Finset.sum_congr rfl fun k _ => ?_
    simp only [lane, Fin.val_castAdd, k.isLt, dif_pos]
  · refine h2.trans ?_
    rw [Finset.sum_eq_zero (s := Finset.univ) (f := fun i : Fin 64 => lane a b (Fin.natAdd 128 (Fin.natAdd 64 i)) * lane a' b' (Fin.natAdd 128 (Fin.natAdd 64 i))), add_zero]
    · refine Finset.sum_congr rfl fun k _ => ?_
      have hk : ¬ 128 + k.val < 128 := by omega
      have hk' : 128 + k.val - 128 = k.val := by omega
      simp only [lane, Fin.val_natAdd, Fin.val_castAdd, hk, dif_neg, not_false_iff, hk', k.isLt, dif_pos]
    · intro k _
      have hk : ¬ 128 + (64 + k.val) < 128 := by omega
      have hk' : ¬ 128 + (64 + k.val) - 128 < 64 := by omega
      simp only [lane, Fin.val_natAdd, hk, hk', dif_neg, not_false_iff, mul_zero]

variable (m : (ℓ : Loc nD τ sig) → Buf (Elt Ideal) ℓ) (c : Dev nD)

abbrev a0 : FVec Ideal S4x2048x16x128 .f32 := m (c, Proc.tc.devRef main_arg0)
abbrev a1 : FVec Ideal S4x2048x16x64 .f32 := m (c, Proc.tc.devRef main_arg1)
abbrev a2 : FVec Ideal S4x2048x16x128 .f32 := m (c, Proc.tc.devRef main_arg2)
abbrev a3 : FVec Ideal S4x2048x64 .f32 := m (c, Proc.tc.devRef main_arg3)
abbrev a4 : FVec Ideal S4x2048x16x128 .f32 := m (c, Proc.tc.devRef main_arg4)

theorem queries_at (b : Fin 4) (t : Fin 2048) (h : Fin 16) (k : Fin 256) (R : Fin 8192) (C : Fin 4096)
    (hR : R.val = 2048 * b.val + t.val) (hC : C.val = 256 * h.val + k.val) :
    (V m c main_v5 (ix2 R C) : EReal) = lane (fun k => a0 m c (ix4 b t h k)) (fun k => a1 m c (ix4 b t h k)) k := by
  refine Eq.trans ?_ (queries m c b t h k)
  congr 2 <;> exact Fin.ext (by assumption)

theorem keys_at (b : Fin 4) (t : Fin 2048) (h : Fin 16) (k : Fin 256) (R : Fin 8192) (C : Fin 4096)
    (hR : R.val = 2048 * b.val + t.val) (hC : C.val = 256 * h.val + k.val) :
    (V m c main_v8 (ix2 R C) : EReal) = lane (fun k => a2 m c (ix4 b t h k)) (fun k => a3 m c (ix3 b t k)) k := by
  refine Eq.trans ?_ (keys m c b t h k)
  congr 2 <;> exact Fin.ext (by assumption)

theorem values_at (b : Fin 4) (t : Fin 2048) (h : Fin 16) (k : Fin 128) (R : Fin 8192) (C : Fin 2048)
    (hR : R.val = 2048 * b.val + t.val) (hC : C.val = 128 * h.val + k.val) :
    (V m c main_v10 (ix2 R C) : EReal) = a4 m c (ix4 b t h k) := by
  refine Eq.trans ?_ (values m c b t h k)
  congr 2 <;> exact Fin.ext (by assumption)

/-- The products of one query with the keys, as real numbers. -/
def products (b : Fin 4) (h : Fin 16) (p : Fin 2048) (j : ℕ) : ℝ :=
  if hj : j < 2048 then (logit (a0 m c) (a1 m c) (a2 m c) (a3 m c) b h p ⟨j, hj⟩).toReal else 0

/-- The values of one head's lane. -/
def column (b : Fin 4) (h : Fin 16) (d : Fin 128) (j : ℕ) : EReal :=
  if hj : j < 2048 then a4 m c (ix4 b ⟨j, hj⟩ h d) else 0

/-- The queries and the keys are real numbers. -/
def Real : Prop := (∀ i, ∃ r : ℝ, (a0 m c i : EReal) = (r : EReal)) ∧ (∀ i, ∃ r : ℝ, (a1 m c i : EReal) = (r : EReal))
    ∧ (∀ i, ∃ r : ℝ, (a2 m c i : EReal) = (r : EReal)) ∧ (∀ i, ∃ r : ℝ, (a3 m c i : EReal) = (r : EReal))

/-- A sum of products of real numbers is a real number. -/
theorem real_dot {n : ℕ} (f g : Fin n → EReal) (hf : ∀ k, ∃ r : ℝ, f k = (r : EReal)) (hg : ∀ k, ∃ r : ℝ, g k = (r : EReal)) :
    ∃ r : ℝ, ∑ k, f k * g k = (r : EReal) := by
  choose u hu using hf
  choose v hv using hg
  refine ⟨∑ k, u k * v k, ?_⟩
  rw [coe_sum]
  exact Finset.sum_congr rfl fun k _ => by rw [hu, hv, EReal.coe_mul]

theorem logit_real (hr : Real m c) (b : Fin 4) (h : Fin 16) (p : Fin 2048) (j : ℕ) (hj : j < 2048) :
    logit (a0 m c) (a1 m c) (a2 m c) (a3 m c) b h p ⟨j, hj⟩ = (products m c b h p j : EReal) := by
  obtain ⟨h0, h1, h2, h3⟩ := hr
  obtain ⟨r, e⟩ := real_dot (fun k : Fin 128 => (a0 m c (ix4 b p h k) : EReal)) (fun k => a2 m c (ix4 b ⟨j, hj⟩ h k)) (fun _ => h0 _) (fun _ => h2 _)
  obtain ⟨s, e'⟩ := real_dot (fun k : Fin 64 => (a1 m c (ix4 b p h k) : EReal)) (fun k => a3 m c (ix3 b ⟨j, hj⟩ k)) (fun _ => h1 _) (fun _ => h3 _)
  have : logit (a0 m c) (a1 m c) (a2 m c) (a3 m c) b h p ⟨j, hj⟩ = ((r + s : ℝ) : EReal) := by
    rw [EReal.coe_add, ← e, ← e']
    rfl
  rw [products, dif_pos hj, this, EReal.toReal_coe]

/-- What the reference returns for the same arguments. -/
abbrev expected : (⟨Cert.ReferenceIdeal.S8192x2048, .bf16⟩ : BufTy).Contents (Elt Ideal) :=
  Cert.ReferenceIdeal.Read.val_main_v28 (F := Ideal) (a0 m c) (a1 m c) (a2 m c) (a3 m c) (a4 m c)

theorem expected_at (hr : Real m c) (b : Fin 4) (h : Fin 16) (p : Fin 2048) (d : Fin 128) (R : Fin 8192) (C : Fin 2048)
    (hR : R.val = 2048 * b.val + p.val) (hC : C.val = 128 * h.val + d.val) :
    (expected m c (ix2 R C) : EReal) = mean (weight p.val (products m c b h p)) (column m c b h d) := by
  rw [← Cert.Proof.Reference.result (a0 m c) (a1 m c) (a2 m c) (a3 m c) (a4 m c) b h p d (products m c b h p) (column m c b h d)
    (fun j => logit_real m c hr b h p j.val j.isLt) (fun j => by rw [column, dif_pos j.isLt])]
  congr 2 <;> exact Fin.ext (by assumption)

/-- A grid point's block, at a row and a lane of either head. -/
theorem block_out (hr : Real m c) (t : Fin cfg0.N) (r : Fin 512) (d : Fin 128) :
    (outsAt0 m c t (ix2 r ⟨d.val, by omega⟩) : EReal)
      = expected m c (ix2 ⟨512 * (4 * (t.val / 32) + t.val % 4) + r.val, by have := lt_grid t; omega⟩ ⟨256 * (t.val / 4 % 8) + d.val, by omega⟩)
    ∧ (outsAt0 m c t (ix2 r ⟨128 + d.val, by omega⟩) : EReal)
      = expected m c (ix2 ⟨512 * (4 * (t.val / 32) + t.val % 4) + r.val, by have := lt_grid t; omega⟩ ⟨256 * (t.val / 4 % 8) + (128 + d.val), by omega⟩) := by
  have ht := lt_grid t
  let b : Fin 4 := ⟨t.val / 32, by omega⟩
  let p : Fin 2048 := ⟨512 * (t.val % 4) + r.val, by omega⟩
  let h0 : Fin 16 := ⟨2 * (t.val / 4 % 8), by omega⟩
  let h1 : Fin 16 := ⟨2 * (t.val / 4 % 8) + 1, by omega⟩
  have key := out_row c (grid0.coords t) (ms0_0 t) (hs0_0 t) (ms0_1 t) (hs0_1 t) (ms0_2 t) (hs0_2 t) (ms0_3 t) (hs0_3 t)
    (iblk m c 0 t) (iblk m c 1 t) (iblk m c 2 t) r d (products m c b h0 p) (products m c b h1 p) (column m c b h0 d) (column m c b h1 d)
    (fun j hj => by
      rw [← logit_real m c hr b h0 p j hj]
      refine Eq.trans ?_ (lane_sum _ _ _ _)
      refine Finset.sum_congr rfl fun k _ => ?_
      rw [block0, block1, queries_at m c b p h0 k _ _ (by simp only [b, p]; omega) (by simp only [h0]; omega),
        keys_at m c b ⟨j, hj⟩ h0 k _ _ (by simp only [b]) (by simp only [h0]; omega)])
    (fun j hj => by
      rw [← logit_real m c hr b h1 p j hj]
      refine Eq.trans ?_ (lane_sum _ _ _ _)
      refine Finset.sum_congr rfl fun k _ => ?_
      rw [block0, block1, queries_at m c b p h1 k _ _ (by simp only [b, p]; omega) (by simp only [h1]; omega),
        keys_at m c b ⟨j, hj⟩ h1 k _ _ (by simp only [b]) (by simp only [h1]; omega)])
    (fun j hj => by
      rw [column, dif_pos hj, block2, values_at m c b ⟨j, hj⟩ h0 d _ _ (by simp only [b]) (by simp only [h0]; omega)])
    (fun j hj => by
      rw [column, dif_pos hj, block2, values_at m c b ⟨j, hj⟩ h1 d _ _ (by simp only [b]) (by simp only [h1]; omega)])
  rw [coord2 t] at key
  refine ⟨key.1.trans (expected_at m c hr b h0 p d _ _ ?_ ?_).symm, key.2.trans (expected_at m c hr b h1 p d _ _ ?_ ?_).symm⟩
  all_goals simp only [b, p, h0, h1]; omega

theorem block_at (hr : Real m c) (t : Fin cfg0.N) (r : Fin 512) (d : Fin 256) :
    (outsAt0 m c t (ix2 r d) : EReal)
      = expected m c (ix2 ⟨512 * (4 * (t.val / 32) + t.val % 4) + r.val, by have := lt_grid t; omega⟩ ⟨256 * (t.val / 4 % 8) + d.val, by omega⟩) := by
  by_cases hd : d.val < 128
  · exact (block_out m c hr t r ⟨d.val, hd⟩).1
  · have e : d = ⟨128 + (d.val - 128), by omega⟩ := Fin.ext (by show d.val = 128 + (d.val - 128); omega)
    rw [e]
    exact (block_out m c hr t r ⟨d.val - 128, by omega⟩).2

theorem array (hr : Real m c) : (dats m 0 c).arrAt 3 cfg0.N = expected m c := by
  refine (dats m 0 c).arrAt_eq_of_covers 3 _ (by decide +kernel) fun t hf y => ?_
  blk_simp
  rw [after0_3]
  have hb := block_at m c hr t (y 0) (y 1)
  refine Eq.trans ?_ (hb.trans ?_)
  · congr 1
    funext a
    fin_cases a <;> rfl
  · blk_ext [idx3 t]

end Cert.Proof.Array

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Pre_finite_prep
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.SampleIn
public import proofs.«01_k».proof.Proof.Gen.SampleIn.Skeleton
public import proofs.«01_k».proof.Proof.Gen.SampleIn.Launch
public import proofs.«01_k».proof.Proof.Gen.SampleIn.Points
public import proofs.«01_k».proof.Proof.Gen.SampleIn.Frame
public import proofs.«01_k».proof.Proof.Gen.SampleInIdeal
public import proofs.«01_k».proof.Proof.Gen.SampleInIdeal.Skeleton
public import proofs.«01_k».proof.Proof.Gen.SampleInIdeal.Launch
public import proofs.«01_k».proof.Proof.Gen.SampleInIdeal.Points
public import proofs.«01_k».proof.Proof.Gen.SampleInIdeal.Frame
public import proofs.«01_k».proof.Proof.Gen.SampleInRefIdeal
public import proofs.«01_k».proof.Proof.Gen.SampleInRefIdeal.Run
public import proofs.«01_k».proof.Proof.Gen.SampleInRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleRefIdeal.Run
public import proofs.«01_k».proof.Proof.Gen.SampleRefIdeal.Read
public import proofs.«01_k».proof.Proof.Gen.Pre_finite_sample
public import proofs.«01_k».proof.Proof.InProj
public import proofs.«01_k».proof.Proof.PrepClaim
public import proofs.«01_k».proof.Proof.OutRunBits
public import proofs.«01_k».proof.Proof.OutValue
public import proofs.«01_k».proof.Proof.CombineRunBits
public import proofs.«01_k».proof.Proof.CombineValue
public import proofs.«01_k».proof.Proof.SampleClaim
public import proofs.«01_k».proof.Proof.SampleIn
public import proofs.«01_k».proof.Proof.Array
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's constants with a meaning stand for their values. -/
theorem preserved : Cert.preserves_Kernel_KernelIdeal :=
  ⟨IdealRules.named_const.statement Cert.KernelIdeal.κ "mask" .f32 0xF149F2CA#32 _ rfl,
   IdealRules.named_const.statement Cert.KernelIdeal.κ "scale_log2e" .f32 0x3DD53B95#32 _ rfl⟩

theorem frame_reference : Cert.quiescent_ReferenceIdeal := by
  intro m g _
  exact (θ_run _ _ _).mono (fun r h => ⟨fun c => (h c).2, sem_eq_zero_of_no_sems (by decide) _⟩) (Cert.ReferenceIdeal.Value.run m g)

theorem frame_projection_reference : Cert.quiescent_InProjRefIdeal := by
  intro m g _
  exact (θ_run _ _ _).mono (fun r h => ⟨fun c => (h c).2, sem_eq_zero_of_no_sems (by decide) _⟩) (Cert.InProjRefIdeal.Value.run m g)

theorem frame_preparation_reference : Cert.quiescent_PrepRefIdeal := by
  intro m g _
  exact (θ_run _ _ _).mono (fun r h => ⟨fun c => (h c).2.2.2.2.2.2, sem_eq_zero_of_no_sems (by decide) _⟩) (Cert.PrepRefIdeal.Value.run m g)

theorem frame_output_reference : Cert.quiescent_OutProjRefIdeal := by
  intro m g _
  exact (θ_run _ _ _).mono (fun r h => ⟨fun c => (h c).2, sem_eq_zero_of_no_sems (by decide) _⟩) (Cert.OutProjRefIdeal.Value.run m g)

theorem frame_combination_reference : Cert.quiescent_CombineRefIdeal := by
  intro m g _
  exact (θ_run _ _ _).mono (fun r h => ⟨fun c => (h c).2.2, sem_eq_zero_of_no_sems (by decide) _⟩) (Cert.CombineRefIdeal.Value.run m g)

/-- The precondition, read at the kernel's arguments. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Proof.Array.Real m c :=
  Cert.Proof.Finite.args_real _ _ _ _ _ (congrFun (h c) ix0)

/-- Over the extended reals the kernel and the reference return the same array. -/
theorem attention : Cert.algebraic_KernelIdeal_ReferenceIdeal_pre_finite := by
  intro m g m' g' hpre hagree
  refine ⟨fun c => Cert.Proof.Array.expected m c, ?_, ?_⟩
  · refine (θ_run _ _ _).mono (fun r h c => ?_) (Cert.KernelIdeal.Value.run_blocks m g)
    exact ⟨(h c).1.trans (Cert.Proof.Array.array m c (real_args m hpre c)), (h c).2⟩
  · refine (θ_run _ _ _).mono (fun r h c => ?_) (Cert.ReferenceIdeal.Value.run m' g')
    obtain ⟨e0, e1, e2, e3, e4⟩ := hagree c
    refine ⟨(h c).1.trans ?_, (h c).2⟩
    refine (Cert.ReferenceIdeal.Read.val_main_v28_eq m' c).trans ?_
    rw [e0, e1, e2, e3, e4]

theorem frame_sampling_reference : Cert.quiescent_SampleRefIdeal := by
  intro m g _
  exact (θ_run _ _ _).mono (fun r h => ⟨fun c => (h c).2.2.2.2, sem_eq_zero_of_no_sems (by decide) _⟩) (Cert.SampleRefIdeal.Value.run m g)

theorem frame_sample_projection_reference : Cert.quiescent_SampleInRefIdeal := by
  intro m g _
  exact (θ_run _ _ _).mono (fun r h => ⟨fun c => (h c).2, sem_eq_zero_of_no_sems (by decide) _⟩) (Cert.SampleInRefIdeal.Value.run m g)

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts, Cert.Prep.Gen.facts, Cert.PrepIdeal.Gen.facts, Cert.PrepRefIdeal.Gen.facts,
  Cert.OutProj.Gen.facts, Cert.OutProjIdeal.Gen.facts, Cert.OutProjRefIdeal.Gen.facts,
  Cert.Combine.Gen.facts, Cert.CombineIdeal.Gen.facts, Cert.CombineRefIdeal.Gen.facts,
  Cert.Sample.Gen.facts, Cert.SampleIdeal.Gen.facts, Cert.SampleRefIdeal.Gen.facts,
  Cert.SampleIn.Gen.facts, Cert.SampleInIdeal.Gen.facts, Cert.SampleInRefIdeal.Gen.facts,
  Cert.Pre_finite.Gen.facts, Cert.Pre_finite_prep.Gen.facts, Cert.Pre_finite_sample.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.InProj.Gen.frame m g,
  fun m g _ => Cert.InProjIdeal.Gen.frame m g,
  frame_projection_reference,
  fun m g _ => Cert.Prep.Gen.frame m g,
  fun m g _ => Cert.PrepIdeal.Gen.frame m g,
  fun m g _ => Cert.PrepIdeal.Gen.frame m g,
  frame_preparation_reference,
  fun m g _ => frame_preparation_reference m g trivial,
  fun m g _ => Cert.OutProj.Hand.frame m g,
  fun m g _ => Cert.OutProjIdeal.Hand.frame m g,
  frame_output_reference,
  fun m g _ => Cert.Combine.Hand.frame m g,
  fun m g _ => Cert.CombineIdeal.Hand.frame m g,
  frame_combination_reference,
  fun m g _ => Cert.Sample.Gen.frame m g,
  fun m g _ => Cert.SampleIdeal.Gen.frame m g,
  fun m g _ => Cert.SampleIdeal.Gen.frame m g,
  frame_sampling_reference,
  fun m g _ => frame_sampling_reference m g trivial,
  fun m g _ => Cert.SampleIn.Gen.frame m g,
  fun m g _ => Cert.SampleInIdeal.Gen.frame m g,
  frame_sample_projection_reference,
  preserved,
  attention,
  trivial,
  Cert.Proof.InProj.projection,
  trivial,
  Cert.Proof.Prep.preparation,
  trivial,
  Cert.Proof.OutProj.projection,
  trivial,
  Cert.Proof.Combine.combination,
  trivial,
  Cert.Proof.Sample.sampling,
  trivial,
  Cert.Proof.SampleIn.projection⟩

end Cert.Proof

end
